-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![2, 1024, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 768]⟩ ⟨2, ![1024, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 768]⟩ ⟨3, ![2, 1024, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x256 : Shape := ⟨2, ![768, 256]⟩
abbrev S256x768 : Shape := ⟨2, ![256, 768]⟩
abbrev S_ : Shape := ⟨0, ![]⟩

class Facts : Prop where
  bitsLt_bf16_f32 : FTy.bits .bf16 < FTy.bits .f32
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S2x256x768 .bf16) (main_arg1 : FVec F S768x256 .bf16) (main_arg2 : FVec F S768x256 .bf16) (main_arg3 : FVec F S768x256 .bf16) (main_arg4 : FVec F S256x768 .bf16) : IVec S_ 1 :=
  let main_v0 : FVec F S2x256x768 .f32 := (extf .f32 · bitsLt_bf16_f32) main_arg0
  let main_v1 : FVec F S2x256x768 .f32 := Host.absf main_v0
  let main_cst : FVec F S_ .f32 := constant S_ .f32 0x7F800000#32
  let main_v2 : FVec F S2x256x768 .f32 := broadcastInDim S2x256x768 ![] bcast_S_S2x256x768 main_cst
  let main_v3 : IVec S2x256x768 1 := cmpf .olt main_v1 main_v2
  let main_c : IVec S_ 1 := constantI S_ 1 1#1
  let main_v4 : IVec S_ 1 := (fun x v => Host.reduce IntOp.andi x v reducesTo_S2x256x768_S_d0_1_2 h_S_) main_v3 main_c
  let main_v5 : FVec F S768x256 .f32 := (extf .f32 · bitsLt_bf16_f32) main_arg1
  let main_v6 : FVec F S768x256 .f32 := Host.absf main_v5
  let main_cst_0 : FVec F S_ .f32 := constant S_ .f32 0x7F800000#32
  let main_v7 : FVec F S768x256 .f32 := broadcastInDim S768x256 ![] bcast_S_S768x256 main_cst_0
  let main_v8 : IVec S768x256 1 := cmpf .olt main_v6 main_v7
  let main_c_1 : IVec S_ 1 := constantI S_ 1 1#1
  let main_v9 : IVec S_ 1 := (fun x v => Host.reduce IntOp.andi x v reducesTo_S768x256_S_d0_1 h_S_) main_v8 main_c_1
  let main_v10 : IVec S_ 1 := andi main_v4 main_v9
  let main_v11 : FVec F S768x256 .f32 := (extf .f32 · bitsLt_bf16_f32) main_arg2
  let main_v12 : FVec F S768x256 .f32 := Host.absf main_v11
  let main_cst_2 : FVec F S_ .f32 := constant S_ .f32 0x7F800000#32
  let main_v13 : FVec F S768x256 .f32 := broadcastInDim S768x256 ![] bcast_S_S768x256 main_cst_2
  let main_v14 : IVec S768x256 1 := cmpf .olt main_v12 main_v13
  let main_c_3 : IVec S_ 1 := constantI S_ 1 1#1
  let main_v15 : IVec S_ 1 := (fun x v => Host.reduce IntOp.andi x v reducesTo_S768x256_S_d0_1 h_S_) main_v14 main_c_3
  let main_v16 : IVec S_ 1 := andi main_v10 main_v15
  main_v16
-- ==== Pre_finite_ReferenceIdeal.lean ====
abbrev S2x1024x768 : Shape := ⟨3, ![2, 1024, 768]⟩
abbrev S768x1024 : Shape := ⟨2, ![768, 1024]⟩
abbrev S1024x768 : Shape := ⟨2, ![1024, 768]⟩
abbrev S_ : Shape := ⟨0, ![]⟩

class Facts : Prop where
  bitsLt_bf16_f32 : FTy.bits .bf16 < FTy.bits .f32
  bcast_S_S2x1024x768 : S_.BroadcastsInDim S2x1024x768 (![] : Fin 0 → Fin S2x1024x768.rank)
  reducesTo_S2x1024x768_S_d0_1_2 : S2x1024x768.ReducesTo [0, 1, 2] S_
  h_S_ : 0 < S_.numel
  bcast_S_S768x1024 : S_.BroadcastsInDim S768x1024 (![] : Fin 0 → Fin S768x1024.rank)
  reducesTo_S768x1024_S_d0_1 : S768x1024.ReducesTo [0, 1] S_

variable [Facts]

def fn {F : FTy → Type} [FloatOps F] (main_arg0 : FVec F S2x1024x768 .bf16) (main_arg1 : FVec F S768x1024 .bf16) (main_arg2 : FVec F S768x1024 .bf16) (main_arg3 : FVec F S768x1024 .bf16) (main_arg4 : FVec F S1024x768 .bf16) : IVec S_ 1 :=
  let main_v0 : FVec F S2x1024x768 .f32 := (extf .f32 · bitsLt_bf16_f32) main_arg0
  let main_v1 : FVec F S2x1024x768 .f32 := Host.absf main_v0
  let main_cst : FVec F S_ .f32 := constant S_ .f32 0x7F800000#32
  let main_v2 : FVec F S2x1024x768 .f32 := broadcastInDim S2x1024x768 ![] bcast_S_S2x1024x768 main_cst
  let main_v3 : IVec S2x1024x768 1 := cmpf .olt main_v1 main_v2
  let main_c : IVec S_ 1 := constantI S_ 1 1#1
  let main_v4 : IVec S_ 1 := (fun x v => Host.reduce IntOp.andi x v reducesTo_S2x1024x768_S_d0_1_2 h_S_) main_v3 main_c
  let main_v5 : FVec F S768x1024 .f32 := (extf .f32 · bitsLt_bf16_f32) main_arg1
  let main_v6 : FVec F S768x1024 .f32 := Host.absf main_v5
  let main_cst_0 : FVec F S_ .f32 := constant S_ .f32 0x7F800000#32
  let main_v7 : FVec F S768x1024 .f32 := broadcastInDim S768x1024 ![] bcast_S_S768x1024 main_cst_0
  let main_v8 : IVec S768x1024 1 := cmpf .olt main_v6 main_v7
  let main_c_1 : IVec S_ 1 := constantI S_ 1 1#1
  let main_v9 : IVec S_ 1 := (fun x v => Host.reduce IntOp.andi x v reducesTo_S768x1024_S_d0_1 h_S_) main_v8 main_c_1
  let main_v10 : IVec S_ 1 := andi main_v4 main_v9
  let main_v11 : FVec F S768x1024 .f32 := (extf .f32 · bitsLt_bf16_f32) main_arg2
  let main_v12 : FVec F S768x1024 .f32 := Host.absf main_v11
  let main_cst_2 : FVec F S_ .f32 := constant S_ .f32 0x7F800000#32
  let main_v13 : FVec F S768x1024 .f32 := broadcastInDim S768x1024 ![] bcast_S_S768x1024 main_cst_2
  let main_v14 : IVec S768x1024 1 := cmpf .olt main_v12 main_v13
  let main_c_3 : IVec S_ 1 := constantI S_ 1 1#1
  let main_v15 : IVec S_ 1 := (fun x v => Host.reduce IntOp.andi x v reducesTo_S768x1024_S_d0_1 h_S_) main_v14 main_c_3
  let main_v16 : IVec S_ 1 := andi main_v10 main_v15
  main_v16
-- ==== Kernel.lean ====
abbrev S2x256x768 : Shape := ⟨3, ![2, 256, 768]⟩
abbrev S768x256 : Shape := ⟨2, ![768, 256]⟩
abbrev S256x768 : Shape := ⟨2, ![256, 768]⟩
abbrev S3x2x256x768 : Shape := ⟨4, ![3, 2, 256, 768]⟩
abbrev S2x1024x256 : Shape := ⟨3, ![2, 1024, 256]⟩
abbrev S512x256 : Shape := ⟨2, ![512, 256]⟩
abbrev S3 : Shape := ⟨1, ![3]⟩
abbrev S_ : Shape := ⟨0, ![]⟩
abbrev S1 : Shape := ⟨1, ![1]⟩
abbrev S1x2x256x768 : Shape := ⟨4, ![1, 2, 256, 768]⟩
abbrev S256x256 : Shape := ⟨2, ![256, 256]⟩
abbrev S512x768 : Shape := ⟨2, ![512, 768]⟩
abbrev S512x255 : Shape := ⟨2, ![512, 255]⟩
abbrev S512x1 : Shape := ⟨2, ![512, 1]⟩
abbrev S1x256x256 : Shape := ⟨3, ![1, 256, 256]⟩
abbrev S1x256x64 : Shape := ⟨3, ![1, 256, 64]⟩
abbrev S256x64 : Shape := ⟨2, ![256, 64]⟩
abbrev S1x1024x64 : Shape := ⟨3, ![1, 1024, 64]⟩
abbrev S1024x64 : Shape := ⟨2, ![1024, 64]⟩
abbrev S256x1024 : Shape := ⟨2, ![256, 1024]⟩
abbrev S256 : Shape := ⟨1, ![256]⟩
abbrev S256x1 : Shape := ⟨2, ![256, 1]⟩
abbrev S1x1x256x768 : Shape := ⟨4, ![1, 1, 256, 768]⟩
abbrev S1x256x768 : Shape := ⟨3, ![1, 256, 768]⟩

abbrev nBuf : Space → Nat
  | .hbm => 6
  | .vmem => 14
  | .smem => 0
  | _ => 0

abbrev bufTy : (tb : Table) → Fin (tcTables nBuf tb) → BufTy
  | .hbm, ⟨0, _⟩ => ⟨S2x256x768, .bf16⟩
  | .hbm, ⟨1, _⟩ => ⟨S768x256, .bf16⟩
  | .hbm, ⟨2, _⟩ => ⟨S768x256, .bf16⟩
  | .hbm, ⟨3, _⟩ => ⟨S768x256, .bf16⟩
  | .hbm, ⟨4, _⟩ => ⟨S256x768, .bf16⟩
  | .hbm, ⟨5, _⟩ => ⟨S2x256x768, .f32⟩
  | .local _ .vmem, ⟨0, _⟩ => ⟨S2x256x768, .bf16⟩
  | .local _ .vmem, ⟨1, _⟩ => ⟨S768x256, .bf16⟩
  | .local _ .vmem, ⟨2, _⟩ => ⟨S768x256, .bf16⟩
  | .local _ .vmem, ⟨3, _⟩ => ⟨S768x256, .bf16⟩
  | .local _ .vmem, ⟨4, _⟩ => ⟨S256x768, .bf16⟩
  | .local _ .vmem, ⟨5, _⟩ => ⟨S2x256x768, .f32⟩
  | .local _ .vmem, ⟨6, _⟩ => ⟨S3x2x256x768, .bf16⟩
  | .local _ .vmem, ⟨7, _⟩ => ⟨S2x1024x256, .bf16⟩
  | .local _ .vmem, ⟨8, _⟩ => ⟨S2x1024x256, .bf16⟩
  | .local _ .vmem, ⟨9, _⟩ => ⟨S2x1024x256, .bf16⟩
  | .local _ .vmem, ⟨10, _⟩ => ⟨S512x256, .bf16⟩
  | .local _ .vmem, ⟨11, _⟩ => ⟨S2x256x768, .f32⟩
  | .local _ .vmem, ⟨12, _⟩ => ⟨S3x2x256x768, .bf16⟩
  | .local _ .vmem, ⟨13, _⟩ => ⟨S3x2x256x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_18 : BitVec 32 := 1#32
  let v18 : BitVec 32 := Scalar.muli v17 c1_i32_18
  let v19 : BitVec 32 := Scalar.addi c0_i32_19 v18
  v19.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_23 : BitVec 32 := 2#32
  let v26 : BitVec 32 := Scalar.addi v2 c2_i32_23
  let c4_i32_24 : BitVec 32 := 4#32
  let v27 : BitVec 32 := Scalar.remsi v26 c4_i32_24
  let c1_i32_28 : BitVec 32 := 1#32
  let v28 : BitVec 32 := Scalar.muli v27 c1_i32_28
  let v29 : BitVec 32 := Scalar.addi c0_i32_29 v28
  v29.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_33 : BitVec 32 := 3#32
  let v36 : BitVec 32 := Scalar.addi v2 c3_i32_33
  let c4_i32_34 : BitVec 32 := 4#32
  let v37 : BitVec 32 := Scalar.remsi v36 c4_i32_34
  let c1_i32_38 : BitVec 32 := 1#32
  let v38 : BitVec 32 := Scalar.muli v37 c1_i32_38
  let v39 : BitVec 32 := Scalar.addi c0_i32_39 v38
  v39.toNat
def k0_off1 (d0 : Dev nD) : Fin 3 → Nat :=
  let c0_78 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_77 : BitVec 32 := 256#32
  let v163 : BitVec 32 := Scalar.muli v2 c256_i32_77
  let v164 : Index := Scalar.indexCast v163
  let c0_79 : Index := 0#32
  ![0, v164.toNat, 0]
def k0_off2 (d0 : Dev nD) : Fin 3 → Nat :=
  let c1 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_86 : BitVec 32 := 256#32
  let v184 : BitVec 32 := Scalar.muli v2 c256_i32_86
  let v185 : Index := Scalar.indexCast v184
  let c0_87 : Index := 0#32
  ![1, v185.toNat, 0]
def k0_off3 (d0 : Dev nD) (c1_i32_103 : BitVec 32) : Fin 3 → Nat :=
  let c0_122 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_102 : BitVec 32 := 4#32
  let v209 : BitVec 32 := Scalar.addi v2 c4_i32_102
  let v210 : BitVec 32 := Scalar.subi v209 c1_i32_103
  let c4_i32_104 : BitVec 32 := 4#32
  let v211 : BitVec 32 := Scalar.remsi v210 c4_i32_104
  let c256_i32_121 : BitVec 32 := 256#32
  let v262 : BitVec 32 := Scalar.muli v211 c256_i32_121
  let v263 : Index := Scalar.indexCast v262
  let c0_123 : Index := 0#32
  ![0, v263.toNat, 0]
def k0_off4 (d0 : Dev nD) (c1_i32_103 : BitVec 32) : Fin 3 → Nat :=
  let c1_131 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_102 : BitVec 32 := 4#32
  let v209 : BitVec 32 := Scalar.addi v2 c4_i32_102
  let v210 : BitVec 32 := Scalar.subi v209 c1_i32_103
  let c4_i32_104 : BitVec 32 := 4#32
  let v211 : BitVec 32 := Scalar.remsi v210 c4_i32_104
  let c256_i32_130 : BitVec 32 := 256#32
  let v283 : BitVec 32 := Scalar.muli v211 c256_i32_130
  let v284 : Index := Scalar.indexCast v283
  let c0_132 : Index := 0#32
  ![1, v284.toNat, 0]
def k0_off5 (d0 : Dev nD) (c1_i32_231 : BitVec 32) : Fin 3 → Nat :=
  let c0_234 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v500 : BitVec 32 := Scalar.addi v2 c1_i32_231
  let c4_i32_232 : BitVec 32 := 4#32
  let v501 : BitVec 32 := Scalar.remsi v500 c4_i32_232
  let c256_i32_233 : BitVec 32 := 256#32
  let v502 : BitVec 32 := Scalar.muli v501 c256_i32_233
  let v503 : Index := Scalar.indexCast v502
  let c0_235 : Index := 0#32
  ![0, v503.toNat, 0]
def k0_off6 (d0 : Dev nD) (c1_i32_231 : BitVec 32) : Fin 3 → Nat :=
  let c0_249 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v500 : BitVec 32 := Scalar.addi v2 c1_i32_231
  let c4_i32_232 : BitVec 32 := 4#32
  let v501 : BitVec 32 := Scalar.remsi v500 c4_i32_232
  let c256_i32_248 : BitVec 32 := 256#32
  let v524 : BitVec 32 := Scalar.muli v501 c256_i32_248
  let v525 : Index := Scalar.indexCast v524
  let c64 : Index := 64#32
  ![0, v525.toNat, 64]
def k0_off7 (d0 : Dev nD) (c1_i32_231 : BitVec 32) : Fin 3 → Nat :=
  let c0_263 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v500 : BitVec 32 := Scalar.addi v2 c1_i32_231
  let c4_i32_232 : BitVec 32 := 4#32
  let v501 : BitVec 32 := Scalar.remsi v500 c4_i32_232
  let c256_i32_262 : BitVec 32 := 256#32
  let v546 : BitVec 32 := Scalar.muli v501 c256_i32_262
  let v547 : Index := Scalar.indexCast v546
  let c128 : Index := 128#32
  ![0, v547.toNat, 128]
def k0_off8 (d0 : Dev nD) (c1_i32_231 : BitVec 32) : Fin 3 → Nat :=
  let c0_277 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v500 : BitVec 32 := Scalar.addi v2 c1_i32_231
  let c4_i32_232 : BitVec 32 := 4#32
  let v501 : BitVec 32 := Scalar.remsi v500 c4_i32_232
  let c256_i32_276 : BitVec 32 := 256#32
  let v568 : BitVec 32 := Scalar.muli v501 c256_i32_276
  let v569 : Index := Scalar.indexCast v568
  let c192 : Index := 192#32
  ![0, v569.toNat, 192]
def k0_off9 (d0 : Dev nD) (c1_i32_231 : BitVec 32) : Fin 3 → Nat :=
  let c1_291 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v500 : BitVec 32 := Scalar.addi v2 c1_i32_231
  let c4_i32_232 : BitVec 32 := 4#32
  let v501 : BitVec 32 := Scalar.remsi v500 c4_i32_232
  let c256_i32_290 : BitVec 32 := 256#32
  let v590 : BitVec 32 := Scalar.muli v501 c256_i32_290
  let v591 : Index := Scalar.indexCast v590
  let c0_292 : Index := 0#32
  ![1, v591.toNat, 0]
def k0_off10 (d0 : Dev nD) (c1_i32_231 : BitVec 32) : Fin 3 → Nat :=
  let c1_305 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v500 : BitVec 32 := Scalar.addi v2 c1_i32_231
  let c4_i32_232 : BitVec 32 := 4#32
  let v501 : BitVec 32 := Scalar.remsi v500 c4_i32_232
  let c256_i32_304 : BitVec 32 := 256#32
  let v612 : BitVec 32 := Scalar.muli v501 c256_i32_304
  let v613 : Index := Scalar.indexCast v612
  let c64_306 : Index := 64#32
  ![1, v613.toNat, 64]
def k0_off11 (d0 : Dev nD) (c1_i32_231 : BitVec 32) : Fin 3 → Nat :=
  let c1_320 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v500 : BitVec 32 := Scalar.addi v2 c1_i32_231
  let c4_i32_232 : BitVec 32 := 4#32
  let v501 : BitVec 32 := Scalar.remsi v500 c4_i32_232
  let c256_i32_319 : BitVec 32 := 256#32
  let v634 : BitVec 32 := Scalar.muli v501 c256_i32_319
  let v635 : Index := Scalar.indexCast v634
  let c128_321 : Index := 128#32
  ![1, v635.toNat, 128]
def k0_off12 (d0 : Dev nD) (c1_i32_231 : BitVec 32) : Fin 3 → Nat :=
  let c1_335 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v500 : BitVec 32 := Scalar.addi v2 c1_i32_231
  let c4_i32_232 : BitVec 32 := 4#32
  let v501 : BitVec 32 := Scalar.remsi v500 c4_i32_232
  let c256_i32_334 : BitVec 32 := 256#32
  let v656 : BitVec 32 := Scalar.muli v501 c256_i32_334
  let v657 : Index := Scalar.indexCast v656
  let c192_336 : Index := 192#32
  ![1, v657.toNat, 192]
def k0_dev7 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_231 : BitVec 32 := 1#32
  let v500 : BitVec 32 := Scalar.addi v2 c1_i32_231
  let c4_i32_232 : BitVec 32 := 4#32
  let v501 : BitVec 32 := Scalar.remsi v500 c4_i32_232
  let c1_i32_366 : BitVec 32 := 1#32
  let v692 : BitVec 32 := Scalar.muli v501 c1_i32_366
  let v693 : BitVec 32 := Scalar.addi c0_i32_367 v692
  v693.toNat
def k0_dev8 (d0 : Dev nD) : Nat :=
  let c0_i32_514 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_374 : BitVec 32 := 2#32
  let v702 : BitVec 32 := Scalar.addi v2 c2_i32_374
  let c4_i32_375 : BitVec 32 := 4#32
  let v703 : BitVec 32 := Scalar.remsi v702 c4_i32_375
  let c1_i32_513 : BitVec 32 := 1#32
  let v894 : BitVec 32 := Scalar.muli v703 c1_i32_513
  let v895 : BitVec 32 := Scalar.addi c0_i32_514 v894
  v895.toNat
def k0_dev9 (d0 : Dev nD) : Nat :=
  let c0_i32_661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_521 : BitVec 32 := 3#32
  let v904 : BitVec 32 := Scalar.addi v2 c3_i32_521
  let c4_i32_522 : BitVec 32 := 4#32
  let v905 : BitVec 32 := Scalar.remsi v904 c4_i32_522
  let c1_i32_660 : BitVec 32 := 1#32
  let v1096 : BitVec 32 := Scalar.muli v905 c1_i32_660
  let v1097 : BitVec 32 := Scalar.addi c0_i32_661 v1096
  v1097.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x768 : Shape := ⟨3, ![2, 1024, 768]⟩
abbrev S768x1024 : Shape := ⟨2, ![768, 1024]⟩
abbrev S1024x768 : Shape := ⟨2, ![1024, 768]⟩
abbrev S32 : Shape := ⟨1, ![32]⟩
abbrev S_ : Shape := ⟨0, ![]⟩
abbrev S1024 : Shape := ⟨1, ![1024]⟩
abbrev S1024x1 : Shape := ⟨2, ![1024, 1]⟩
abbrev S1x32 : Shape := ⟨2, ![1, 32]⟩
abbrev S1024x32 : Shape := ⟨2, ![1024, 32]⟩
abbrev S1024x32x2 : Shape := ⟨3, ![1024, 32, 2]⟩
abbrev S1024x64 : Shape := ⟨2, ![1024, 64]⟩
abbrev S2x1024x1024 : Shape := ⟨3, ![2, 1024, 1024]⟩
abbrev S2x1024x16x64 : Shape := ⟨4, ![2, 1024, 16, 64]⟩
abbrev S2x1024x16x32x2 : Shape := ⟨5, ![2, 1024, 16, 32, 2]⟩
abbrev S2x1024x16x32x1 : Shape := ⟨5, ![2, 1024, 16, 32, 1]⟩
abbrev S2x1024x16x32 : Shape := ⟨4, ![2, 1024, 16, 32]⟩
abbrev S1x1024x1x64 : Shape := ⟨4, ![1, 1024, 1, 64]⟩
abbrev S2x16x1024x1024 : Shape := ⟨4, ![2, 16, 1024, 1024]⟩
abbrev S2x16x1024 : Shape := ⟨3, ![2, 16, 1024]⟩
abbrev S2x16x1024x1 : Shape := ⟨4, ![2, 16, 1024, 1]⟩
abbrev S2x16x64x1024 : Shape := ⟨4, ![2, 16, 64, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x1024x768, .bf16⟩
  | .hbm, ⟨1, _⟩ => ⟨S768x1024, .bf16⟩
  | .hbm, ⟨2, _⟩ => ⟨S768x1024, .bf16⟩
  | .hbm, ⟨3, _⟩ => ⟨S768x1024, .bf16⟩
  | .hbm, ⟨4, _⟩ => ⟨S1024x768, .bf16⟩
  | .hbm, ⟨5, _⟩ => ⟨S2x1024x768, .f32⟩
  | .hbm, ⟨6, _⟩ => ⟨S768x1024, .f32⟩
  | .hbm, ⟨7, _⟩ => ⟨S768x1024, .f32⟩
  | .hbm, ⟨8, _⟩ => ⟨S768x1024, .f32⟩
  | .hbm, ⟨9, _⟩ => ⟨S1024x768, .f32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S1024, .i32⟩
  | .hbm, ⟨28, _⟩ => ⟨S1024x1, .i32⟩
  | .hbm, ⟨29, _⟩ => ⟨S1x32, .f32⟩
  | .hbm, ⟨30, _⟩ => ⟨S1024x1, .f32⟩
  | .hbm, ⟨31, _⟩ => ⟨S1024x32, .f32⟩
  | .hbm, ⟨32, _⟩ => ⟨S1024x32, .f32⟩
  | .hbm, ⟨33, _⟩ => ⟨S1024x32, .f32⟩
  | .hbm, ⟨34, _⟩ => ⟨S1024x32, .f32⟩
  | .hbm, ⟨35, _⟩ => ⟨S1024x32x2, .f32⟩
  | .hbm, ⟨36, _⟩ => ⟨S1024x64, .f32⟩
  | .hbm, ⟨37, _⟩ => ⟨S1024x32, .f32⟩
  | .hbm, ⟨38, _⟩ => ⟨S1024x32x2, .f32⟩
  | .hbm, ⟨39, _⟩ => ⟨S1024x64, .f32⟩
  | .hbm, ⟨40, _⟩ => ⟨S2x1024x1024, .f32⟩
  | .hbm, ⟨41, _⟩ => ⟨S2x1024x16x64, .f32⟩
  | .hbm, ⟨42, _⟩ => ⟨S2x1024x16x32x2, .f32⟩
  | .hbm, ⟨43, _⟩ => ⟨S2x1024x16x32x1, .f32⟩
  | .hbm, ⟨44, _⟩ => ⟨S2x1024x16x32, .f32⟩
  | .hbm, ⟨45, _⟩ => ⟨S2x1024x16x32, .f32⟩
  | .hbm, ⟨46, _⟩ => ⟨S2x1024x16x32x1, .f32⟩
  | .hbm, ⟨47, _⟩ => ⟨S2x1024x16x32, .f32⟩
  | .hbm, ⟨48, _⟩ => ⟨S2x1024x16x32x1, .f32⟩
  | .hbm, ⟨49, _⟩ => ⟨S2x1024x16x32x1, .f32⟩
  | .hbm, ⟨50, _⟩ => ⟨S2x1024x16x32x2, .f32⟩
  | .hbm, ⟨51, _⟩ => ⟨S2x1024x16x64, .f32⟩
  | .hbm, ⟨52, _⟩ => ⟨S1x1024x1x64, .f32⟩
  | .hbm, ⟨53, _⟩ => ⟨S2x1024x16x64, .f32⟩
  | .hbm, ⟨54, _⟩ => ⟨S2x1024x16x64, .f32⟩
  | .hbm, ⟨55, _⟩ => ⟨S1x1024x1x64, .f32⟩
  | .hbm, ⟨56, _⟩ => ⟨S2x1024x16x64, .f32⟩
  | .hbm, ⟨57, _⟩ => ⟨S2x1024x16x64, .f32⟩
  | .hbm, ⟨58, _⟩ => ⟨S2x1024x16x64, .f32⟩
  | .hbm, ⟨59, _⟩ => ⟨S2x1024x1024, .f32⟩
  | .hbm, ⟨60, _⟩ => ⟨S2x1024x16x64, .f32⟩
  | .hbm, ⟨61, _⟩ => ⟨S2x1024x16x32x2, .f32⟩
  | .hbm, ⟨62, _⟩ => ⟨S2x1024x16x32x1, .f32⟩
  | .hbm, ⟨63, _⟩ => ⟨S2x1024x16x32, .f32⟩
  | .hbm, ⟨64, _⟩ => ⟨S2x1024x16x32, .f32⟩
  | .hbm, ⟨65, _⟩ => ⟨S2x1024x16x32x1, .f32⟩
  | .hbm, ⟨66, _⟩ => ⟨S2x1024x16x32, .f32⟩
  | .hbm, ⟨67, _⟩ => ⟨S2x1024x16x32x1, .f32⟩
  | .hbm, ⟨68, _⟩ => ⟨S2x1024x16x32x1, .f32⟩
  | .hbm, ⟨69, _⟩ => ⟨S2x1024x16x32x2, .f32⟩
  | .hbm, ⟨70, _⟩ => ⟨S2x1024x16x64, .f32⟩
  | .hbm, ⟨71, _⟩ => ⟨S1x1024x1x64, .f32⟩
  | .hbm, ⟨72, _⟩ => ⟨S2x1024x16x64, .f32⟩
  | .hbm, ⟨73, _⟩ => ⟨S2x1024x16x64, .f32⟩
  | .hbm, ⟨74, _⟩ => ⟨S1x1024x1x64, .f32⟩
  | .hbm, ⟨75, _⟩ => ⟨S2x1024x16x64, .f32⟩
  | .hbm, ⟨76, _⟩ => ⟨S2x1024x16x64, .f32⟩
  | .hbm, ⟨77, _⟩ => ⟨S2x1024x16x64, .f32⟩
  | .hbm, ⟨78, _⟩ => ⟨S2x1024x1024, .f32⟩
  | .hbm, ⟨79, _⟩ => ⟨S2x1024x16x64, .f32⟩
  | .hbm, ⟨80, _⟩ => ⟨S2x16x1024x1024, .f32⟩
  | .hbm, ⟨81, _⟩ => ⟨S_, .f32⟩
  | .hbm, ⟨82, _⟩ => ⟨S2x16x1024x1024, .f32⟩
  | .hbm, ⟨83, _⟩ => ⟨S2x16x1024x1024, .f32⟩
  | .hbm, ⟨84, _⟩ => ⟨S_, .f32⟩
  | .hbm, ⟨85, _⟩ => ⟨S2x16x1024, .f32⟩
  | .hbm, ⟨86, _⟩ => ⟨S2x16x1024x1, .f32⟩
  | .hbm, ⟨87, _⟩ => ⟨S2x16x1024x1024, .f32⟩
  | .hbm, ⟨88, _⟩ => ⟨S2x16x1024x1024, .f32⟩
  | .hbm, ⟨89, _⟩ => ⟨S2x16x1024x1024, .f32⟩
  | .hbm, ⟨90, _⟩ => ⟨S_, .f32⟩
  | .hbm, ⟨91, _⟩ => ⟨S2x16x1024, .f32⟩
  | .hbm, ⟨92, _⟩ => ⟨S2x16x1024x1, .f32⟩
  | .hbm, ⟨93, _⟩ => ⟨S2x16x1024x1024, .f32⟩
  | .hbm, ⟨94, _⟩ => ⟨S2x16x1024x1024, .f32⟩
  | .hbm, ⟨95, _⟩ => ⟨S2x16x64x1024, .f32⟩
  | .hbm, ⟨96, _⟩ => ⟨S2x1024x16x64, .f32⟩
  | .hbm, ⟨97, _⟩ => ⟨S2x1024x1024, .f32⟩
  | .hbm, ⟨98, _⟩ => ⟨S2x1024x768, .f32⟩
  | _, _ => ⟨S2x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩

abbrev nD : Nat := 1
abbrev τ : Topo := Topo.v7x

variable {F : FTy → Type} [FloatOps F]
-- ==== Proof.Protocol.lean ====
/-
# The exchange between the four devices

Device `c` has thirteen semaphore cells that other devices or its own transfers raise: the entry
barrier's, and for each of the two exchanges (0: the blocks of `x` all-gathered, 1: the partial
products scattered) a send cell and a receive cell per slot. Every cell lives through one round.

* Device `c`'s signal number `i` goes to device `c + 1 + i` and hands it slot `i` of `c`'s two
  landing buffers: that device is the one whose transfers land there.
* Transfer `i` of either exchange goes to device `c + 1 + i` and lands in its slot `2 - i`.

The contents the transfers carry are a parameter `dat` : exchange, sender, transfer number.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Rope

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline's rounds and the exchange's -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Who talks to whom -/

set_option backward.proofsInPublic true in
/-- The device `i + 1` places after `c`. -/
def fw (c : Dev nD) (i : Fin 3) : Dev nD := ⟨(c.val + (1 + i.val)) % 4, Nat.mod_lt _ (by decide)⟩
/-- The slot, seen from the other end. -/
def rv (i : Fin 3) : Fin 3 := Fin.rev i

theorem fw_fw (c : Dev nD) (i : Fin 3) : fw (fw c i) (rv i) = c := by revert c i; decide
theorem rv_rv (i : Fin 3) : rv (rv i) = i := by revert i; decide

theorem dev1_eq (c : Dev nD) : (⟨k0_dev1 c, k0_dev1_lt c⟩ : Dev nD) = fw c 0 := Fin.ext (k0_dev1_eq c)
theorem dev2_eq (c : Dev nD) : (⟨k0_dev2 c, k0_dev2_lt c⟩ : Dev nD) = fw c 1 := Fin.ext (k0_dev2_eq c)
theorem dev3_eq (c : Dev nD) : (⟨k0_dev3 c, k0_dev3_lt c⟩ : Dev nD) = fw c 2 := Fin.ext (k0_dev3_eq c)
theorem dev4_eq (c : Dev nD) : (⟨k0_dev4 c, k0_dev4_lt c⟩ : Dev nD) = fw c 0 := Fin.ext (k0_dev4_eq c)
theorem dev5_eq (c : Dev nD) : (⟨k0_dev5 c, k0_dev5_lt c⟩ : Dev nD) = fw c 1 := Fin.ext (k0_dev5_eq c)
theorem dev6_eq (c : Dev nD) : (⟨k0_dev6 c, k0_dev6_lt c⟩ : Dev nD) = fw c 2 := Fin.ext (k0_dev6_eq c)
theorem dev7_eq (c : Dev nD) : (⟨k0_dev7 c, k0_dev7_lt c⟩ : Dev nD) = fw c 0 := Fin.ext (k0_dev7_eq c)
theorem dev8_eq (c : Dev nD) : (⟨k0_dev8 c, k0_dev8_lt c⟩ : Dev nD) = fw c 1 := Fin.ext (k0_dev8_eq c)
theorem dev9_eq (c : Dev nD) : (⟨k0_dev9 c, k0_dev9_lt c⟩ : Dev nD) = fw c 2 := Fin.ext (k0_dev9_eq c)

/-! ## Memrefs and cells -/

abbrev xM : Memref sig .tc .vmem S2x256x768 .bf16 := Memref.whole cc0_stg0_0
abbrev agM : Memref sig .tc .vmem S3x2x256x768 .bf16 := Memref.whole cc0_scratch0
abbrev rsM : Memref sig .tc .vmem S3x2x256x768 .bf16 := Memref.whole cc0_scratch6
abbrev rrM : Memref sig .tc .vmem S3x2x256x768 .bf16 := Memref.whole cc0_scratch7

theorem slot_inb (k : Fin 3) : ∀ a, (![k.val, 0, 0, 0] : Fin 4 → ℕ) a + S1x2x256x768.size a ≤ S3x2x256x768.size a := by
  revert k; decide

/-- Slot `k` of a buffer of three. -/
abbrev slotOf (M : Memref sig .tc .vmem S3x2x256x768 .bf16) (k : Fin 3) : Memref sig .tc .vmem S2x256x768 .bf16 :=
  (M.slice (Rect.unit (s := S3x2x256x768) ![k.val, 0, 0, 0] S1x2x256x768.size (slot_inb k)) (fun _ => rfl)).squeeze
    S2x256x768 squeezes_S1x2x256x768_S2x256x768

/-- What transfer `i` of an exchange reads, and where transfer into slot `k` lands. -/
def srcM (a : Fin 2) (i : Fin 3) : Memref sig .tc .vmem S2x256x768 .bf16 := match a with
  | 0 => xM
  | 1 => slotOf rsM i
def dstM (a : Fin 2) (k : Fin 3) : Memref sig .tc .vmem S2x256x768 .bf16 := match a with
  | 0 => slotOf agM k
  | 1 => slotOf rrM k

/-- The share of its source a transfer is lent: `x` goes out three times, and a fourth share stays for reading. -/
def shr (a : Fin 2) (i : Fin 3) : PosShare TreeShare := match a, i with
  | 0, 0 => fullShare.left.left
  | 0, 1 => fullShare.left.right
  | 0, 2 => fullShare.right.left
  | 1, _ => fullShare

abbrev barS : Sem sig := (SemArray.scalar (sig.barrier 0 rfl) : Sems sig S_).sem

set_option backward.proofsInPublic true in
/-- Send semaphore of transfer `i`, receive semaphore of slot `k`. -/
def sS (a : Fin 2) (i : Fin 3) : DmaSem sig := (⟨6 + 6 * a.val + i.val, by have := a.isLt; have := i.isLt; change _ < 18; omega⟩ : Fin 18)
set_option backward.proofsInPublic true in
def rS (a : Fin 2) (k : Fin 3) : DmaSem sig := (⟨9 + 6 * a.val + k.val, by have := a.isLt; have := k.isLt; change _ < 18; omega⟩ : Fin 18)

/-- A device's cells: `none` the barrier, `(true, a, i)` a send cell, `(false, a, k)` a receive cell. -/
abbrev Cx : Type := Option (Bool × Fin 2 × Fin 3)

def cxs : List Cx :=
  [none, some (true, 0, 0), some (true, 0, 1), some (true, 0, 2), some (false, 0, 0), some (false, 0, 1), some (false, 0, 2),
    some (true, 1, 0), some (true, 1, 1), some (true, 1, 2), some (false, 1, 0), some (false, 1, 1), some (false, 1, 2)]

def csem (x : Cx) : SemLoc sig := match x with
  | none => .reg barS
  | some (true, a, i) => .dma (sS a i)
  | some (false, a, k) => .dma (rS a k)

def decode (s : SemLoc sig) : Option Cx := cxs.find? fun x => csem x = s

theorem decode_csem (x : Cx) : decode (csem x) = some x := by revert x; decide

abbrev kcell (cx : Dev nD × Cx) : GSem nD τ sig := ((cx.1 : Thread nD τ), csem cx.2)
abbrev barCell (c : Dev nD) : GSem nD τ sig := ((c : Thread nD τ), .reg barS)
abbrev sCell (c : Dev nD) (a : Fin 2) (i : Fin 3) : GSem nD τ sig := ((c : Thread nD τ), .dma (sS a i))
abbrev rCell (c : Dev nD) (a : Fin 2) (k : Fin 3) : GSem nD τ sig := ((c : Thread nD τ), .dma (rS a k))

/-- What one transfer credits. -/
def N : ℕ := (slotOf agM 0).view.dmaCredit
theorem N_pos : 0 < N := View.dmaCredit_pos _ (by decide)
theorem credit_eq (a : Fin 2) (k : Fin 3) : (dstM a k).view.dmaCredit = N := by
  fin_cases a <;> rfl

/-! ## The schedule -/

/-- What device `p` owns of a memref at share `q`, reading `X`. -/
abbrev own (c : Dev nD) {sh : Shape} {e : EltTy} (M : Memref sig .tc .vmem sh e) (q : PosShare TreeShare) (X : sh.Idx → Elt F e) : sProp 𝕄 :=
  owns (Ix := Unit) (Name := ℕ) (U := UU) (Lvl := ℕ) (c : Thread nD τ) M q X

section Sched
variable (dat : Fin 2 → Dev nD → Fin 3 → S2x256x768.Idx → Elt F .bf16)

/-- What the barrier's unit `j` hands `c`: its landing slot on device `fw c j` for both exchanges. -/
def barPay (c : Dev nD) (j : Fin 3) : sProp 𝕄 :=
  iprop((∃ X, own (F := F) (fw c j) (dstM 0 (rv j)) fullShare X) ∗ (∃ X, own (F := F) (fw c j) (dstM 1 (rv j)) fullShare X))
def sndPay (c : Dev nD) (a : Fin 2) (i : Fin 3) : sProp 𝕄 := own (F := F) c (srcM a i) (shr a i) (dat a c i)
def rcvPay (c : Dev nD) (a : Fin 2) (k : Fin 3) : sProp 𝕄 := own (F := F) c (dstM a k) fullShare (dat a (fw c k) (rv k))

def payOf (c : Dev nD) (x : Option Cx) (d : Fin 3) : sProp 𝕄 := match x with
  | some none => barPay c d
  | some (some (true, a, i)) => sndPay dat c a i
  | some (some (false, a, k)) => rcvPay dat c a k
  | none => iprop(emp)

def dutOf (x : Option Cx) : Finset (Fin 3) := match x with
  | some none => Finset.univ
  | some (some _) => {0}
  | none => ∅

def amtOf (x : Option Cx) : ℕ := match x with
  | some none => 1
  | _ => N

instance payOf_storable (c : Dev nD) (x : Option Cx) (d : Fin 3) : BI.Storable (upEmb : UEmb _ 𝕄) (payOf dat c x d) := by
  unfold payOf barPay sndPay rcvPay
  split <;> infer_instance

def sched : Rounds.Schedule (GSem nD τ sig) (Fin 3) 𝕄 where
  duties g r := if r = 0 ∧ g.1.2 = .tc then dutOf (decode g.2) else ∅
  unitless _ := False
  amount g _ _ := amtOf (decode g.2)
  payload g _ d := payOf dat g.1.1 (decode g.2) d
  amount_pos g _ _ _ := by
    show 0 < amtOf _
    unfold amtOf; split
    · exact Nat.one_pos
    · exact N_pos

instance sched_storable (g : GSem nD τ sig) (r : ℕ) (d : Fin 3) : BI.Storable (upEmb : UEmb _ 𝕄) ((sched (F := F) dat).payload g r d) :=
  payOf_storable dat g.1.1 (decode g.2) d

variable (c : Dev nD)

omit [FloatOps F] in
theorem duties_cell (x : Cx) : (sched (F := F) dat).duties (kcell (c, x)) 0 = dutOf (some x) := by
  dsimp only [sched]
  rw [if_pos ⟨rfl, rfl⟩, decode_csem]
omit [FloatOps F] in
theorem amount_cell (x : Cx) (d : Fin 3) : (sched (F := F) dat).amount (kcell (c, x)) 0 d = amtOf (some x) := by
  show amtOf (decode (csem x)) = _
  rw [decode_csem]
omit [FloatOps F] in
theorem payload_cell (x : Cx) (d : Fin 3) : (sched (F := F) dat).payload (kcell (c, x)) 0 d = payOf dat c (some x) d := by
  show payOf dat c (decode (csem x)) d = _
  rw [decode_csem]
omit [FloatOps F] in
theorem duties_later (g : GSem nD τ sig) : ∀ r, 1 ≤ r → (sched (F := F) dat).duties g r = ∅ :=
  fun r hr => if_neg fun h => by omega

omit [FloatOps F] in
theorem expect_bar : (sched (F := F) dat).expect (kcell (c, none)) 0 = 3 := by
  unfold Schedule.expect Schedule.amountOf
  rw [Finset.sum_congr rfl fun d _ => amount_cell dat c none d, duties_cell]
  rfl
omit [FloatOps F] in
theorem expect_xfer (y : Bool × Fin 2 × Fin 3) : (sched (F := F) dat).expect (kcell (c, some y)) 0 = N := by
  unfold Schedule.expect Schedule.amountOf
  rw [Finset.sum_congr rfl fun d _ => amount_cell dat c (some y) d, duties_cell]
  show Finset.sum {0} _ = _
  rw [Finset.sum_singleton]; rfl

omit [FloatOps F] in
theorem rest_bar : bigSep ((sched (F := F) dat).duties (kcell (c, none)) 0 \ ∅) (fun d => (sched (F := F) dat).payload (kcell (c, none)) 0 d)
    = iprop(barPay c 0 ∗ barPay c 1 ∗ barPay c 2) := by
  rw [Finset.sdiff_empty, duties_cell]
  show bigSep Finset.univ _ = _
  rw [bigSep_univ_eq_bigSepL [0, 1, 2] (by decide) (by decide), bigSepL_cons_cons, bigSepL_cons_cons, bigSepL_singleton,
    payload_cell, payload_cell, payload_cell]
  rfl
omit [FloatOps F] in
theorem rest_xfer (y : Bool × Fin 2 × Fin 3) : bigSep ((sched (F := F) dat).duties (kcell (c, some y)) 0 \ ∅) (fun d => (sched (F := F) dat).payload (kcell (c, some y)) 0 d)
    = payOf dat c (some (some y)) 0 := by
  rw [Finset.sdiff_empty, duties_cell]
  show bigSep {0} _ = _
  rw [bigSep_singleton, payload_cell]

end Sched

/-! ## What a device owes, and the levels -/

/-- What device `c` raises on others, in program order: three signals, three blocks of `x`, three partial products. -/
def dues (c : Dev nD) : List (GSem nD τ sig × ℕ) :=
  [(barCell (fw c 0), 1), (barCell (fw c 1), 1), (barCell (fw c 2), 1),
    (rCell (fw c 0) 0 2, N), (rCell (fw c 1) 0 1, N), (rCell (fw c 2) 0 0, N),
    (rCell (fw c 0) 1 2, N), (rCell (fw c 1) 1 1, N), (rCell (fw c 2) 1 0, N)]

/-- The tally of a list of dues, the first one outermost. -/
def owe : List (GSem nD τ sig × ℕ) → CellTallies nD τ sig Unit
  | [] => 0
  | p :: l => owe l + tallyAt p.1 () p.2

theorem owe_pos : ∀ {l : List (GSem nD τ sig × ℕ)} {g : GSem nD τ sig} {u : Unit}, 0 < owe l g u → ∃ p ∈ l, g = p.1
  | [], g, u, h => absurd h (Nat.lt_irrefl 0)
  | p :: l, g, u, h => by
    unfold owe at h
    rw [Pi.add_apply, Finsupp.add_apply, tallyAt_apply] at h
    by_cases hg : g = p.1
    · exact ⟨p, List.mem_cons_self, hg⟩
    · rw [if_neg (fun h' => hg h'.1), Nat.add_zero] at h
      obtain ⟨q, hq, e⟩ := owe_pos h
      exact ⟨q, List.mem_cons_of_mem _ hq, e⟩

theorem owe_apply : ∀ (l : List (GSem nD τ sig × ℕ)) (g : GSem nD τ sig), owe l g () = (l.map fun p => if g = p.1 then p.2 else 0).sum
  | [], g => rfl
  | p :: l, g => by
    unfold owe
    rw [Pi.add_apply, Finsupp.add_apply, tallyAt_apply, owe_apply l g, List.map_cons, List.sum_cons, Nat.add_comm]
    congr 1
    by_cases h : g = p.1
    · rw [if_pos ⟨h, rfl⟩, if_pos h]
    · rw [if_neg (fun h' => h h'.1), if_neg h]

def O₀ (c : Dev nD) : CellTallies nD τ sig Unit := owe (dues c)

def L (g : GSem nD τ sig) : Finset Unit := if g.1.2 = .tc then {()} else ∅

/-- Staging and send cells at 0, the barrier at 1, the receive cells of the two exchanges at 2 and 3. -/
def lvS (s : SemLoc sig) : ℕ := match decode s with
  | some none => 1
  | some (some (false, a, _)) => 2 + a.val
  | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait at a cell below everything it still owes. -/
theorem mayWait_owe (c : Dev nD) (sm : SemLoc sig) (l : List (GSem nD τ sig × ℕ))
    (hl : ∀ p ∈ l, p.1.1.2 = .tc ∧ lvS sm < lvS p.1.2) :
    (levAts L lv : sProp 𝕄) ⊢ MayWait (c : Thread nD τ) sm () (owe l) :=
  MayOwe.of_cut (L := L) (lev := lv) (lvS sm)
    (fun p hp => by rw [Finset.mem_singleton.mp hp, L_tc]; exact Finset.mem_singleton_self _)
    (fun g u hg => by
      obtain ⟨p, hp, rfl⟩ := owe_pos hg
      unfold L; rw [if_pos (hl p hp).1]; exact Finset.mem_singleton_self _)
    (fun p hp => by rw [Finset.mem_singleton.mp hp]; exact le_rfl)
    (fun g u hg => by
      obtain ⟨p, hp, rfl⟩ := owe_pos hg
      exact (hl p hp).2)

end Cert.Rope

end
-- ==== Proof.Rules.lean ====
/-
# One rule per memory operation of the kernel

Each states what a load, a store, a transfer or a wait of device `c` takes and leaves, at the
contents read through a memref (`own`).
-/
module

public import proofs.«01_k».proof.Proof.Protocol
public import Idealize.ShloMosaic.Lib.VecWindow
public import Idealize.ShloMosaic.Lib.ValueLayout

@[expose] public section

noncomputable section

namespace Cert.Rope

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

abbrev wqM : Memref sig .tc .vmem S768x256 .bf16 := Memref.whole cc0_stg1_0
abbrev wkM : Memref sig .tc .vmem S768x256 .bf16 := Memref.whole cc0_stg2_0
abbrev wvM : Memref sig .tc .vmem S768x256 .bf16 := Memref.whole cc0_stg3_0
abbrev woM : Memref sig .tc .vmem S256x768 .bf16 := Memref.whole cc0_stg4_0
abbrev outM : Memref sig .tc .vmem S2x256x768 .f32 := Memref.whole cc0_stg5_0
abbrev qM : Memref sig .tc .vmem S2x1024x256 .bf16 := Memref.whole cc0_scratch1
abbrev kM : Memref sig .tc .vmem S2x1024x256 .bf16 := Memref.whole cc0_scratch2
abbrev vM : Memref sig .tc .vmem S2x1024x256 .bf16 := Memref.whole cc0_scratch3
abbrev ctM : Memref sig .tc .vmem S512x256 .bf16 := Memref.whole cc0_scratch4
abbrev pwM : Memref sig .tc .vmem S2x256x768 .f32 := Memref.whole cc0_scratch5

abbrev 𝒱₀ : Variants := Variants.none

/-- The weakest precondition of a piece of device `c`'s body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Mem
variable (c : Dev nD) {s : Shape} {e : EltTy} {M : Memref sig .tc .vmem s e}

theorem load_own {α : Type} {off size : Fin s.rank → ℕ} {inb : ∀ a, off a + size a ≤ s.size a} {q : PosShare TreeShare} {X : s.Idx → Elt F e}
    {hl : M.view.LoadsAt (Rect.unit off size inb).toLoadRect} {k : ((Rect.unit off size inb).shape.Idx → Elt F e) → Prog (TpuEff nD τ sig (Elt F) Λ₀ .tc) α} {Q : α → sProp 𝕄} :
    own c M q X ⊢ iprop((own c M q X -∗ wpc c (k (VecWindow.window X off size inb)) Q)
      -∗ wpc c (.op (.load M (Rect.unit off size inb).toLoadRect hl) k) Q) := by
  unfold own owns
  iintro ⟨%f, %hf, H⟩ Hk
  iapply (wp_load 𝒱₀ (c : Thread nD τ) none Set.univ (m := M) (View.setOn_subset_set _ _)) $$ H; iintro H
  rw [View.readAt_unit M.view f inb rfl inb, hf]
  iapply Hk
  iexists f
  isplitr; · ipureintro; exact hf
  iexact H

theorem load_full {α : Type} {off : Fin s.rank → ℕ} {inb : ∀ a, off a + s.size a ≤ s.size a} {q : PosShare TreeShare} {X : s.Idx → Elt F e}
    {hl : M.view.LoadsAt (Rect.unit off s.size inb).toLoadRect} {k : (s.Idx → Elt F e) → Prog (TpuEff nD τ sig (Elt F) Λ₀ .tc) α} {Q : α → sProp 𝕄} :
    own c M q X ⊢ iprop((own c M q X -∗ wpc c (k X) Q)
      -∗ wpc c (.op (.load M (Rect.unit off s.size inb).toLoadRect hl) k) Q) := by
  unfold own owns
  iintro ⟨%f, %hf, H⟩ Hk
  iapply (wp_load 𝒱₀ (c : Thread nD τ) none Set.univ (m := M) (View.setOn_subset_set _ _)) $$ H; iintro H
  rw [View.readAt_full M.view f inb, hf]
  iapply Hk
  iexists f
  isplitr; · ipureintro; exact hf
  iexact H

omit [FloatOps F] in
theorem read_write_all (M : Memref sig .tc .vmem s e) {off : Fin s.rank → ℕ} (inb : ∀ a, off a + s.size a ≤ s.size a) (f : M.view.ty.Contents (Elt F))
    (w : s.Idx → Elt F e) :
    M.view.read (Elt F) ((M.access (Rect.unit off s.size inb)).write (Elt F) f w Finset.univ) = w := by
  have := View.read_writes_full M.view f inb w []
  rw [View.writes_cons, View.writes_nil] at this
  exact this

theorem access_set_subset (M : Memref sig .tc .vmem s e) (r : Rect s) : (M.access r).setOn Finset.univ ⊆ M.view.set :=
  View.set_slice_subset _ _

omit [FloatOps F] in
theorem read_write_unit (M : Memref sig .tc .vmem s e) {off size : Fin s.rank → ℕ} (inb : ∀ a, off a + size a ≤ s.size a) (f : M.view.ty.Contents (Elt F))
    (w : (Rect.unit off size inb).shape.Idx → Elt F e) :
    M.view.read (Elt F) ((M.access (Rect.unit off size inb)).write (Elt F) f w Finset.univ) = VecWindow.put (M.view.read (Elt F) f) off size w := by
  have := View.read_writes_cons_put M.view f inb w [] rfl
  rw [View.writes_nil] at this
  exact this

theorem store_own {α : Type} {off size : Fin s.rank → ℕ} {inb : ∀ a, off a + size a ≤ s.size a} {X : s.Idx → Elt F e}
    {w : (Rect.unit off size inb).shape.Idx → Elt F e} {hx : (M.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {Q : α → sProp 𝕄} :
    own c M fullShare X ⊢ iprop((own c M fullShare (VecWindow.put X off size w) -∗ wpc c (k ⟨⟩) Q)
      -∗ wpc c (.op (.store M (Rect.unit off size inb) w Finset.univ hx hm) k) Q) := by
  unfold own owns
  iintro ⟨%f, %hf, H⟩ Hk
  iapply (wp_store 𝒱₀ (c : Thread nD τ) none Set.univ (m := M) (r := Rect.unit off size inb) (Mk := Finset.univ) (access_set_subset M _)) $$ H; iintro H
  iapply Hk
  iexists _
  isplitr
  · ipureintro; rw [read_write_unit M inb f w, hf]
  iexact H

theorem store_full {α : Type} {off : Fin s.rank → ℕ} {inb : ∀ a, off a + s.size a ≤ s.size a} {X : s.Idx → Elt F e}
    {w : s.Idx → Elt F e} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} {Q : α → sProp 𝕄} :
    own c M fullShare X ⊢ iprop((own c M fullShare w -∗ wpc c (k ⟨⟩) Q)
      -∗ wpc c (.op (.store M (Rect.unit off s.size inb) w Finset.univ hx hm) k) Q) := by
  unfold own owns
  iintro ⟨%f, %hf, H⟩ Hk
  iapply (wp_store 𝒱₀ (c : Thread nD τ) none Set.univ (m := M) (r := Rect.unit off s.size inb) (Mk := Finset.univ) (access_set_subset M _)) $$ H; iintro H
  iapply Hk
  iexists _
  isplitr
  rotate_left
  · iexact H
  · ipureintro; exact read_write_all M inb f w

end Mem

/-! ## Slots, accessed through the buffer of three -/

omit [FloatOps F] in
theorem slot_read (M : Memref sig .tc .vmem S3x2x256x768 .bf16) (k : Fin 3) (f : M.view.ty.Contents (Elt F)) (a : Fin 2) (b : Fin 256) (d : Fin 768) :
    (slotOf M k).view.read (Elt F) f (ix3 a b d) = M.view.read (Elt F) f (ix4 k a b d) := by
  have he : (Rect.unit (s := S3x2x256x768) ![k.val, 0, 0, 0] S1x2x256x768.size (slot_inb k)).emb
      (Shape.reshapeEquiv (squeezes_S1x2x256x768_S2x256x768).numel_eq (ix3 a b d)) = ix4 k a b d := by
    rw [show Shape.reshapeEquiv (squeezes_S1x2x256x768_S2x256x768).numel_eq (ix3 a b d) = ix4 (⟨0, Nat.one_pos⟩ : Fin 1) a b d from
      reshapeEquiv_ix3_1abc _ a b d]
    funext x
    apply Fin.ext
    rw [Rect.emb_apply]; fin_cases x <;> simp
  exact congrArg (M.view.read (Elt F) f) he

theorem slot_sub (M : Memref sig .tc .vmem S3x2x256x768 .bf16) (k : Fin 3) {size : Fin 4 → ℕ} {off : Fin 4 → ℕ} (inb : ∀ a, off a + size a ≤ S3x2x256x768.size a)
    (h0 : off 0 = k.val) (h1 : size 0 = 1) :
    (Rect.unit (s := S3x2x256x768) off size inb).set ⊆ (Rect.unit (s := S3x2x256x768) ![k.val, 0, 0, 0] S1x2x256x768.size (slot_inb k)).set := by
  intro y hy
  rw [Rect.mem_set_unit] at hy ⊢
  intro a
  have hb := (y a).isLt
  have := hy 0
  fin_cases a <;> simp_all <;> omega

section Slot
variable (c : Dev nD) {M : Memref sig .tc .vmem S3x2x256x768 .bf16} (k : Fin 3)

/-- What a load of slot `k` through its buffer reads, over what the slot holds. -/
def up (X : S2x256x768.Idx → Elt F .bf16) : S1x2x256x768.Idx → Elt F .bf16 := fun z => X (ix3 (z 1) (z 2) (z 3))

theorem load_slot {α : Type} {q : PosShare TreeShare} {X : S2x256x768.Idx → Elt F .bf16} {inb : ∀ a, (![k.val, 0, 0, 0] : Fin 4 → ℕ) a + S1x2x256x768.size a ≤ S3x2x256x768.size a}
    {hl : M.view.LoadsAt (Rect.unit (s := S3x2x256x768) ![k.val, 0, 0, 0] S1x2x256x768.size inb).toLoadRect}
    {kk : (S1x2x256x768.Idx → Elt F .bf16) → Prog (TpuEff nD τ sig (Elt F) Λ₀ .tc) α} {Q : α → sProp 𝕄} :
    own c (slotOf M k) q X ⊢ iprop((own c (slotOf M k) q X -∗ wpc c (kk (up X)) Q)
      -∗ wpc c (.op (.load M (Rect.unit (s := S3x2x256x768) ![k.val, 0, 0, 0] S1x2x256x768.size inb).toLoadRect hl) kk) Q) := by
  unfold own owns
  iintro ⟨%f, %hf, H⟩ Hk
  iapply (wp_load 𝒱₀ (c : Thread nD τ) none Set.univ (m := M) (S := (slotOf M k).view.set) (by
    rw [show (slotOf M k).view.set = (M.view.slice _).set from View.set_reshape _ _, View.set_slice]
    exact Finset.map_subset_map.mpr (slot_sub M k inb rfl rfl))) $$ H; iintro H
  have hv : M.view.readAt (Elt F) (Rect.unit (s := S3x2x256x768) ![k.val, 0, 0, 0] S1x2x256x768.size inb).toLoadRect f = up X := by
    funext z
    show M.view.read (Elt F) f _ = X (ix3 (z 1) (z 2) (z 3))
    rw [← hf]
    refine Eq.trans (congrArg _ ?_) (slot_read M k f (z 1) (z 2) (z 3)).symm
    funext x
    apply Fin.ext
    have := (z 0).isLt
    have h0 : (z 0).val = 0 := by change _ < 1 at this; omega
    rw [LoadRect.idx_apply]; fin_cases x <;> simp [h0]
  rw [hv]
  iapply Hk
  iexists f
  isplitr; · ipureintro; exact hf
  iexact H

/-- A slot with the rows of batch `b` replaced. -/
def putB (X : S2x256x768.Idx → Elt F .bf16) (b : Fin 2) (w : S1x1x256x768.Idx → Elt F .bf16) : S2x256x768.Idx → Elt F .bf16 :=
  fun y => if (y 0).val = b.val then w (ix4 (0 : Fin 1) (0 : Fin 1) (y 1) (y 2)) else X y

/-- A slot given by its two batches. -/
def twoB (w w' : S1x1x256x768.Idx → Elt F .bf16) : S2x256x768.Idx → Elt F .bf16 :=
  fun y => if (y 0).val = 0 then w (ix4 (0 : Fin 1) (0 : Fin 1) (y 1) (y 2)) else w' (ix4 (0 : Fin 1) (0 : Fin 1) (y 1) (y 2))
omit [FloatOps F] in
theorem putB_putB (X : S2x256x768.Idx → Elt F .bf16) (w w' : S1x1x256x768.Idx → Elt F .bf16) : putB (putB X 0 w) 1 w' = twoB w w' := by
  funext y
  unfold putB twoB
  have h : (y 0).val < 2 := (y 0).isLt
  by_cases h0 : (y 0).val = 0
  · rw [if_neg (by rw [h0]; decide), if_pos h0]; exact if_pos h0
  · rw [if_neg h0]; exact if_pos (by show _ = 1; omega)

theorem load_slot_part {α : Type} {q : PosShare TreeShare} {X : S2x256x768.Idx → Elt F .bf16} (b : Fin 2) {inb : ∀ a, (![k.val, b.val, 0, 0] : Fin 4 → ℕ) a + S1x1x256x768.size a ≤ S3x2x256x768.size a}
    {hl : M.view.LoadsAt (Rect.unit (s := S3x2x256x768) ![k.val, b.val, 0, 0] S1x1x256x768.size inb).toLoadRect}
    {p : Prog (TpuEff nD τ sig (Elt F) Λ₀ .tc) α} {Q : α → sProp 𝕄} :
    own c (slotOf M k) q X ⊢ iprop((own c (slotOf M k) q X -∗ wpc c p Q)
      -∗ wpc c (.op (.load M (Rect.unit (s := S3x2x256x768) ![k.val, b.val, 0, 0] S1x1x256x768.size inb).toLoadRect hl) (fun _ => p)) Q) := by
  unfold own owns
  iintro ⟨%f, %hf, H⟩ Hk
  iapply (wp_load 𝒱₀ (c : Thread nD τ) none Set.univ (m := M) (S := (slotOf M k).view.set) (by
    rw [show (slotOf M k).view.set = (M.view.slice _).set from View.set_reshape _ _, View.set_slice]
    exact Finset.map_subset_map.mpr (slot_sub M k inb rfl rfl))) $$ H; iintro H
  iapply Hk
  iexists f
  isplitr; · ipureintro; exact hf
  iexact H

theorem store_slot {α : Type} {X : S2x256x768.Idx → Elt F .bf16} (b : Fin 2) {inb : ∀ a, (![k.val, b.val, 0, 0] : Fin 4 → ℕ) a + S1x1x256x768.size a ≤ S3x2x256x768.size a}
    {w : S1x1x256x768.Idx → Elt F .bf16} {hx : (M.access (Rect.unit (s := S3x2x256x768) ![k.val, b.val, 0, 0] S1x1x256x768.size inb)).Stores Finset.univ}
    {hm : (Finset.univ : Finset S1x1x256x768.Idx) = Finset.univ ∨ ∀ a, (Rect.unit (s := S3x2x256x768) ![k.val, b.val, 0, 0] S1x1x256x768.size inb).stride a = 1}
    {kk : PUnit → Prog (TpuEff nD τ sig (Elt F) Λ₀ .tc) α} {Q : α → sProp 𝕄} :
    own c (slotOf M k) fullShare X ⊢ iprop((own c (slotOf M k) fullShare (putB X b w) -∗ wpc c (kk ⟨⟩) Q)
      -∗ wpc c (.op (.store M (Rect.unit (s := S3x2x256x768) ![k.val, b.val, 0, 0] S1x1x256x768.size inb) w Finset.univ hx hm) kk) Q) := by
  unfold own owns
  iintro ⟨%f, %hf, H⟩ Hk
  iapply (wp_store 𝒱₀ (c : Thread nD τ) none Set.univ (m := M) (r := Rect.unit (s := S3x2x256x768) ![k.val, b.val, 0, 0] S1x1x256x768.size inb) (Mk := Finset.univ) (S := (slotOf M k).view.set) (by
    rw [show (slotOf M k).view.set = (M.view.slice _).set from View.set_reshape _ _, View.set_slice]
    refine Finset.Subset.trans (View.set_slice M.view (Rect.unit (s := S3x2x256x768) ![k.val, b.val, 0, 0] S1x1x256x768.size inb)).subset ?_
    exact Finset.map_subset_map.mpr (slot_sub M k inb rfl rfl))) $$ H; iintro H
  iapply Hk
  iexists _
  isplitr
  rotate_left
  · iexact H
  · ipureintro
    have key : ∀ (a' : Fin 2) (b' : Fin 256) (d' : Fin 768), (slotOf M k).view.read (Elt F)
        ((M.access (Rect.unit (s := S3x2x256x768) ![k.val, b.val, 0, 0] S1x1x256x768.size inb)).write (Elt F) f w Finset.univ) (ix3 a' b' d')
          = putB X b w (ix3 a' b' d') := by
      intro a' b' d'
      rw [slot_read M k, read_write_unit M inb f w]
      unfold VecWindow.put putB
      by_cases hb : a'.val = b.val
      · refine (dif_pos ?_).trans (Eq.trans ?_ (if_pos hb).symm)
        · have h1 := b'.isLt
          have h2 := d'.isLt
          intro a
          fin_cases a <;> simp [S1x1x256x768, hb]
        · congr 1
          funext a
          apply Fin.ext
          rw [Rect.unitLocal_val]
          fin_cases a <;> simp [hb]
      · refine (dif_neg ?_).trans (Eq.trans ?_ (if_neg hb).symm)
        · intro hh
          have h1 : b.val ≤ a'.val ∧ a'.val < b.val + 1 := hh 1
          omega
        · rw [← hf]
          exact (slot_read M k f a' b' d').symm
    funext y
    rw [eq_ix3 y]
    exact key (y 0) (y 1) (y 2)

end Slot

/-! ## The exchange's steps -/

section Steps
variable (dat : Fin 2 → Dev nD → Fin 3 → S2x256x768.Idx → Elt F .bf16) (K : Dev nD × Cx → ℕ)

/-- The standing facts: every cell's invariant, every cell at round 0, the levels. -/
def records : sProp 𝕄 :=
  iprop((bigSep Finset.univ fun cx : Dev nD × Cx => cellInv ER (sched dat) (K cx) (kcell cx))
    ∗ (bigSep Finset.univ fun cx : Dev nD × Cx => reached ER (kcell cx) 0) ∗ levAts L lv)

instance records_persistent : BI.Persistent (records dat K) := by unfold records; infer_instance

/-- What a device owes, whatever it has waited for. -/
def owesL (c : Dev nD) (l : List (GSem nD τ sig × ℕ)) : sProp 𝕄 := iprop(∃ W, owes (c : Thread nD τ) (owe l) W)

omit [FloatOps F] in
theorem rec_inv (cx : Dev nD × Cx) : records dat K ⊢ cellInv ER (sched dat) (K cx) (kcell cx) := by
  unfold records
  iintro ⟨H, -, -⟩
  iapply (show _ ⊢ cellInv ER (sched dat) (K cx) (kcell cx) from bigSep_elim (Φ := fun cx => cellInv ER (sched dat) (K cx) (kcell cx)) (Finset.mem_univ cx)) $$ H
omit [FloatOps F] in
theorem rec_reached (cx : Dev nD × Cx) : records dat K ⊢ reached ER (kcell cx) 0 := by
  unfold records
  iintro ⟨-, H, -⟩
  iapply (show _ ⊢ reached ER (kcell cx) 0 from bigSep_elim (Φ := fun cx : Dev nD × Cx => reached ER (kcell cx) 0) (Finset.mem_univ cx)) $$ H
omit [FloatOps F] in
theorem rec_lev : records dat K ⊢ (levAts L lv : sProp 𝕄) := by
  unfold records
  iintro ⟨-, -, H⟩
  iexact H

variable (c : Dev nD)

omit [FloatOps F] in
theorem mem_bar (d : Fin 3) : d ∈ (sched (F := F) dat).duties (barCell c) 0 := by
  have h := duties_cell (F := F) dat c none
  exact (show (sched (F := F) dat).duties (barCell c) 0 = _ from h).symm ▸ Finset.mem_univ d
omit [FloatOps F] in
theorem mem_xfer (y : Bool × Fin 2 × Fin 3) : 0 ∈ (sched (F := F) dat).duties (kcell (c, some y)) 0 := by
  rw [duties_cell]; exact Finset.mem_singleton_self _
omit [FloatOps F] in
theorem rest_barrier : bigSep ((sched (F := F) dat).duties (barCell c) 0 \ ∅) (fun d => (sched (F := F) dat).payload (barCell c) 0 d)
    = iprop(barPay c 0 ∗ barPay c 1 ∗ barPay c 2) := rest_bar dat c
omit [FloatOps F] in
theorem pay_bar (d : Fin 3) : (sched (F := F) dat).payload (barCell c) 0 d = barPay c d := payload_cell dat c none d
omit [FloatOps F] in
theorem pay_snd (a : Fin 2) (i : Fin 3) : (sched (F := F) dat).payload (sCell c a i) 0 0 = sndPay dat c a i := payload_cell dat c (some (true, a, i)) 0
omit [FloatOps F] in
theorem pay_rcv (a : Fin 2) (k : Fin 3) : (sched (F := F) dat).payload (rCell c a k) 0 0 = rcvPay dat c a k := payload_cell dat c (some (false, a, k)) 0

/-- Signal `i`: the unit `rv i` of device `fw c i`'s barrier, with `c`'s two landing slots number `i`. -/
theorem signal_own (i : Fin 3) {n : Dev nD} (hn : n = fw c i) {k' : ℕ} (hk : k' = 1) {l : List (GSem nD τ sig × ℕ)} {α : Type}
    {kk : PUnit → Prog (TpuEff nD τ sig (Elt F) Λ₀ .tc) α} {Q : α → sProp 𝕄} :
    iprop(records dat K ∗ owesL c ((barCell (fw c i), 1) :: l) ∗ dutyTok ER (barCell (fw c i)) 0 (rv i)
        ∗ (∃ X, own (F := F) c (dstM 0 i) fullShare X) ∗ (∃ X, own (F := F) c (dstM 1 i) fullShare X))
      ⊢ iprop((owesL c l -∗ wpc c (kk ⟨⟩) Q) -∗ wpc c (.op (.semSignal (Dev.tc n) barS k') kk) Q) := by
  subst hn hk
  unfold owesL
  iintro ⟨#HR, ⟨%W, HO⟩, Ht, Ha, Hb⟩ Hk
  ihave HI := (rec_inv dat K (fw c i, none)) $$ HR
  ihave Hr := (rec_reached dat K (fw c i, none)) $$ HR
  iapply (Rounds.wp_signal 𝒱₀ ER (sched dat) (c : Thread nD τ) none (dst := (fw c i : Thread nD τ)) (κ := K (fw c i, none))
      (d := rv i) (mem_bar dat (fw c i) (rv i))
      (amount_cell dat (fw c i) none (rv i)) () (owe l) rfl) $$ [HI HO Ht Ha Hb Hr]
  · isplitl [HI]; · iexact HI
    isplitl [HO]; · iexact HO
    isplitl [Ht]; · iexact Ht
    isplitl [Ha Hb]
    · rw [pay_bar]
      unfold barPay
      rw [fw_fw, rv_rv]
      isplitl [Ha] <;> iassumption
    iexact Hr
  iintro HO
  iapply Hk
  iexists W
  iexact HO

theorem wait_bar {l : List (GSem nD τ sig × ℕ)} (hl : ∀ p ∈ l, p.1.1.2 = .tc ∧ lvS (.reg barS) < lvS p.1.2) {k' : ℕ} (hk : k' = 3) {α : Type}
    {kk : PUnit → Prog (TpuEff nD τ sig (Elt F) Λ₀ .tc) α} {Q : α → sProp 𝕄} :
    iprop(records dat K ∗ cred (tallyAt (barCell c) () 3) ∗ owesL c l ∗ atPos ER (barCell c) 0 ∅ 0)
      ⊢ iprop(((owesL c l ∗ semVal (barCell c) 0 ∗ barPay (F := F) c 0 ∗ barPay (F := F) c 1 ∗ barPay (F := F) c 2) -∗ wpc c (kk ⟨⟩) Q)
        -∗ wpc c (.op (.semWait barS k') kk) Q) := by
  subst hk
  unfold owesL
  iintro ⟨#HR, Hc, ⟨%W, HO⟩, Hat⟩ Hk
  ihave #HI := (rec_inv dat K (c, none)) $$ HR
  iapply (Rounds.wp_wait_rest_token 𝒱₀ ER (sched dat) (c : Thread nD τ) none (κ := K (c, none))
      (wpE_semWait_eq 𝒱₀ (c : Thread nD τ) none Set.univ) (Set.mem_univ _) () (O := owe l) (W := W) (R := 0) (m := 0) (T := ∅)
      (by rw [show (sched (F := F) dat).expect (((c : Dev nD) : Thread nD τ), SemLoc.reg barS) 0 = 3 from expect_bar dat c])) $$ [Hc HO Hat]
  · isplitr; · iexact HI
    isplitl [Hc]; · iexact Hc
    isplitl [HO]; · iexact HO
    isplitr
    · ihave Hl := (rec_lev dat K) $$ HR
      iapply (mayWait_owe c (.reg barS) l hl) $$ Hl
    iexact Hat
  iintro ⟨HO, Hat, -, Hpay⟩
  ihave Hp := (Entails.of_eq (rest_barrier dat c)) $$ Hpay
  imod (Rounds.cell_close ER (sched dat) (Set.mem_univ (K (c, none))) (fun h => h) (R := 0 + 1) (duties_later dat (barCell c))) $$ [Hat] with Hz
  · isplitr; · iexact HI
    iexact Hat
  iapply Hk
  isplitl [HO]; · iexists _; iexact HO
  isplitl [Hz]; · iexact Hz
  iexact Hp

/-- A wait for a transfer's credit at one of `c`'s own cells: what the transfer carried comes back and the cell is done with. -/
theorem wait_xfer (y : Bool × Fin 2 × Fin 3) {l : List (GSem nD τ sig × ℕ)} (hl : ∀ p ∈ l, p.1.1.2 = .tc ∧ lvS (csem (some y)) < lvS p.1.2)
    {sem : DmaSem sig} (hs : SemLoc.dma sem = csem (some y)) {sp sp' : Space} {s s' : Shape} {e e' : EltTy}
    {src : Memref sig .tc sp' s' e'} {dst : Memref sig .tc sp s e} {hsrc : src.view.WordExact} {hdst : dst.view.WordExact} (hN : dst.view.dmaCredit = N)
    {α : Type} {kk : PUnit → Prog (TpuEff nD τ sig (Elt F) Λ₀ .tc) α} {Q : α → sProp 𝕄} :
    iprop(records dat K ∗ cred (tallyAt (kcell (c, some y)) () N) ∗ owesL c l ∗ atPos ER (kcell (c, some y)) 0 ∅ 0)
      ⊢ iprop(((owesL c l ∗ semVal (kcell (c, some y)) 0 ∗ payOf dat c (some (some y)) 0) -∗ wpc c (kk ⟨⟩) Q)
        -∗ wpc c (.op (.waitDma2 sem src dst hsrc hdst) kk) Q) := by
  unfold owesL
  iintro ⟨#HR, Hc, ⟨%W, HO⟩, Hat⟩ Hk
  ihave #HI := (rec_inv dat K (c, some y)) $$ HR
  have hg : kcell (c, some y) = (((c : Dev nD) : Thread nD τ), SemLoc.dma sem) := by unfold kcell; rw [hs]
  rw [← hN]
  iapply (Rounds.wp_wait_rest_token 𝒱₀ ER (sched dat) (c : Thread nD τ) none (κ := K (c, some y))
      (wpE_waitDma2_eq 𝒱₀ (c : Thread nD τ) none Set.univ) (Set.mem_univ _) () (O := owe l) (W := W) (R := 0) (m := 0) (T := ∅)
      (by rw [← hg, expect_xfer, hN, Nat.zero_add])) $$ [Hc HO Hat]
  · rw [← hg]
    isplitr; · iexact HI
    isplitl [Hc]; · iexact Hc
    isplitl [HO]; · iexact HO
    isplitr
    · ihave Hl := (rec_lev dat K) $$ HR
      rw [hs]
      iapply (mayWait_owe c (csem (some y)) l hl) $$ Hl
    iexact Hat
  rw [← hg]
  iintro ⟨HO, Hat, -, Hpay⟩
  ihave Hp := (Entails.of_eq (rest_xfer dat c y)) $$ Hpay
  imod (Rounds.cell_close ER (sched dat) (Set.mem_univ (K (c, some y))) (fun h => h) (R := 0 + 1) (duties_later dat (kcell (c, some y)))) $$ [Hat] with Hz
  · isplitr; · iexact HI
    iexact Hat
  iapply Hk
  isplitl [HO]; · iexists _; iexact HO
  isplitl [Hz]; · iexact Hz
  iexact Hp

/-- Transfer `i` of exchange `a`. -/
theorem send_own (a : Fin 2) (i : Fin 3) {n : Dev nD} (hn : n = fw c i) {l : List (GSem nD τ sig × ℕ)}
    {src : Memref sig .tc .vmem S2x256x768 .bf16} (hs : src = srcM a i)
    {dst : Memref sig (Dev.tc n : Thread nD τ).2.kind .vmem S2x256x768 .bf16} (hd : dst = dstM a (rv i))
    {s1 s2 : DmaSem sig} (h1 : s1 = sS a i) (h2 : s2 = rS a (rv i))
    {hsc : dst.view.ref.isScScratch = false}
    {hsrc : src.view.WordExact} {hdst : dst.view.WordExact}
    {hsem : DmaTarget.Typed .vmem (.dma s2) (.remote (Dev.tc n : Thread nD τ) dst (.dma s1) hsc)}
    {α : Type} {Q : α → sProp 𝕄} {k : PUnit → Prog (TpuEff nD τ sig (Elt F) Λ₀ .tc) α} :
    iprop(records dat K ∗ own c (srcM a i) (shr a i) (dat a c i) ∗ (∃ X, own (F := F) (fw c i) (dstM a (rv i)) fullShare X)
        ∗ owesL c ((rCell (fw c i) a (rv i), N) :: l)
        ∗ dutyTok ER (sCell c a i) 0 0 ∗ dutyTok ER (rCell (fw c i) a (rv i)) 0 0)
      ⊢ iprop(((cred (tallyAt (sCell c a i) () N) ∗ owesL c l) -∗ wpc c (k ⟨⟩) Q)
          -∗ wpc c (.op (.enqueueDma src (.remote (Dev.tc n : Thread nD τ) dst (.dma s1) hsc) (.dma s2) hsrc hdst hsem) k) Q) := by
  subst hn
  subst hs hd h1 h2
  unfold owesL own owns
  iintro ⟨#HR, ⟨%fs, %hfs, Hs⟩, ⟨%X, %fd, %hfd, Hd⟩, ⟨%W, HO⟩, Ht1, Ht2⟩ Hk
  ihave HI1 := (rec_inv dat K (c, some (true, a, i))) $$ HR
  ihave HI2 := (rec_inv dat K (fw c i, some (false, a, rv i))) $$ HR
  ihave Hr1 := (rec_reached dat K (c, some (true, a, i))) $$ HR
  ihave Hr2 := (rec_reached dat K (fw c i, some (false, a, rv i))) $$ HR
  iapply (Rounds.wp_send_pointsTo 𝒱₀ ER (sched dat) (c : Thread nD τ) none (c' := (fw c i : Thread nD τ)) (src := srcM a i) (dst := dstM a (rv i))
    (κ₁ := K (c, some (true, a, i))) (κ₂ := K (fw c i, some (false, a, rv i)))
    (r₁ := 0) (r₂ := 0) (d₁ := 0) (d₂ := 0) (fs := fs) (fd := fd) (q := shr a i)
    (mem_xfer dat c (true, a, i))
    (mem_xfer dat (fw c i) (false, a, rv i))
    () () N ((show (dstM a (rv i)).view.amount (SemLoc.dma (rS a (rv i))) = N from credit_eq a (rv i))) (amount_cell dat c (some (true, a, i)) 0) (amount_cell dat (fw c i) (some (false, a, rv i)) 0) (owe l) rfl (W := W)
    (by
      refine BIBase.Entails.trans ?_ (Entails.of_eq (pay_snd dat c a i).symm)
      unfold sndPay own owns
      iintro H
      iexists fs
      isplitr; · ipureintro; exact hfs
      iexact H)
    (by
      refine BIBase.Entails.trans ?_ (Entails.of_eq (pay_rcv dat (fw c i) a (rv i)).symm)
      unfold rcvPay own owns
      rw [fw_fw, rv_rv]
      iintro H
      iexists _
      isplitr
      rotate_left
      · iexact H
      · ipureintro; rw [View.read_write_univ]; exact hfs)) $$ [HI1 HI2 Hs Hd HO Ht1 Hr1 Ht2 Hr2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W
  iexact HO

theorem credit_x : xM.view.dmaCredit = N := rfl

/-- The same for what the kernel names: the landed block of `x` or partial product, the lent block, the lent slot. -/
theorem wait_rcv0 (k : Fin 3) {l : List (GSem nD τ sig × ℕ)} (hl : ∀ p ∈ l, p.1.1.2 = .tc ∧ lvS (csem (some (false, 0, k))) < lvS p.1.2)
    {sem : DmaSem sig} (hs : sem = rS 0 k) {sp' : Space} {s' : Shape} {e' : EltTy}
    {src : Memref sig .tc sp' s' e'} {dst : Memref sig .tc .vmem S2x256x768 .bf16} {hsrc : src.view.WordExact} {hdst : dst.view.WordExact} (hd : dst = slotOf agM k)
    {α : Type} {kk : PUnit → Prog (TpuEff nD τ sig (Elt F) Λ₀ .tc) α} {Q : α → sProp 𝕄} :
    iprop(records dat K ∗ cred (tallyAt (rCell c 0 k) () N) ∗ owesL c l ∗ atPos ER (rCell c 0 k) 0 ∅ 0)
      ⊢ iprop(((owesL c l ∗ semVal (rCell c 0 k) 0 ∗ own c (slotOf agM k) fullShare (dat 0 (fw c k) (rv k))) -∗ wpc c (kk ⟨⟩) Q)
        -∗ wpc c (.op (.waitDma2 sem src dst hsrc hdst) kk) Q) := by
  subst hd
  exact wait_xfer dat K c (false, 0, k) hl (by rw [hs]; rfl) (credit_eq 0 k)
theorem wait_rcv1 (k : Fin 3) {l : List (GSem nD τ sig × ℕ)} (hl : ∀ p ∈ l, p.1.1.2 = .tc ∧ lvS (csem (some (false, 1, k))) < lvS p.1.2)
    {sem : DmaSem sig} (hs : sem = rS 1 k) {sp' : Space} {s' : Shape} {e' : EltTy}
    {src : Memref sig .tc sp' s' e'} {dst : Memref sig .tc .vmem S2x256x768 .bf16} {hsrc : src.view.WordExact} {hdst : dst.view.WordExact} (hd : dst = slotOf rrM k)
    {α : Type} {kk : PUnit → Prog (TpuEff nD τ sig (Elt F) Λ₀ .tc) α} {Q : α → sProp 𝕄} :
    iprop(records dat K ∗ cred (tallyAt (rCell c 1 k) () N) ∗ owesL c l ∗ atPos ER (rCell c 1 k) 0 ∅ 0)
      ⊢ iprop(((owesL c l ∗ semVal (rCell c 1 k) 0 ∗ own c (slotOf rrM k) fullShare (dat 1 (fw c k) (rv k))) -∗ wpc c (kk ⟨⟩) Q)
        -∗ wpc c (.op (.waitDma2 sem src dst hsrc hdst) kk) Q) := by
  subst hd
  exact wait_xfer dat K c (false, 1, k) hl (by rw [hs]; rfl) (credit_eq 1 k)
theorem wait_snd0 (i : Fin 3) {l : List (GSem nD τ sig × ℕ)} (hl : ∀ p ∈ l, p.1.1.2 = .tc ∧ lvS (csem (some (true, 0, i))) < lvS p.1.2)
    {sem : DmaSem sig} (hs : sem = sS 0 i) {sp' : Space} {s' : Shape} {e' : EltTy}
    {src : Memref sig .tc sp' s' e'} {dst : Memref sig .tc .vmem S2x256x768 .bf16} {hsrc : src.view.WordExact} {hdst : dst.view.WordExact} (hd : dst = xM)
    {α : Type} {kk : PUnit → Prog (TpuEff nD τ sig (Elt F) Λ₀ .tc) α} {Q : α → sProp 𝕄} :
    iprop(records dat K ∗ cred (tallyAt (sCell c 0 i) () N) ∗ owesL c l ∗ atPos ER (sCell c 0 i) 0 ∅ 0)
      ⊢ iprop(((owesL c l ∗ semVal (sCell c 0 i) 0 ∗ own c xM (shr 0 i) (dat 0 c i)) -∗ wpc c (kk ⟨⟩) Q)
        -∗ wpc c (.op (.waitDma2 sem src dst hsrc hdst) kk) Q) := by
  subst hd
  have := wait_xfer (kk := kk) (Q := Q) (src := src) (hsrc := hsrc) (hdst := hdst) dat K c (true, 0, i) hl (sem := sem) (by rw [hs]; rfl) credit_x
  unfold payOf sndPay srcM at this
  exact this
theorem wait_snd1 (i : Fin 3) {l : List (GSem nD τ sig × ℕ)} (hl : ∀ p ∈ l, p.1.1.2 = .tc ∧ lvS (csem (some (true, 1, i))) < lvS p.1.2)
    {sem : DmaSem sig} (hs : sem = sS 1 i) {sp' : Space} {s' : Shape} {e' : EltTy}
    {src : Memref sig .tc sp' s' e'} {dst : Memref sig .tc .vmem S2x256x768 .bf16} {hsrc : src.view.WordExact} {hdst : dst.view.WordExact} (hd : dst = slotOf rsM i)
    {α : Type} {kk : PUnit → Prog (TpuEff nD τ sig (Elt F) Λ₀ .tc) α} {Q : α → sProp 𝕄} :
    iprop(records dat K ∗ cred (tallyAt (sCell c 1 i) () N) ∗ owesL c l ∗ atPos ER (sCell c 1 i) 0 ∅ 0)
      ⊢ iprop(((owesL c l ∗ semVal (sCell c 1 i) 0 ∗ own c (slotOf rsM i) fullShare (dat 1 c i)) -∗ wpc c (kk ⟨⟩) Q)
        -∗ wpc c (.op (.waitDma2 sem src dst hsrc hdst) kk) Q) := by
  subst hd
  have h : shr 1 i = fullShare := by fin_cases i <;> rfl
  have := wait_xfer (kk := kk) (Q := Q) (src := src) (hsrc := hsrc) (hdst := hdst) dat K c (true, 1, i) hl (sem := sem) (by rw [hs]; rfl) (show (slotOf rsM i).view.dmaCredit = N from rfl)
  unfold payOf sndPay at this
  dsimp only at this
  rw [h] at this
  exact this

theorem send0 (i : Fin 3) {n : Dev nD} (hn : n = fw c i) {l : List (GSem nD τ sig × ℕ)}
    {src : Memref sig .tc .vmem S2x256x768 .bf16} (hs : src = xM)
    {dst : Memref sig (Dev.tc n : Thread nD τ).2.kind .vmem S2x256x768 .bf16} (hd : dst = slotOf agM (rv i))
    {s1 s2 : DmaSem sig} (h1 : s1 = sS 0 i) (h2 : s2 = rS 0 (rv i))
    {hsc : dst.view.ref.isScScratch = false}
    {hsrc : src.view.WordExact} {hdst : dst.view.WordExact}
    {hsem : DmaTarget.Typed .vmem (.dma s2) (.remote (Dev.tc n : Thread nD τ) dst (.dma s1) hsc)}
    {α : Type} {Q : α → sProp 𝕄} {k : PUnit → Prog (TpuEff nD τ sig (Elt F) Λ₀ .tc) α} :
    iprop(records dat K ∗ own c xM (shr 0 i) (dat 0 c i) ∗ (∃ X, own (F := F) (fw c i) (slotOf agM (rv i)) fullShare X)
        ∗ owesL c ((rCell (fw c i) 0 (rv i), N) :: l)
        ∗ dutyTok ER (sCell c 0 i) 0 0 ∗ dutyTok ER (rCell (fw c i) 0 (rv i)) 0 0)
      ⊢ iprop(((cred (tallyAt (sCell c 0 i) () N) ∗ owesL c l) -∗ wpc c (k ⟨⟩) Q)
          -∗ wpc c (.op (.enqueueDma src (.remote (Dev.tc n : Thread nD τ) dst (.dma s1) hsc) (.dma s2) hsrc hdst hsem) k) Q) :=
  send_own dat K c 0 i hn (hs.trans rfl) (hd.trans rfl) h1 h2
theorem send1 (i : Fin 3) {n : Dev nD} (hn : n = fw c i) {l : List (GSem nD τ sig × ℕ)}
    {src : Memref sig .tc .vmem S2x256x768 .bf16} (hs : src = slotOf rsM i)
    {dst : Memref sig (Dev.tc n : Thread nD τ).2.kind .vmem S2x256x768 .bf16} (hd : dst = slotOf rrM (rv i))
    {s1 s2 : DmaSem sig} (h1 : s1 = sS 1 i) (h2 : s2 = rS 1 (rv i))
    {hsc : dst.view.ref.isScScratch = false}
    {hsrc : src.view.WordExact} {hdst : dst.view.WordExact}
    {hsem : DmaTarget.Typed .vmem (.dma s2) (.remote (Dev.tc n : Thread nD τ) dst (.dma s1) hsc)}
    {α : Type} {Q : α → sProp 𝕄} {k : PUnit → Prog (TpuEff nD τ sig (Elt F) Λ₀ .tc) α} :
    iprop(records dat K ∗ own c (slotOf rsM i) fullShare (dat 1 c i) ∗ (∃ X, own (F := F) (fw c i) (slotOf rrM (rv i)) fullShare X)
        ∗ owesL c ((rCell (fw c i) 1 (rv i), N) :: l)
        ∗ dutyTok ER (sCell c 1 i) 0 0 ∗ dutyTok ER (rCell (fw c i) 1 (rv i)) 0 0)
      ⊢ iprop(((cred (tallyAt (sCell c 1 i) () N) ∗ owesL c l) -∗ wpc c (k ⟨⟩) Q)
          -∗ wpc c (.op (.enqueueDma src (.remote (Dev.tc n : Thread nD τ) dst (.dma s1) hsc) (.dma s2) hsrc hdst hsem) k) Q) := by
  have h : shr 1 i = fullShare := by fin_cases i <;> rfl
  have := send_own (k := k) (Q := Q) (l := l) (hsc := hsc) (hsrc := hsrc) (hdst := hdst) (hsem := hsem) dat K c 1 i hn (hs.trans rfl) (hd.trans rfl) h1 h2
  rw [h] at this
  exact this

end Steps

end Cert.Rope

end
-- ==== Proof.Values.lean ====
/-
# What the buffers hold

The projected queries, keys and values of the whole sequence, the attention heads of one chunk of 256 positions,
the partial product of one device for one chunk, and the result: each as a function of the five operands on every
device. The stores of the body, one after another, leave exactly these.
-/
module

public import proofs.«01_k».proof.Proof.Rules

@[expose] public section

set_option maxRecDepth 8000

noncomputable section

namespace Cert.Rope

open Cert.KernelIdeal Cert.KernelIdeal.Gen

open Idealize.ShloMosaic
open Idealize.ShloMosaic.TcCoe Idealize.ShloMosaic.ValueIdx

variable {F : FTy → Type} [FloatOps F]

/-- The operands, by device: the rows of `x`, the columns of the three projections, the rows of the last weight. -/
structure Ins (F : FTy → Type) where
  x : Dev nD → S2x256x768.Idx → Elt F .bf16
  wq : Dev nD → S768x256.Idx → Elt F .bf16
  wk : Dev nD → S768x256.Idx → Elt F .bf16
  wv : Dev nD → S768x256.Idx → Elt F .bf16
  wo : Dev nD → S256x768.Idx → Elt F .bf16

/-- A device's number, as the program computes it. -/
abbrev wd (c : Dev nD) : BitVec 32 := Scalar.remsi (Scalar.divsi (Dev.word c) 1#32) 4#32

/-- The row and the column of a position in a square of 256. -/
abbrev rowW : IVec S256x256 32 := iota .tc S256x256 32 [0] iota_S256x256_d0_w32
abbrev colW : IVec S256x256 32 := iota .tc S256x256 32 [1] iota_S256x256_d1_w32
/-- The head width and the pair width. -/
abbrev m64 : BitVec 32 := Scalar.select (Scalar.cmpi .eq 64#32 0#32) 1#32 64#32
abbrev m2 : BitVec 32 := Scalar.select (Scalar.cmpi .eq 2#32 0#32) 1#32 2#32
/-- The frequency of each column. -/
abbrev invF : FVec F S256x256 .f32 := k0_pay4 m64 k0_pay1 k0_pay2 k0_pay3 (Scalar.cmpi .slt m64 0#32)
/-- Which columns are even. -/
abbrev evM : IVec S256x256 1 := k0_pay8 m2 (k0_pay5 colW) (k0_pay6 colW) (k0_pay7 colW)

theorem word0 : ∀ c : Dev nD, wd c = BitVec.ofNat 32 c.val := by decide +kernel
theorem word1 : ∀ c : Dev nD, Scalar.remsi (Scalar.subi (Scalar.addi (wd c) 4#32) 1#32) 4#32 = BitVec.ofNat 32 (fw c 2).val := by decide +kernel
theorem word3 : ∀ c : Dev nD, Scalar.remsi (Scalar.subi (Scalar.addi (wd c) 4#32) 3#32) 4#32 = BitVec.ofNat 32 (fw c 0).val := by decide +kernel
theorem word2 : ∀ c : Dev nD, Scalar.remsi (Scalar.subi (Scalar.addi (wd c) 4#32) 2#32) 4#32 = BitVec.ofNat 32 (fw c 1).val := by decide +kernel

/-- The queries of both batches of one chunk, rotated and scaled; the keys, rotated; the values. `w` is the chunk's number. -/
def qR (w : BitVec 32) (X : S2x256x768.Idx → Elt F .bf16) (W : S768x256.Idx → Elt F .bf16) : FVec F S512x256 .f32 :=
  k0_pay14 w rowW invF m2 (k0_pay5 colW) (k0_pay6 colW) (k0_pay7 colW) X W
def kR (w : BitVec 32) (X : S2x256x768.Idx → Elt F .bf16) (W : S768x256.Idx → Elt F .bf16) : FVec F S512x256 .f32 :=
  k0_pay17 (k0_pay10 w rowW invF) (k0_pay11 w rowW invF) (k0_pay12 m2 (k0_pay5 colW) (k0_pay6 colW) (k0_pay7 colW)) (k0_pay15 X W) (k0_pay16 X W)
def vR (X : S2x256x768.Idx → Elt F .bf16) (W : S768x256.Idx → Elt F .bf16) : FVec F S512x256 .f32 := k0_pay18 (k0_pay13 X) W

/-- The same on device `c` for chunk `o`. -/
def Ins.qRows (I : Ins F) (c o : Dev nD) : FVec F S512x256 .f32 := qR (BitVec.ofNat 32 o.val) (I.x o) (I.wq c)
def Ins.kRows (I : Ins F) (c o : Dev nD) : FVec F S512x256 .f32 := kR (BitVec.ofNat 32 o.val) (I.x o) (I.wk c)
def Ins.vRows (I : Ins F) (c o : Dev nD) : FVec F S512x256 .f32 := vR (I.x o) (I.wv c)

/-- Row `y 1` of batch `y 0` lies in chunk `y 1 / 256`. -/
def chunkOf (y : S2x1024x256.Idx) : Dev nD := ⟨(y 1).val / 256, by have h : (y 1).val < 1024 := (y 1).isLt; show _ < 4; omega⟩
def inChunk (y : S2x1024x256.Idx) : S1x256x256.Idx := ix3 (0 : Fin 1) (⟨(y 1).val % 256, Nat.mod_lt _ (by decide)⟩ : Fin 256) (y 2)

/-- A buffer of the whole sequence, given chunk by chunk and batch by batch. -/
def whole {α : Type} (g : Fin 2 → Dev nD → S1x256x256.Idx → α) : S2x1024x256.Idx → α := fun y => g (y 0) (chunkOf y) (inChunk y)

def Ins.qV (I : Ins F) (c : Dev nD) : S2x1024x256.Idx → Elt F .bf16 :=
  whole fun b o => if b.val = 0 then k0_pay19 (I.qRows c o) else k0_pay22 (I.qRows c o)
def Ins.kV (I : Ins F) (c : Dev nD) : S2x1024x256.Idx → Elt F .bf16 :=
  whole fun b o => if b.val = 0 then k0_pay19 (I.kRows c o) else k0_pay22 (I.kRows c o)
def Ins.vV (I : Ins F) (c : Dev nD) : S2x1024x256.Idx → Elt F .bf16 :=
  whole fun b o => if b.val = 0 then k0_pay19 (I.vRows c o) else k0_pay22 (I.vRows c o)

/-- The window of 64 columns of head `h` in batch `b`: 256 rows of chunk `o`, or all the rows. -/
def qWin {α : Type} (Q : S2x1024x256.Idx → α) (o : Dev nD) (b : Fin 2) (h : Fin 4) : S1x256x64.Idx → α :=
  fun z => Q (ix3 b (⟨256 * o.val + (z 1).val, by have := o.isLt; have h1 : (z 1).val < 256 := (z 1).isLt; change o.val < 4 at this; omega⟩ : Fin 1024)
    (⟨64 * h.val + (z 2).val, by have h1 : (z 2).val < 64 := (z 2).isLt; omega⟩ : Fin 256))
def aWin {α : Type} (Q : S2x1024x256.Idx → α) (b : Fin 2) (h : Fin 4) : S1x1024x64.Idx → α :=
  fun z => Q (ix3 b (z 1) (⟨64 * h.val + (z 2).val, by have h1 : (z 2).val < 64 := (z 2).isLt; omega⟩ : Fin 256))

/-- One attention head for the rows of chunk `o`. -/
def headOf (Q K V : S2x1024x256.Idx → Elt F .bf16) (o : Dev nD) (b : Fin 2) (h : Fin 4) : S256x64.Idx → Elt F .bf16 :=
  k0_pay74 (qWin Q o b h) (aWin K b h) (aWin V b h)

/-- The eight heads side by side: two batches below each other, four heads beside each other. -/
def ctxOf (Q K V : S2x1024x256.Idx → Elt F .bf16) (o : Dev nD) : S512x256.Idx → Elt F .bf16 := fun y =>
  headOf Q K V o (⟨(y 0).val / 256, by have h : (y 0).val < 512 := (y 0).isLt; omega⟩ : Fin 2)
    (⟨(y 1).val / 64, by have h : (y 1).val < 256 := (y 1).isLt; omega⟩ : Fin 4)
    (ix2 (⟨(y 0).val % 256, Nat.mod_lt _ (by decide)⟩ : Fin 256) (⟨(y 1).val % 64, Nat.mod_lt _ (by decide)⟩ : Fin 64))

def Ins.ctx (I : Ins F) (c o : Dev nD) : S512x256.Idx → Elt F .bf16 := ctxOf (I.qV c) (I.kV c) (I.vV c) o

/-- What device `c` sends for chunk `o`: its heads times its rows of the last weight. -/
def Ins.part (I : Ins F) (c o : Dev nD) : S2x256x768.Idx → Elt F .bf16 := twoB (k0_pay91 (I.ctx c o) (I.wo c)) (k0_pay92 (I.ctx c o) (I.wo c))

/-- What travels: on the first exchange the rows of `x`, on the second the partial products. -/
def Ins.dat (I : Ins F) : Fin 2 → Dev nD → Fin 3 → S2x256x768.Idx → Elt F .bf16
  | 0, c, _ => I.x c
  | 1, c, i => I.part c (fw c i)

/-- The device's own partial product, kept unrounded. -/
def Ins.own (I : Ins F) (c : Dev nD) : S2x256x768.Idx → Elt F .f32 := fun y =>
  if (y 0).val = 0 then k0_pay148 (I.ctx c c) (I.wo c) (ix3 (0 : Fin 1) (y 1) (y 2)) else k0_pay149 (I.ctx c c) (I.wo c) (ix3 (0 : Fin 1) (y 1) (y 2))

/-- The result on device `c`: its own product and the three it received. -/
def Ins.out (I : Ins F) (c : Dev nD) : S2x256x768.Idx → Elt F .f32 :=
  k0_pay152 (k0_pay150 (I.own c) (up (I.dat 1 (fw c 2) (rv 2))) (up (I.dat 1 (fw c 1) (rv 1)))) (k0_pay151 (up (I.dat 1 (fw c 0) (rv 0))))

variable (I : Ins F)

omit [FloatOps F] in
/-- A slot read through the buffer and cast back is what the slot holds. -/
theorem cast_up (X : S2x256x768.Idx → Elt F .bf16) (h : S1x2x256x768.ShapeCasts S2x256x768) : shapeCast S2x256x768 (up X) h = X := by
  funext y
  rw [eq_ix3 y]
  exact shapeCast_1abc_abc_apply (m := 2) (a := 256) (b := 768) (up X) h (y 0) (y 1) (y 2)

theorem x1 (X : S2x256x768.Idx → Elt F .bf16) : k0_pay30 (k0_pay25 (up X)) = k0_pay13 X := by
  unfold k0_pay30 k0_pay25 k0_pay13; rw [cast_up, shapeCast_self]
theorem x3 (X : S2x256x768.Idx → Elt F .bf16) : k0_pay45 (up X) = k0_pay13 X := by
  unfold k0_pay45 k0_pay13; rw [cast_up, shapeCast_self]
theorem x2 (X : S2x256x768.Idx → Elt F .bf16) : k0_pay63 (k0_pay57 (up X)) = k0_pay13 X := by
  unfold k0_pay63 k0_pay57 k0_pay13; rw [cast_up, shapeCast_self]

theorem off3_1 (c : Dev nD) : k0_off3 c 1#32 = ![0, 256 * (fw c 2).val, 0] := by
  revert c; decide +kernel
theorem off4_1 (c : Dev nD) : k0_off4 c 1#32 = ![1, 256 * (fw c 2).val, 0] := by
  revert c; decide +kernel
theorem off3_3 (c : Dev nD) : k0_off3 c 3#32 = ![0, 256 * (fw c 0).val, 0] := by
  revert c; decide +kernel
theorem off4_3 (c : Dev nD) : k0_off4 c 3#32 = ![1, 256 * (fw c 0).val, 0] := by
  revert c; decide +kernel
theorem off3_2 (c : Dev nD) : k0_off3 c 2#32 = ![0, 256 * (fw c 1).val, 0] := by
  revert c; decide +kernel
theorem off4_2 (c : Dev nD) : k0_off4 c 2#32 = ![1, 256 * (fw c 1).val, 0] := by
  revert c; decide +kernel

/-- The four chunks are all of them. -/
theorem cover : ∀ c o : Dev nD, o = c ∨ o = fw c 2 ∨ o = fw c 0 ∨ o = fw c 1 := by decide +kernel

section Put
variable {α : Type}

/-- One store of a chunk of a function of the whole sequence. -/
theorem put_chunk (X : S2x1024x256.Idx → α) (g : Fin 2 → Dev nD → S1x256x256.Idx → α) {off : Fin 3 → ℕ} (b : Fin 2) (o : Dev nD)
    (h : off = ![b.val, 256 * o.val, 0]) (y : S2x1024x256.Idx) :
    VecWindow.put X off S1x256x256.size (g b o) y = if (y 0).val = b.val ∧ (chunkOf y).val = o.val then whole g y else X y := by
  subst h
  unfold VecWindow.put
  have h0 : (y 0).val < 2 := (y 0).isLt
  have h1 : (y 1).val < 1024 := (y 1).isLt
  have h2 : (y 2).val < 256 := (y 2).isLt
  by_cases hc : (y 0).val = b.val ∧ (chunkOf y).val = o.val
  · obtain ⟨hb', ho'⟩ := hc
    rw [if_pos ⟨hb', ho'⟩]
    have hb : y 0 = b := Fin.ext hb'
    have ho : chunkOf y = o := Fin.ext ho'
    change (y 1).val / 256 = o.val at ho'
    refine (dif_pos ?_).trans ?_
    · intro a
      fin_cases a
      · show b.val ≤ (y 0).val ∧ (y 0).val < b.val + 1; omega
      · show 256 * o.val ≤ (y 1).val ∧ (y 1).val < 256 * o.val + 256; omega
      · show 0 ≤ (y 2).val ∧ (y 2).val < 0 + 256; omega
    · unfold whole
      refine Eq.trans (congrArg (g b o) ?_) (congrArg₂ (fun (b' : Fin 2) (o' : Dev nD) => g b' o' (inChunk y)) hb ho).symm
      funext a
      apply Fin.ext
      rw [Rect.unitLocal_val]
      fin_cases a
      · show (y 0).val - b.val = 0; omega
      · show (y 1).val - 256 * o.val = (y 1).val % 256; omega
      · show (y 2).val - 0 = (y 2).val; omega
  · rw [if_neg hc]
    refine dif_neg fun hh => hc ?_
    have a0 : b.val ≤ (y 0).val ∧ (y 0).val < b.val + 1 := hh 0
    have a1 : 256 * o.val ≤ (y 1).val ∧ (y 1).val < 256 * o.val + 256 := hh 1
    exact ⟨by omega, by show (y 1).val / 256 = o.val; omega⟩

/-- Eight stores, two for each chunk, leave the whole function. -/
theorem fill (X : S2x1024x256.Idx → α) (g : Fin 2 → Dev nD → S1x256x256.Idx → α) (o1 o2 o3 o4 : Dev nD)
    (hc : ∀ o : Dev nD, o = o1 ∨ o = o2 ∨ o = o3 ∨ o = o4) {f1 f1' f2 f2' f3 f3' f4 f4' : Fin 3 → ℕ}
    (h1 : f1 = ![0, 256 * o1.val, 0]) (h1' : f1' = ![1, 256 * o1.val, 0]) (h2 : f2 = ![0, 256 * o2.val, 0]) (h2' : f2' = ![1, 256 * o2.val, 0])
    (h3 : f3 = ![0, 256 * o3.val, 0]) (h3' : f3' = ![1, 256 * o3.val, 0]) (h4 : f4 = ![0, 256 * o4.val, 0]) (h4' : f4' = ![1, 256 * o4.val, 0]) :
    VecWindow.put (VecWindow.put (VecWindow.put (VecWindow.put (VecWindow.put (VecWindow.put (VecWindow.put (VecWindow.put X
      f1 S1x256x256.size (g 0 o1)) f1' S1x256x256.size (g 1 o1)) f2 S1x256x256.size (g 0 o2)) f2' S1x256x256.size (g 1 o2))
      f3 S1x256x256.size (g 0 o3)) f3' S1x256x256.size (g 1 o3)) f4 S1x256x256.size (g 0 o4)) f4' S1x256x256.size (g 1 o4) = whole g := by
  funext y
  rw [put_chunk _ g 1 o4 h4', put_chunk _ g 0 o4 h4, put_chunk _ g 1 o3 h3', put_chunk _ g 0 o3 h3, put_chunk _ g 1 o2 h2', put_chunk _ g 0 o2 h2,
    put_chunk _ g 1 o1 h1', put_chunk _ g 0 o1 h1]
  have h0 : (y 0).val < 2 := (y 0).isLt
  have e0 : (0 : Fin 2).val = 0 := rfl
  have e1 : (1 : Fin 2).val = 1 := rfl
  rw [e0, e1]
  have hb : (y 0).val = 0 ∨ (y 0).val = 1 := by omega
  split_ifs
  all_goals first
    | rfl
    | (exfalso; rcases hb with hb | hb <;> rcases hc (chunkOf y) with h | h | h | h <;> simp_all)

/-- One store of a head. -/
theorem put_head (X : S512x256.Idx → α) (g : Fin 2 → Fin 4 → S256x64.Idx → α) {off : Fin 2 → ℕ} (b : Fin 2) (h : Fin 4)
    (hoff : off = ![256 * b.val, 64 * h.val]) (y : S512x256.Idx) :
    VecWindow.put X off S256x64.size (g b h) y = if (y 0).val / 256 = b.val ∧ (y 1).val / 64 = h.val then
      g b h (ix2 (⟨(y 0).val % 256, Nat.mod_lt _ (by decide)⟩ : Fin 256) (⟨(y 1).val % 64, Nat.mod_lt _ (by decide)⟩ : Fin 64)) else X y := by
  subst hoff
  unfold VecWindow.put
  by_cases hc : (y 0).val / 256 = b.val ∧ (y 1).val / 64 = h.val
  · obtain ⟨hb, ho⟩ := hc
    rw [if_pos ⟨hb, ho⟩]
    refine (dif_pos ?_).trans ?_
    · intro a
      fin_cases a
      · show 256 * b.val ≤ (y 0).val ∧ (y 0).val < 256 * b.val + 256; omega
      · show 64 * h.val ≤ (y 1).val ∧ (y 1).val < 64 * h.val + 64; omega
    · refine congrArg (g b h) ?_
      funext a
      apply Fin.ext
      rw [Rect.unitLocal_val]
      fin_cases a
      · show (y 0).val - 256 * b.val = (y 0).val % 256; omega
      · show (y 1).val - 64 * h.val = (y 1).val % 64; omega
  · rw [if_neg hc]
    refine dif_neg fun hh => hc ?_
    have a0 : 256 * b.val ≤ (y 0).val ∧ (y 0).val < 256 * b.val + 256 := hh 0
    have a1 : 64 * h.val ≤ (y 1).val ∧ (y 1).val < 64 * h.val + 64 := hh 1
    omega

/-- A window of 64 columns, at the offsets of a head. -/
theorem window_q (Q : S2x1024x256.Idx → α) {off : Fin 3 → ℕ} (o : Dev nD) (b : Fin 2) (h : Fin 4) (hoff : off = ![b.val, 256 * o.val, 64 * h.val])
    (inb : ∀ a, off a + S1x256x64.size a ≤ S2x1024x256.size a) : VecWindow.window Q off S1x256x64.size inb = qWin Q o b h := by
  subst hoff
  funext z
  refine congrArg Q ?_
  have hz : (z 0).val = 0 := by have h0 : (z 0).val < 1 := (z 0).isLt; omega
  funext a
  apply Fin.ext
  rw [Rect.emb_apply]
  fin_cases a
  · show b.val + 1 * (z 0).val = b.val; omega
  · show 256 * o.val + 1 * (z 1).val = 256 * o.val + (z 1).val; omega
  · show 64 * h.val + 1 * (z 2).val = 64 * h.val + (z 2).val; omega

theorem window_a (Q : S2x1024x256.Idx → α) {off : Fin 3 → ℕ} (b : Fin 2) (h : Fin 4) (hoff : off = ![b.val, 0, 64 * h.val])
    (inb : ∀ a, off a + S1x1024x64.size a ≤ S2x1024x256.size a) : VecWindow.window Q off S1x1024x64.size inb = aWin Q b h := by
  subst hoff
  funext z
  refine congrArg Q ?_
  have hz : (z 0).val = 0 := by have h0 : (z 0).val < 1 := (z 0).isLt; omega
  funext a
  apply Fin.ext
  rw [Rect.emb_apply]
  fin_cases a
  · show b.val + 1 * (z 0).val = b.val; omega
  · show 0 + 1 * (z 1).val = (z 1).val; omega
  · show 64 * h.val + 1 * (z 2).val = 64 * h.val + (z 2).val; omega

end Put

/-- Eight stores of heads leave all of them. -/
theorem heads8 (Q K V : S2x1024x256.Idx → Elt F .bf16) (Y : S512x256.Idx → Elt F .bf16) (o : Dev nD) {f00 f01 f02 f03 f10 f11 f12 f13 : Fin 3 → ℕ}
    (h00 : f00 = ![0, 256 * o.val, 0]) (h01 : f01 = ![0, 256 * o.val, 64]) (h02 : f02 = ![0, 256 * o.val, 128]) (h03 : f03 = ![0, 256 * o.val, 192])
    (h10 : f10 = ![1, 256 * o.val, 0]) (h11 : f11 = ![1, 256 * o.val, 64]) (h12 : f12 = ![1, 256 * o.val, 128]) (h13 : f13 = ![1, 256 * o.val, 192])
    {i00 : ∀ a, f00 a + S1x256x64.size a ≤ S2x1024x256.size a} {i01 : ∀ a, f01 a + S1x256x64.size a ≤ S2x1024x256.size a}
    {i02 : ∀ a, f02 a + S1x256x64.size a ≤ S2x1024x256.size a} {i03 : ∀ a, f03 a + S1x256x64.size a ≤ S2x1024x256.size a}
    {i10 : ∀ a, f10 a + S1x256x64.size a ≤ S2x1024x256.size a} {i11 : ∀ a, f11 a + S1x256x64.size a ≤ S2x1024x256.size a}
    {i12 : ∀ a, f12 a + S1x256x64.size a ≤ S2x1024x256.size a} {i13 : ∀ a, f13 a + S1x256x64.size a ≤ S2x1024x256.size a} :
    VecWindow.put (VecWindow.put (VecWindow.put (VecWindow.put (VecWindow.put (VecWindow.put (VecWindow.put (VecWindow.put Y
      ![0, 0] S256x64.size (k0_pay74 (VecWindow.window Q f00 S1x256x64.size i00) (VecWindow.window K ![0, 0, 0] S1x1024x64.size inb_S2x1024x256_S1x1024x64_0_0_0) (VecWindow.window V ![0, 0, 0] S1x1024x64.size inb_S2x1024x256_S1x1024x64_0_0_0)))
      ![0, 64] S256x64.size (k0_pay74 (VecWindow.window Q f01 S1x256x64.size i01) (VecWindow.window K ![0, 0, 64] S1x1024x64.size inb_S2x1024x256_S1x1024x64_0_0_64) (VecWindow.window V ![0, 0, 64] S1x1024x64.size inb_S2x1024x256_S1x1024x64_0_0_64)))
      ![0, 128] S256x64.size (k0_pay74 (VecWindow.window Q f02 S1x256x64.size i02) (VecWindow.window K ![0, 0, 128] S1x1024x64.size inb_S2x1024x256_S1x1024x64_0_0_128) (VecWindow.window V ![0, 0, 128] S1x1024x64.size inb_S2x1024x256_S1x1024x64_0_0_128)))
      ![0, 192] S256x64.size (k0_pay74 (VecWindow.window Q f03 S1x256x64.size i03) (VecWindow.window K ![0, 0, 192] S1x1024x64.size inb_S2x1024x256_S1x1024x64_0_0_192) (VecWindow.window V ![0, 0, 192] S1x1024x64.size inb_S2x1024x256_S1x1024x64_0_0_192)))
      ![256, 0] S256x64.size (k0_pay74 (VecWindow.window Q f10 S1x256x64.size i10) (VecWindow.window K ![1, 0, 0] S1x1024x64.size inb_S2x1024x256_S1x1024x64_1_0_0) (VecWindow.window V ![1, 0, 0] S1x1024x64.size inb_S2x1024x256_S1x1024x64_1_0_0)))
      ![256, 64] S256x64.size (k0_pay74 (VecWindow.window Q f11 S1x256x64.size i11) (VecWindow.window K ![1, 0, 64] S1x1024x64.size inb_S2x1024x256_S1x1024x64_1_0_64) (VecWindow.window V ![1, 0, 64] S1x1024x64.size inb_S2x1024x256_S1x1024x64_1_0_64)))
      ![256, 128] S256x64.size (k0_pay74 (VecWindow.window Q f12 S1x256x64.size i12) (VecWindow.window K ![1, 0, 128] S1x1024x64.size inb_S2x1024x256_S1x1024x64_1_0_128) (VecWindow.window V ![1, 0, 128] S1x1024x64.size inb_S2x1024x256_S1x1024x64_1_0_128)))
      ![256, 192] S256x64.size (k0_pay74 (VecWindow.window Q f13 S1x256x64.size i13) (VecWindow.window K ![1, 0, 192] S1x1024x64.size inb_S2x1024x256_S1x1024x64_1_0_192) (VecWindow.window V ![1, 0, 192] S1x1024x64.size inb_S2x1024x256_S1x1024x64_1_0_192))
      = ctxOf Q K V o := by
  rw [window_q Q o 0 0 h00, window_q Q o 0 1 h01, window_q Q o 0 2 h02, window_q Q o 0 3 h03, window_q Q o 1 0 h10, window_q Q o 1 1 h11,
    window_q Q o 1 2 h12, window_q Q o 1 3 h13, window_a K (off := ![0, 0, 0]) 0 0 rfl, window_a K (off := ![0, 0, 64]) 0 1 rfl, window_a K (off := ![0, 0, 128]) 0 2 rfl, window_a K (off := ![0, 0, 192]) 0 3 rfl,
    window_a K (off := ![1, 0, 0]) 1 0 rfl, window_a K (off := ![1, 0, 64]) 1 1 rfl, window_a K (off := ![1, 0, 128]) 1 2 rfl, window_a K (off := ![1, 0, 192]) 1 3 rfl, window_a V (off := ![0, 0, 0]) 0 0 rfl, window_a V (off := ![0, 0, 64]) 0 1 rfl, window_a V (off := ![0, 0, 128]) 0 2 rfl,
    window_a V (off := ![0, 0, 192]) 0 3 rfl, window_a V (off := ![1, 0, 0]) 1 0 rfl, window_a V (off := ![1, 0, 64]) 1 1 rfl, window_a V (off := ![1, 0, 128]) 1 2 rfl, window_a V (off := ![1, 0, 192]) 1 3 rfl]
  funext y
  have hp := fun (X : S512x256.Idx → Elt F .bf16) (off : Fin 2 → ℕ) (b : Fin 2) (h : Fin 4) (hoff : off = ![256 * b.val, 64 * h.val]) =>
    put_head X (headOf Q K V o) b h hoff y
  refine (hp _ _ 1 3 rfl).trans ?_
  have h0 : (y 0).val < 512 := (y 0).isLt
  have h1 : (y 1).val < 256 := (y 1).isLt
  have here : ∀ (b : Fin 2) (h : Fin 4), (y 0).val / 256 = b.val → (y 1).val / 64 = h.val → headOf Q K V o b h
      (ix2 (⟨(y 0).val % 256, Nat.mod_lt _ (by decide)⟩ : Fin 256) (⟨(y 1).val % 64, Nat.mod_lt _ (by decide)⟩ : Fin 64)) = ctxOf Q K V o y := by
    intro b h hb hh
    have eb : (⟨(y 0).val / 256, by omega⟩ : Fin 2) = b := Fin.ext hb
    have eh : (⟨(y 1).val / 64, by omega⟩ : Fin 4) = h := Fin.ext hh
    rw [← eb, ← eh]
    rfl
  by_cases c7 : (y 0).val / 256 = (1 : Fin 2).val ∧ (y 1).val / 64 = (3 : Fin 4).val
  · rw [if_pos c7]; exact here _ _ c7.1 c7.2
  rw [if_neg c7]; refine (hp _ _ 1 2 rfl).trans ?_
  by_cases c6 : (y 0).val / 256 = (1 : Fin 2).val ∧ (y 1).val / 64 = (2 : Fin 4).val
  · rw [if_pos c6]; exact here _ _ c6.1 c6.2
  rw [if_neg c6]; refine (hp _ _ 1 1 rfl).trans ?_
  by_cases c5 : (y 0).val / 256 = (1 : Fin 2).val ∧ (y 1).val / 64 = (1 : Fin 4).val
  · rw [if_pos c5]; exact here _ _ c5.1 c5.2
  rw [if_neg c5]; refine (hp _ _ 1 0 rfl).trans ?_
  by_cases c4 : (y 0).val / 256 = (1 : Fin 2).val ∧ (y 1).val / 64 = (0 : Fin 4).val
  · rw [if_pos c4]; exact here _ _ c4.1 c4.2
  rw [if_neg c4]; refine (hp _ _ 0 3 rfl).trans ?_
  by_cases c3 : (y 0).val / 256 = (0 : Fin 2).val ∧ (y 1).val / 64 = (3 : Fin 4).val
  · rw [if_pos c3]; exact here _ _ c3.1 c3.2
  rw [if_neg c3]; refine (hp _ _ 0 2 rfl).trans ?_
  by_cases c2 : (y 0).val / 256 = (0 : Fin 2).val ∧ (y 1).val / 64 = (2 : Fin 4).val
  · rw [if_pos c2]; exact here _ _ c2.1 c2.2
  rw [if_neg c2]; refine (hp _ _ 0 1 rfl).trans ?_
  by_cases c1 : (y 0).val / 256 = (0 : Fin 2).val ∧ (y 1).val / 64 = (1 : Fin 4).val
  · rw [if_pos c1]; exact here _ _ c1.1 c1.2
  rw [if_neg c1]; refine (hp _ _ 0 0 rfl).trans ?_
  by_cases c0 : (y 0).val / 256 = (0 : Fin 2).val ∧ (y 1).val / 64 = (0 : Fin 4).val
  · rw [if_pos c0]; exact here _ _ c0.1 c0.2
  exfalso
  have e0 : (0 : Fin 2).val = 0 := rfl
  have e1 : (1 : Fin 2).val = 1 := rfl
  have d0 : (0 : Fin 4).val = 0 := rfl
  have d1 : (1 : Fin 4).val = 1 := rfl
  have d2 : (2 : Fin 4).val = 2 := rfl
  have d3 : (3 : Fin 4).val = 3 := rfl
  rw [e0, d0] at c0; rw [e0, d1] at c1; rw [e0, d2] at c2; rw [e0, d3] at c3
  rw [e1, d0] at c4; rw [e1, d1] at c5; rw [e1, d2] at c6; rw [e1, d3] at c7
  omega

theorem qpay0 (c : Dev nD) : (k0_pay19 (k0_pay14 (wd c) rowW invF m2 (k0_pay5 colW) (k0_pay6 colW) (k0_pay7 colW) (I.x c) (I.wq c))) = k0_pay19 (I.qRows c c) := by
  unfold Ins.qRows qR
  rw [← word0 c]

theorem qpay1 (c : Dev nD) : (k0_pay22 (k0_pay14 (wd c) rowW invF m2 (k0_pay5 colW) (k0_pay6 colW) (k0_pay7 colW) (I.x c) (I.wq c))) = k0_pay22 (I.qRows c c) := by
  unfold Ins.qRows qR
  rw [← word0 c]

theorem qpay2 (c : Dev nD) : (k0_pay34 (k0_pay25 (up (I.dat 0 (fw c 2) (rv 2)))) (k0_pay27 (wd c) rowW invF) (k0_pay28 (wd c) rowW invF) (k0_pay29 evM) (I.wq c)) = k0_pay19 (I.qRows c (fw c 2)) := by
  have h := x1 (I.x (fw c 2))
  unfold Ins.qRows qR
  rw [← word1 c]
  unfold k0_pay14
  rw [← h]
  rfl

theorem qpay3 (c : Dev nD) : (k0_pay38 (k0_pay31 (k0_pay25 (up (I.dat 0 (fw c 2) (rv 2)))) (k0_pay27 (wd c) rowW invF) (k0_pay28 (wd c) rowW invF) (k0_pay29 evM) (I.wq c))) = k0_pay22 (I.qRows c (fw c 2)) := by
  have h := x1 (I.x (fw c 2))
  unfold Ins.qRows qR
  rw [← word1 c]
  unfold k0_pay14
  rw [← h]
  rfl

theorem qpay4 (c : Dev nD) : (k0_pay50 (k0_pay46 (wd c) rowW invF evM (up (I.dat 0 (fw c 0) (rv 0))) (I.wq c))) = k0_pay19 (I.qRows c (fw c 0)) := by
  have h := x3 (I.x (fw c 0))
  unfold Ins.qRows qR
  rw [← word3 c]
  unfold k0_pay14
  rw [← h]
  rfl

theorem qpay5 (c : Dev nD) : (k0_pay54 (k0_pay53 (k0_pay46 (wd c) rowW invF evM (up (I.dat 0 (fw c 0) (rv 0))) (I.wq c)))) = k0_pay22 (I.qRows c (fw c 0)) := by
  have h := x3 (I.x (fw c 0))
  unfold Ins.qRows qR
  rw [← word3 c]
  unfold k0_pay14
  rw [← h]
  rfl

theorem qpay6 (c : Dev nD) : (k0_pay68 (k0_pay67 evM (k0_pay57 (up (I.dat 0 (fw c 1) (rv 1)))) (k0_pay58 (wd c) rowW invF) (k0_pay59 (wd c) rowW invF) (I.wq c))) = k0_pay19 (I.qRows c (fw c 1)) := by
  have h := x2 (I.x (fw c 1))
  unfold Ins.qRows qR
  rw [← word2 c]
  unfold k0_pay14
  rw [← h]
  rfl

theorem qpay7 (c : Dev nD) : (k0_pay71 (k0_pay64 evM (k0_pay57 (up (I.dat 0 (fw c 1) (rv 1)))) (k0_pay58 (wd c) rowW invF) (k0_pay59 (wd c) rowW invF) (I.wq c))) = k0_pay22 (I.qRows c (fw c 1)) := by
  have h := x2 (I.x (fw c 1))
  unfold Ins.qRows qR
  rw [← word2 c]
  unfold k0_pay14
  rw [← h]
  rfl

theorem kpay0 (c : Dev nD) : (k0_pay20 (k0_pay10 (wd c) rowW invF) (k0_pay11 (wd c) rowW invF) (k0_pay12 m2 (k0_pay5 colW) (k0_pay6 colW) (k0_pay7 colW)) (k0_pay15 (I.x c) (I.wk c)) (k0_pay16 (I.x c) (I.wk c))) = k0_pay19 (I.kRows c c) := by
  unfold Ins.kRows kR
  rw [← word0 c]
  rfl

theorem kpay1 (c : Dev nD) : (k0_pay23 (k0_pay17 (k0_pay10 (wd c) rowW invF) (k0_pay11 (wd c) rowW invF) (k0_pay12 m2 (k0_pay5 colW) (k0_pay6 colW) (k0_pay7 colW)) (k0_pay15 (I.x c) (I.wk c)) (k0_pay16 (I.x c) (I.wk c)))) = k0_pay22 (I.kRows c c) := by
  unfold Ins.kRows kR
  rw [← word0 c]
  rfl

theorem kpay2 (c : Dev nD) : (k0_pay36 (k0_pay35 (k0_pay25 (up (I.dat 0 (fw c 2) (rv 2)))) (k0_pay27 (wd c) rowW invF) (k0_pay28 (wd c) rowW invF) (k0_pay29 evM) (I.wk c))) = k0_pay19 (I.kRows c (fw c 2)) := by
  have h := x1 (I.x (fw c 2))
  unfold Ins.kRows kR
  rw [← word1 c]
  unfold k0_pay16 k0_pay15
  rw [← h]
  rfl

theorem kpay3 (c : Dev nD) : (k0_pay39 (k0_pay32 (k0_pay25 (up (I.dat 0 (fw c 2) (rv 2)))) (k0_pay27 (wd c) rowW invF) (k0_pay28 (wd c) rowW invF) (k0_pay29 evM) (I.wk c))) = k0_pay22 (I.kRows c (fw c 2)) := by
  have h := x1 (I.x (fw c 2))
  unfold Ins.kRows kR
  rw [← word1 c]
  unfold k0_pay16 k0_pay15
  rw [← h]
  rfl

theorem kpay4 (c : Dev nD) : (k0_pay51 (k0_pay42 (wd c) rowW invF) (k0_pay43 (wd c) rowW invF) (k0_pay44 evM) (k0_pay45 (up (I.dat 0 (fw c 0) (rv 0)))) (k0_pay47 (I.wk c)) (constant S512x256 .f32 0x00000000#32)) = k0_pay19 (I.kRows c (fw c 0)) := by
  have h := x3 (I.x (fw c 0))
  unfold Ins.kRows kR
  rw [← word3 c]
  unfold k0_pay16 k0_pay15
  rw [← h]
  rfl

theorem kpay5 (c : Dev nD) : (k0_pay55 (k0_pay48 (k0_pay42 (wd c) rowW invF) (k0_pay43 (wd c) rowW invF) (k0_pay44 evM) (k0_pay45 (up (I.dat 0 (fw c 0) (rv 0)))) (k0_pay47 (I.wk c)) (constant S512x256 .f32 0x00000000#32))) = k0_pay22 (I.kRows c (fw c 0)) := by
  have h := x3 (I.x (fw c 0))
  unfold Ins.kRows kR
  rw [← word3 c]
  unfold k0_pay16 k0_pay15
  rw [← h]
  rfl

theorem kpay6 (c : Dev nD) : (k0_pay69 (k0_pay65 evM (k0_pay57 (up (I.dat 0 (fw c 1) (rv 1)))) (k0_pay58 (wd c) rowW invF) (k0_pay59 (wd c) rowW invF) (I.wk c))) = k0_pay19 (I.kRows c (fw c 1)) := by
  have h := x2 (I.x (fw c 1))
  unfold Ins.kRows kR
  rw [← word2 c]
  unfold k0_pay16 k0_pay15
  rw [← h]
  rfl

theorem kpay7 (c : Dev nD) : (k0_pay72 (k0_pay65 evM (k0_pay57 (up (I.dat 0 (fw c 1) (rv 1)))) (k0_pay58 (wd c) rowW invF) (k0_pay59 (wd c) rowW invF) (I.wk c))) = k0_pay22 (I.kRows c (fw c 1)) := by
  have h := x2 (I.x (fw c 1))
  unfold Ins.kRows kR
  rw [← word2 c]
  unfold k0_pay16 k0_pay15
  rw [← h]
  rfl

theorem vpay0 (c : Dev nD) : (k0_pay21 (k0_pay13 (I.x c)) (I.wv c)) = k0_pay19 (I.vRows c c) := by
  unfold Ins.vRows vR
  rfl

theorem vpay1 (c : Dev nD) : (k0_pay24 (k0_pay18 (k0_pay13 (I.x c)) (I.wv c))) = k0_pay22 (I.vRows c c) := by
  unfold Ins.vRows vR
  rfl

theorem vpay2 (c : Dev nD) : (k0_pay37 (k0_pay33 (k0_pay25 (up (I.dat 0 (fw c 2) (rv 2)))) (I.wv c))) = k0_pay19 (I.vRows c (fw c 2)) := by
  have h := x1 (I.x (fw c 2))
  unfold Ins.vRows vR
  rw [← h]
  rfl

theorem vpay3 (c : Dev nD) : (k0_pay40 (k0_pay33 (k0_pay25 (up (I.dat 0 (fw c 2) (rv 2)))) (I.wv c))) = k0_pay22 (I.vRows c (fw c 2)) := by
  have h := x1 (I.x (fw c 2))
  unfold Ins.vRows vR
  rw [← h]
  rfl

theorem vpay4 (c : Dev nD) : (k0_pay52 (k0_pay45 (up (I.dat 0 (fw c 0) (rv 0)))) (I.wv c)) = k0_pay19 (I.vRows c (fw c 0)) := by
  have h := x3 (I.x (fw c 0))
  unfold Ins.vRows vR
  rw [← h]
  rfl

theorem vpay5 (c : Dev nD) : (k0_pay56 (k0_pay49 (k0_pay45 (up (I.dat 0 (fw c 0) (rv 0)))) (I.wv c))) = k0_pay22 (I.vRows c (fw c 0)) := by
  have h := x3 (I.x (fw c 0))
  unfold Ins.vRows vR
  rw [← h]
  rfl

theorem vpay6 (c : Dev nD) : (k0_pay70 (k0_pay66 (k0_pay57 (up (I.dat 0 (fw c 1) (rv 1)))) (I.wv c))) = k0_pay19 (I.vRows c (fw c 1)) := by
  have h := x2 (I.x (fw c 1))
  unfold Ins.vRows vR
  rw [← h]
  rfl

theorem vpay7 (c : Dev nD) : (k0_pay73 (k0_pay66 (k0_pay57 (up (I.dat 0 (fw c 1) (rv 1)))) (I.wv c))) = k0_pay22 (I.vRows c (fw c 1)) := by
  have h := x2 (I.x (fw c 1))
  unfold Ins.vRows vR
  rw [← h]
  rfl

/-- The eight stores of the projected rows fill the whole buffer. -/
theorem q_fill (c : Dev nD) (Y7 : S2x1024x256.Idx → Elt F .bf16) :
    VecWindow.put (VecWindow.put (VecWindow.put (VecWindow.put (VecWindow.put (VecWindow.put (VecWindow.put (VecWindow.put Y7 (k0_off1 c) S1x256x256.size (k0_pay19 (k0_pay14 (wd c) rowW invF m2 (k0_pay5 colW) (k0_pay6 colW) (k0_pay7 colW) (I.x c) (I.wq c)))) (k0_off2 c) S1x256x256.size (k0_pay22 (k0_pay14 (wd c) rowW invF m2 (k0_pay5 colW) (k0_pay6 colW) (k0_pay7 colW) (I.x c) (I.wq c)))) (k0_off3 c 1#32) S1x256x256.size (k0_pay34 (k0_pay25 (up (I.dat 0 (fw c 2) (rv 2)))) (k0_pay27 (wd c) rowW invF) (k0_pay28 (wd c) rowW invF) (k0_pay29 evM) (I.wq c))) (k0_off4 c 1#32) S1x256x256.size (k0_pay38 (k0_pay31 (k0_pay25 (up (I.dat 0 (fw c 2) (rv 2)))) (k0_pay27 (wd c) rowW invF) (k0_pay28 (wd c) rowW invF) (k0_pay29 evM) (I.wq c)))) (k0_off3 c 3#32) S1x256x256.size (k0_pay50 (k0_pay46 (wd c) rowW invF evM (up (I.dat 0 (fw c 0) (rv 0))) (I.wq c)))) (k0_off4 c 3#32) S1x256x256.size (k0_pay54 (k0_pay53 (k0_pay46 (wd c) rowW invF evM (up (I.dat 0 (fw c 0) (rv 0))) (I.wq c))))) (k0_off3 c 2#32) S1x256x256.size (k0_pay68 (k0_pay67 evM (k0_pay57 (up (I.dat 0 (fw c 1) (rv 1)))) (k0_pay58 (wd c) rowW invF) (k0_pay59 (wd c) rowW invF) (I.wq c)))) (k0_off4 c 2#32) S1x256x256.size (k0_pay71 (k0_pay64 evM (k0_pay57 (up (I.dat 0 (fw c 1) (rv 1)))) (k0_pay58 (wd c) rowW invF) (k0_pay59 (wd c) rowW invF) (I.wq c))) = I.qV c := by
  rw [qpay0, qpay1, qpay2, qpay3, qpay4, qpay5, qpay6, qpay7]
  exact fill _ (fun b o => if b.val = 0 then k0_pay19 (I.qRows c o) else k0_pay22 (I.qRows c o)) c (fw c 2) (fw c 0) (fw c 1) (cover c)
    (k0_off1_eq c) (k0_off2_eq c) (off3_1 c) (off4_1 c) (off3_3 c) (off4_3 c) (off3_2 c) (off4_2 c)

/-- The eight stores of the projected rows fill the whole buffer. -/
theorem k_fill (c : Dev nD) (Y8 : S2x1024x256.Idx → Elt F .bf16) :
    VecWindow.put (VecWindow.put (VecWindow.put (VecWindow.put (VecWindow.put (VecWindow.put (VecWindow.put (VecWindow.put Y8 (k0_off1 c) S1x256x256.size (k0_pay20 (k0_pay10 (wd c) rowW invF) (k0_pay11 (wd c) rowW invF) (k0_pay12 m2 (k0_pay5 colW) (k0_pay6 colW) (k0_pay7 colW)) (k0_pay15 (I.x c) (I.wk c)) (k0_pay16 (I.x c) (I.wk c)))) (k0_off2 c) S1x256x256.size (k0_pay23 (k0_pay17 (k0_pay10 (wd c) rowW invF) (k0_pay11 (wd c) rowW invF) (k0_pay12 m2 (k0_pay5 colW) (k0_pay6 colW) (k0_pay7 colW)) (k0_pay15 (I.x c) (I.wk c)) (k0_pay16 (I.x c) (I.wk c))))) (k0_off3 c 1#32) S1x256x256.size (k0_pay36 (k0_pay35 (k0_pay25 (up (I.dat 0 (fw c 2) (rv 2)))) (k0_pay27 (wd c) rowW invF) (k0_pay28 (wd c) rowW invF) (k0_pay29 evM) (I.wk c)))) (k0_off4 c 1#32) S1x256x256.size (k0_pay39 (k0_pay32 (k0_pay25 (up (I.dat 0 (fw c 2) (rv 2)))) (k0_pay27 (wd c) rowW invF) (k0_pay28 (wd c) rowW invF) (k0_pay29 evM) (I.wk c)))) (k0_off3 c 3#32) S1x256x256.size (k0_pay51 (k0_pay42 (wd c) rowW invF) (k0_pay43 (wd c) rowW invF) (k0_pay44 evM) (k0_pay45 (up (I.dat 0 (fw c 0) (rv 0)))) (k0_pay47 (I.wk c)) (constant S512x256 .f32 0x00000000#32))) (k0_off4 c 3#32) S1x256x256.size (k0_pay55 (k0_pay48 (k0_pay42 (wd c) rowW invF) (k0_pay43 (wd c) rowW invF) (k0_pay44 evM) (k0_pay45 (up (I.dat 0 (fw c 0) (rv 0)))) (k0_pay47 (I.wk c)) (constant S512x256 .f32 0x00000000#32)))) (k0_off3 c 2#32) S1x256x256.size (k0_pay69 (k0_pay65 evM (k0_pay57 (up (I.dat 0 (fw c 1) (rv 1)))) (k0_pay58 (wd c) rowW invF) (k0_pay59 (wd c) rowW invF) (I.wk c)))) (k0_off4 c 2#32) S1x256x256.size (k0_pay72 (k0_pay65 evM (k0_pay57 (up (I.dat 0 (fw c 1) (rv 1)))) (k0_pay58 (wd c) rowW invF) (k0_pay59 (wd c) rowW invF) (I.wk c))) = I.kV c := by
  rw [kpay0, kpay1, kpay2, kpay3, kpay4, kpay5, kpay6, kpay7]
  exact fill _ (fun b o => if b.val = 0 then k0_pay19 (I.kRows c o) else k0_pay22 (I.kRows c o)) c (fw c 2) (fw c 0) (fw c 1) (cover c)
    (k0_off1_eq c) (k0_off2_eq c) (off3_1 c) (off4_1 c) (off3_3 c) (off4_3 c) (off3_2 c) (off4_2 c)

/-- The eight stores of the projected rows fill the whole buffer. -/
theorem v_fill (c : Dev nD) (Y9 : S2x1024x256.Idx → Elt F .bf16) :
    VecWindow.put (VecWindow.put (VecWindow.put (VecWindow.put (VecWindow.put (VecWindow.put (VecWindow.put (VecWindow.put Y9 (k0_off1 c) S1x256x256.size (k0_pay21 (k0_pay13 (I.x c)) (I.wv c))) (k0_off2 c) S1x256x256.size (k0_pay24 (k0_pay18 (k0_pay13 (I.x c)) (I.wv c)))) (k0_off3 c 1#32) S1x256x256.size (k0_pay37 (k0_pay33 (k0_pay25 (up (I.dat 0 (fw c 2) (rv 2)))) (I.wv c)))) (k0_off4 c 1#32) S1x256x256.size (k0_pay40 (k0_pay33 (k0_pay25 (up (I.dat 0 (fw c 2) (rv 2)))) (I.wv c)))) (k0_off3 c 3#32) S1x256x256.size (k0_pay52 (k0_pay45 (up (I.dat 0 (fw c 0) (rv 0)))) (I.wv c))) (k0_off4 c 3#32) S1x256x256.size (k0_pay56 (k0_pay49 (k0_pay45 (up (I.dat 0 (fw c 0) (rv 0)))) (I.wv c)))) (k0_off3 c 2#32) S1x256x256.size (k0_pay70 (k0_pay66 (k0_pay57 (up (I.dat 0 (fw c 1) (rv 1)))) (I.wv c)))) (k0_off4 c 2#32) S1x256x256.size (k0_pay73 (k0_pay66 (k0_pay57 (up (I.dat 0 (fw c 1) (rv 1)))) (I.wv c))) = I.vV c := by
  rw [vpay0, vpay1, vpay2, vpay3, vpay4, vpay5, vpay6, vpay7]
  exact fill _ (fun b o => if b.val = 0 then k0_pay19 (I.vRows c o) else k0_pay22 (I.vRows c o)) c (fw c 2) (fw c 0) (fw c 1) (cover c)
    (k0_off1_eq c) (k0_off2_eq c) (off3_1 c) (off4_1 c) (off3_3 c) (off4_3 c) (off3_2 c) (off4_2 c)

/-- The two stores of the device's own product. -/
theorem own_fill (c : Dev nD) (Y : S2x256x768.Idx → Elt F .f32) :
    VecWindow.put (VecWindow.put Y ![0, 0, 0] S1x256x768.size (k0_pay148 (I.ctx c c) (I.wo c))) ![1, 0, 0] S1x256x768.size (k0_pay149 (I.ctx c c) (I.wo c))
      = I.own c := by
  funext y
  have h0 : (y 0).val < 2 := (y 0).isLt
  have h1 : (y 1).val < 256 := (y 1).isLt
  have h2 : (y 2).val < 768 := (y 2).isLt
  unfold Ins.own
  have hix : ∀ (b : ℕ) (hb : (y 0).val = b) (h : ∀ a, (![b, 0, 0] : Fin 3 → ℕ) a ≤ (y a).val ∧ (y a).val < (![b, 0, 0] : Fin 3 → ℕ) a + S1x256x768.size a),
      Rect.unitLocal (s := S2x256x768) (off := ![b, 0, 0]) (size := S1x256x768.size) y h = ix3 (0 : Fin 1) (y 1) (y 2) := by
    intro b hb h
    funext a
    apply Fin.ext
    rw [Rect.unitLocal_val]
    fin_cases a
    · show (y 0).val - b = 0; omega
    · show (y 1).val - 0 = (y 1).val; omega
    · show (y 2).val - 0 = (y 2).val; omega
  have hin : ∀ (b : ℕ), (y 0).val = b → ∀ a, (![b, 0, 0] : Fin 3 → ℕ) a ≤ (y a).val ∧ (y a).val < (![b, 0, 0] : Fin 3 → ℕ) a + S1x256x768.size a := by
    intro b hb a
    fin_cases a
    · show b ≤ (y 0).val ∧ (y 0).val < b + 1; omega
    · show 0 ≤ (y 1).val ∧ (y 1).val < 0 + 256; omega
    · show 0 ≤ (y 2).val ∧ (y 2).val < 0 + 768; omega
  by_cases hb : (y 0).val = 0
  · rw [if_pos hb]
    refine (dif_neg fun hh => ?_).trans ((dif_pos (hin 0 hb)).trans (congrArg _ (hix 0 hb _)))
    have a0 : 1 ≤ (y 0).val ∧ (y 0).val < 1 + 1 := hh 0
    omega
  · rw [if_neg hb]
    have hb1 : (y 0).val = 1 := by omega
    exact (dif_pos (hin 1 hb1)).trans (congrArg _ (hix 1 hb1 _))

/-- The eight heads of the rows of the device 1 further on. -/
theorem ctx_fill1 (c : Dev nD) (QV KV VV : S2x1024x256.Idx → Elt F .bf16) (Y10 : S512x256.Idx → Elt F .bf16) :
    VecWindow.put (VecWindow.put (VecWindow.put (VecWindow.put (VecWindow.put (VecWindow.put (VecWindow.put (VecWindow.put Y10 ![0, 0] S256x64.size (k0_pay74 (VecWindow.window QV (k0_off5 c 1#32) S1x256x64.size (k0_off5_inb c 1)) (VecWindow.window KV ![0, 0, 0] S1x1024x64.size inb_S2x1024x256_S1x1024x64_0_0_0) (VecWindow.window VV ![0, 0, 0] S1x1024x64.size inb_S2x1024x256_S1x1024x64_0_0_0))) ![0, 64] S256x64.size (k0_pay78 (k0_pay75 (VecWindow.window QV (k0_off6 c 1#32) S1x256x64.size (k0_off6_inb c 1)) (VecWindow.window KV ![0, 0, 64] S1x1024x64.size inb_S2x1024x256_S1x1024x64_0_0_64)) (k0_pay76 (VecWindow.window QV (k0_off6 c 1#32) S1x256x64.size (k0_off6_inb c 1)) (VecWindow.window KV ![0, 0, 64] S1x1024x64.size inb_S2x1024x256_S1x1024x64_0_0_64)) (k0_pay77 (F := F)) (VecWindow.window VV ![0, 0, 64] S1x1024x64.size inb_S2x1024x256_S1x1024x64_0_0_64))) ![0, 128] S256x64.size (k0_pay79 (VecWindow.window QV (k0_off7 c 1#32) S1x256x64.size (k0_off7_inb c 1)) (VecWindow.window KV ![0, 0, 128] S1x1024x64.size inb_S2x1024x256_S1x1024x64_0_0_128) (VecWindow.window VV ![0, 0, 128] S1x1024x64.size inb_S2x1024x256_S1x1024x64_0_0_128))) ![0, 192] S256x64.size (k0_pay80 (VecWindow.window QV (k0_off8 c 1#32) S1x256x64.size (k0_off8_inb c 1)) (VecWindow.window KV ![0, 0, 192] S1x1024x64.size inb_S2x1024x256_S1x1024x64_0_0_192) (VecWindow.window VV ![0, 0, 192] S1x1024x64.size inb_S2x1024x256_S1x1024x64_0_0_192))) ![256, 0] S256x64.size (k0_pay84 (k0_pay82 (VecWindow.window QV (k0_off9 c 1#32) S1x256x64.size (k0_off9_inb c 1)) (VecWindow.window KV ![1, 0, 0] S1x1024x64.size inb_S2x1024x256_S1x1024x64_1_0_0)) (k0_pay83 (VecWindow.window QV (k0_off9 c 1#32) S1x256x64.size (k0_off9_inb c 1)) (VecWindow.window KV ![1, 0, 0] S1x1024x64.size inb_S2x1024x256_S1x1024x64_1_0_0)) (VecWindow.window VV ![1, 0, 0] S1x1024x64.size inb_S2x1024x256_S1x1024x64_1_0_0))) ![256, 64] S256x64.size (k0_pay85 (VecWindow.window QV (k0_off10 c 1#32) S1x256x64.size (k0_off10_inb c 1)) (VecWindow.window KV ![1, 0, 64] S1x1024x64.size inb_S2x1024x256_S1x1024x64_1_0_64) (VecWindow.window VV ![1, 0, 64] S1x1024x64.size inb_S2x1024x256_S1x1024x64_1_0_64))) ![256, 128] S256x64.size (k0_pay87 ((k0_pay86 (VecWindow.window QV (k0_off11 c 1#32) S1x256x64.size (k0_off11_inb c 1)))) (VecWindow.window KV ![1, 0, 128] S1x1024x64.size inb_S2x1024x256_S1x1024x64_1_0_128) (VecWindow.window VV ![1, 0, 128] S1x1024x64.size inb_S2x1024x256_S1x1024x64_1_0_128))) ![256, 192] S256x64.size (k0_pay89 ((k0_pay88 (VecWindow.window QV (k0_off12 c 1#32) S1x256x64.size (k0_off12_inb c 1)) (VecWindow.window KV ![1, 0, 192] S1x1024x64.size inb_S2x1024x256_S1x1024x64_1_0_192) (VecWindow.window VV ![1, 0, 192] S1x1024x64.size inb_S2x1024x256_S1x1024x64_1_0_192))))
      = ctxOf QV KV VV ⟨(c.val + 1) % 4, Nat.mod_lt _ (by decide)⟩ :=
  heads8 QV KV VV Y10 _ (k0_off5_eq c 1) (k0_off6_eq c 1) (k0_off7_eq c 1) (k0_off8_eq c 1) (k0_off9_eq c 1) (k0_off10_eq c 1) (k0_off11_eq c 1) (k0_off12_eq c 1)

/-- The eight heads of the rows of the device 2 further on. -/
theorem ctx_fill2 (c : Dev nD) (QV KV VV : S2x1024x256.Idx → Elt F .bf16) (Y10 : S512x256.Idx → Elt F .bf16) :
    VecWindow.put (VecWindow.put (VecWindow.put (VecWindow.put (VecWindow.put (VecWindow.put (VecWindow.put (VecWindow.put Y10 ![0, 0] S256x64.size (k0_pay93 (VecWindow.window QV (k0_off5 c 2#32) S1x256x64.size (k0_off5_inb c 2)) (VecWindow.window KV ![0, 0, 0] S1x1024x64.size inb_S2x1024x256_S1x1024x64_0_0_0) (VecWindow.window VV ![0, 0, 0] S1x1024x64.size inb_S2x1024x256_S1x1024x64_0_0_0))) ![0, 64] S256x64.size (k0_pay97 (k0_pay94 (VecWindow.window QV (k0_off6 c 2#32) S1x256x64.size (k0_off6_inb c 2)) (VecWindow.window KV ![0, 0, 64] S1x1024x64.size inb_S2x1024x256_S1x1024x64_0_0_64)) (k0_pay95 (VecWindow.window QV (k0_off6 c 2#32) S1x256x64.size (k0_off6_inb c 2)) (VecWindow.window KV ![0, 0, 64] S1x1024x64.size inb_S2x1024x256_S1x1024x64_0_0_64)) (k0_pay96 (F := F)) (VecWindow.window VV ![0, 0, 64] S1x1024x64.size inb_S2x1024x256_S1x1024x64_0_0_64))) ![0, 128] S256x64.size (k0_pay98 (VecWindow.window QV (k0_off7 c 2#32) S1x256x64.size (k0_off7_inb c 2)) (VecWindow.window KV ![0, 0, 128] S1x1024x64.size inb_S2x1024x256_S1x1024x64_0_0_128) (VecWindow.window VV ![0, 0, 128] S1x1024x64.size inb_S2x1024x256_S1x1024x64_0_0_128))) ![0, 192] S256x64.size (k0_pay99 (VecWindow.window QV (k0_off8 c 2#32) S1x256x64.size (k0_off8_inb c 2)) (VecWindow.window KV ![0, 0, 192] S1x1024x64.size inb_S2x1024x256_S1x1024x64_0_0_192) (VecWindow.window VV ![0, 0, 192] S1x1024x64.size inb_S2x1024x256_S1x1024x64_0_0_192))) ![256, 0] S256x64.size (k0_pay103 (k0_pay101 (VecWindow.window QV (k0_off9 c 2#32) S1x256x64.size (k0_off9_inb c 2)) (VecWindow.window KV ![1, 0, 0] S1x1024x64.size inb_S2x1024x256_S1x1024x64_1_0_0)) (k0_pay102 (VecWindow.window QV (k0_off9 c 2#32) S1x256x64.size (k0_off9_inb c 2)) (VecWindow.window KV ![1, 0, 0] S1x1024x64.size inb_S2x1024x256_S1x1024x64_1_0_0)) (VecWindow.window VV ![1, 0, 0] S1x1024x64.size inb_S2x1024x256_S1x1024x64_1_0_0))) ![256, 64] S256x64.size (k0_pay104 (VecWindow.window QV (k0_off10 c 2#32) S1x256x64.size (k0_off10_inb c 2)) (VecWindow.window KV ![1, 0, 64] S1x1024x64.size inb_S2x1024x256_S1x1024x64_1_0_64) (VecWindow.window VV ![1, 0, 64] S1x1024x64.size inb_S2x1024x256_S1x1024x64_1_0_64))) ![256, 128] S256x64.size (k0_pay106 ((k0_pay105 (VecWindow.window QV (k0_off11 c 2#32) S1x256x64.size (k0_off11_inb c 2)))) (VecWindow.window KV ![1, 0, 128] S1x1024x64.size inb_S2x1024x256_S1x1024x64_1_0_128) (VecWindow.window VV ![1, 0, 128] S1x1024x64.size inb_S2x1024x256_S1x1024x64_1_0_128))) ![256, 192] S256x64.size (k0_pay108 ((k0_pay107 (VecWindow.window QV (k0_off12 c 2#32) S1x256x64.size (k0_off12_inb c 2)) (VecWindow.window KV ![1, 0, 192] S1x1024x64.size inb_S2x1024x256_S1x1024x64_1_0_192) (VecWindow.window VV ![1, 0, 192] S1x1024x64.size inb_S2x1024x256_S1x1024x64_1_0_192))))
      = ctxOf QV KV VV ⟨(c.val + 2) % 4, Nat.mod_lt _ (by decide)⟩ :=
  heads8 QV KV VV Y10 _ (k0_off5_eq c 2) (k0_off6_eq c 2) (k0_off7_eq c 2) (k0_off8_eq c 2) (k0_off9_eq c 2) (k0_off10_eq c 2) (k0_off11_eq c 2) (k0_off12_eq c 2)

/-- The eight heads of the rows of the device 3 further on. -/
theorem ctx_fill3 (c : Dev nD) (QV KV VV : S2x1024x256.Idx → Elt F .bf16) (Y10 : S512x256.Idx → Elt F .bf16) :
    VecWindow.put (VecWindow.put (VecWindow.put (VecWindow.put (VecWindow.put (VecWindow.put (VecWindow.put (VecWindow.put Y10 ![0, 0] S256x64.size (k0_pay112 (VecWindow.window QV (k0_off5 c 3#32) S1x256x64.size (k0_off5_inb c 3)) (VecWindow.window KV ![0, 0, 0] S1x1024x64.size inb_S2x1024x256_S1x1024x64_0_0_0) (VecWindow.window VV ![0, 0, 0] S1x1024x64.size inb_S2x1024x256_S1x1024x64_0_0_0))) ![0, 64] S256x64.size (k0_pay116 (k0_pay113 (VecWindow.window QV (k0_off6 c 3#32) S1x256x64.size (k0_off6_inb c 3)) (VecWindow.window KV ![0, 0, 64] S1x1024x64.size inb_S2x1024x256_S1x1024x64_0_0_64)) (k0_pay114 (VecWindow.window QV (k0_off6 c 3#32) S1x256x64.size (k0_off6_inb c 3)) (VecWindow.window KV ![0, 0, 64] S1x1024x64.size inb_S2x1024x256_S1x1024x64_0_0_64)) (k0_pay115 (F := F)) (VecWindow.window VV ![0, 0, 64] S1x1024x64.size inb_S2x1024x256_S1x1024x64_0_0_64))) ![0, 128] S256x64.size (k0_pay117 (VecWindow.window QV (k0_off7 c 3#32) S1x256x64.size (k0_off7_inb c 3)) (VecWindow.window KV ![0, 0, 128] S1x1024x64.size inb_S2x1024x256_S1x1024x64_0_0_128) (VecWindow.window VV ![0, 0, 128] S1x1024x64.size inb_S2x1024x256_S1x1024x64_0_0_128))) ![0, 192] S256x64.size (k0_pay118 (VecWindow.window QV (k0_off8 c 3#32) S1x256x64.size (k0_off8_inb c 3)) (VecWindow.window KV ![0, 0, 192] S1x1024x64.size inb_S2x1024x256_S1x1024x64_0_0_192) (VecWindow.window VV ![0, 0, 192] S1x1024x64.size inb_S2x1024x256_S1x1024x64_0_0_192))) ![256, 0] S256x64.size (k0_pay122 (k0_pay120 (VecWindow.window QV (k0_off9 c 3#32) S1x256x64.size (k0_off9_inb c 3)) (VecWindow.window KV ![1, 0, 0] S1x1024x64.size inb_S2x1024x256_S1x1024x64_1_0_0)) (k0_pay121 (VecWindow.window QV (k0_off9 c 3#32) S1x256x64.size (k0_off9_inb c 3)) (VecWindow.window KV ![1, 0, 0] S1x1024x64.size inb_S2x1024x256_S1x1024x64_1_0_0)) (VecWindow.window VV ![1, 0, 0] S1x1024x64.size inb_S2x1024x256_S1x1024x64_1_0_0))) ![256, 64] S256x64.size (k0_pay123 (VecWindow.window QV (k0_off10 c 3#32) S1x256x64.size (k0_off10_inb c 3)) (VecWindow.window KV ![1, 0, 64] S1x1024x64.size inb_S2x1024x256_S1x1024x64_1_0_64) (VecWindow.window VV ![1, 0, 64] S1x1024x64.size inb_S2x1024x256_S1x1024x64_1_0_64))) ![256, 128] S256x64.size (k0_pay125 ((k0_pay124 (VecWindow.window QV (k0_off11 c 3#32) S1x256x64.size (k0_off11_inb c 3)))) (VecWindow.window KV ![1, 0, 128] S1x1024x64.size inb_S2x1024x256_S1x1024x64_1_0_128) (VecWindow.window VV ![1, 0, 128] S1x1024x64.size inb_S2x1024x256_S1x1024x64_1_0_128))) ![256, 192] S256x64.size (k0_pay127 ((k0_pay126 (VecWindow.window QV (k0_off12 c 3#32) S1x256x64.size (k0_off12_inb c 3)) (VecWindow.window KV ![1, 0, 192] S1x1024x64.size inb_S2x1024x256_S1x1024x64_1_0_192) (VecWindow.window VV ![1, 0, 192] S1x1024x64.size inb_S2x1024x256_S1x1024x64_1_0_192))))
      = ctxOf QV KV VV ⟨(c.val + 3) % 4, Nat.mod_lt _ (by decide)⟩ :=
  heads8 QV KV VV Y10 _ (k0_off5_eq c 3) (k0_off6_eq c 3) (k0_off7_eq c 3) (k0_off8_eq c 3) (k0_off9_eq c 3) (k0_off10_eq c 3) (k0_off11_eq c 3) (k0_off12_eq c 3)

/-- The eight heads of the rows of the device 0 further on. -/
theorem ctx_fill0 (c : Dev nD) (QV KV VV : S2x1024x256.Idx → Elt F .bf16) (Y10 : S512x256.Idx → Elt F .bf16) :
    VecWindow.put (VecWindow.put (VecWindow.put (VecWindow.put (VecWindow.put (VecWindow.put (VecWindow.put (VecWindow.put Y10 ![0, 0] S256x64.size (k0_pay131 (VecWindow.window QV (k0_off5 c 0#32) S1x256x64.size (k0_off5_inb c 0)) (VecWindow.window KV ![0, 0, 0] S1x1024x64.size inb_S2x1024x256_S1x1024x64_0_0_0) (VecWindow.window VV ![0, 0, 0] S1x1024x64.size inb_S2x1024x256_S1x1024x64_0_0_0))) ![0, 64] S256x64.size (k0_pay135 (k0_pay132 (VecWindow.window QV (k0_off6 c 0#32) S1x256x64.size (k0_off6_inb c 0)) (VecWindow.window KV ![0, 0, 64] S1x1024x64.size inb_S2x1024x256_S1x1024x64_0_0_64)) (k0_pay133 (VecWindow.window QV (k0_off6 c 0#32) S1x256x64.size (k0_off6_inb c 0)) (VecWindow.window KV ![0, 0, 64] S1x1024x64.size inb_S2x1024x256_S1x1024x64_0_0_64)) (k0_pay134 (F := F)) (VecWindow.window VV ![0, 0, 64] S1x1024x64.size inb_S2x1024x256_S1x1024x64_0_0_64))) ![0, 128] S256x64.size (k0_pay136 (VecWindow.window QV (k0_off7 c 0#32) S1x256x64.size (k0_off7_inb c 0)) (VecWindow.window KV ![0, 0, 128] S1x1024x64.size inb_S2x1024x256_S1x1024x64_0_0_128) (VecWindow.window VV ![0, 0, 128] S1x1024x64.size inb_S2x1024x256_S1x1024x64_0_0_128))) ![0, 192] S256x64.size (k0_pay137 (VecWindow.window QV (k0_off8 c 0#32) S1x256x64.size (k0_off8_inb c 0)) (VecWindow.window KV ![0, 0, 192] S1x1024x64.size inb_S2x1024x256_S1x1024x64_0_0_192) (VecWindow.window VV ![0, 0, 192] S1x1024x64.size inb_S2x1024x256_S1x1024x64_0_0_192))) ![256, 0] S256x64.size (k0_pay141 (k0_pay139 (VecWindow.window QV (k0_off9 c 0#32) S1x256x64.size (k0_off9_inb c 0)) (VecWindow.window KV ![1, 0, 0] S1x1024x64.size inb_S2x1024x256_S1x1024x64_1_0_0)) (k0_pay140 (VecWindow.window QV (k0_off9 c 0#32) S1x256x64.size (k0_off9_inb c 0)) (VecWindow.window KV ![1, 0, 0] S1x1024x64.size inb_S2x1024x256_S1x1024x64_1_0_0)) (VecWindow.window VV ![1, 0, 0] S1x1024x64.size inb_S2x1024x256_S1x1024x64_1_0_0))) ![256, 64] S256x64.size (k0_pay142 (VecWindow.window QV (k0_off10 c 0#32) S1x256x64.size (k0_off10_inb c 0)) (VecWindow.window KV ![1, 0, 64] S1x1024x64.size inb_S2x1024x256_S1x1024x64_1_0_64) (VecWindow.window VV ![1, 0, 64] S1x1024x64.size inb_S2x1024x256_S1x1024x64_1_0_64))) ![256, 128] S256x64.size (k0_pay144 ((k0_pay143 (VecWindow.window QV (k0_off11 c 0#32) S1x256x64.size (k0_off11_inb c 0)))) (VecWindow.window KV ![1, 0, 128] S1x1024x64.size inb_S2x1024x256_S1x1024x64_1_0_128) (VecWindow.window VV ![1, 0, 128] S1x1024x64.size inb_S2x1024x256_S1x1024x64_1_0_128))) ![256, 192] S256x64.size (k0_pay146 ((k0_pay145 (VecWindow.window QV (k0_off12 c 0#32) S1x256x64.size (k0_off12_inb c 0)) (VecWindow.window KV ![1, 0, 192] S1x1024x64.size inb_S2x1024x256_S1x1024x64_1_0_192) (VecWindow.window VV ![1, 0, 192] S1x1024x64.size inb_S2x1024x256_S1x1024x64_1_0_192))))
      = ctxOf QV KV VV ⟨(c.val + 0) % 4, Nat.mod_lt _ (by decide)⟩ :=
  heads8 QV KV VV Y10 _ (k0_off5_eq c 0) (k0_off6_eq c 0) (k0_off7_eq c 0) (k0_off8_eq c 0) (k0_off9_eq c 0) (k0_off10_eq c 0) (k0_off11_eq c 0) (k0_off12_eq c 0)

end Cert.Rope

end
-- ==== Proof.PartsA.lean ====
/-
# What each piece of the body does (2 to 7)

The body is a chain of pieces. Each lemma below: from the buffers a piece touches, at given contents, the
piece runs to the values it hands on and leaves the buffers at their new contents.
-/
module

public import proofs.«01_k».proof.Proof.Rules

@[expose] public section

set_option maxRecDepth 8000

noncomputable section

namespace Cert.Rope

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem part2_wp (dat : Fin 2 → Dev nD → Fin 3 → S2x256x768.Idx → Elt F .bf16) (K : Dev nD × Cx → ℕ) (c : Dev nD) {l : List (GSem nD τ sig × ℕ)} {v2 : BitVec 32}
    {β : Type} {k : (Σ' (v27 : BitVec 32) (v37 : BitVec 32) (v46 : IVec S256x256 32) (v47 : IVec S256x256 32) (v49 : BitVec 32) (v51 : IVec S256x256 32) (v53 : IVec S256x256 1) (v55 : IVec S256x256 1), BitVec 1) → Prog (TpuEff nD τ sig (Elt F) Λ₀ .tc) β} {Q : β → sProp 𝕄} :
    iprop(records dat K ∗ owesL c ((rCell (fw c 0) 0 (rv 0), N) :: (rCell (fw c 1) 0 (rv 1), N) :: (rCell (fw c 2) 0 (rv 2), N) :: l) ∗ own c xM (shr 0 0) (dat 0 c 0) ∗ (∃ X, own (F := F) (fw c 0) (slotOf agM (rv 0)) fullShare X) ∗ dutyTok ER (sCell c 0 0) 0 0 ∗ dutyTok ER (rCell (fw c 0) 0 (rv 0)) 0 0 ∗ own c xM (shr 0 1) (dat 0 c 1) ∗ (∃ X, own (F := F) (fw c 1) (slotOf agM (rv 1)) fullShare X) ∗ dutyTok ER (sCell c 0 1) 0 0 ∗ dutyTok ER (rCell (fw c 1) 0 (rv 1)) 0 0 ∗ own c xM (shr 0 2) (dat 0 c 2) ∗ (∃ X, own (F := F) (fw c 2) (slotOf agM (rv 2)) fullShare X) ∗ dutyTok ER (sCell c 0 2) 0 0 ∗ dutyTok ER (rCell (fw c 2) 0 (rv 2)) 0 0)
    ⊢ iprop(((owesL c l ∗ cred (tallyAt (sCell c 0 0) () N) ∗ cred (tallyAt (sCell c 0 1) () N) ∗ cred (tallyAt (sCell c 0 2) () N))
        -∗ wpc c (k ⟨(Scalar.remsi (Scalar.addi v2 2#32) 4#32), (Scalar.remsi (Scalar.addi v2 3#32) 4#32), (iota .tc S256x256 32 [1] iota_S256x256_d1_w32), (iota .tc S256x256 32 [0] iota_S256x256_d0_w32), (Scalar.select (Scalar.cmpi .eq 64#32 0#32) 1#32 64#32), k0_pay1, k0_pay2, k0_pay3, (Scalar.cmpi .slt (Scalar.select (Scalar.cmpi .eq 64#32 0#32) 1#32 64#32) 0#32)⟩) Q)
      -∗ wpc c ((k0_part2 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v2) >>= k) Q) := by
  rw [k0_part2_eq_skeleton]; unfold k0_part2_skel
  simp only [Prog.lift, Prog.bind_op, Prog.bind_ret, Prog.pure_eq_ret]
  iintro ⟨#HR, HO, HS0_0, HD0_0, HT0_0, HU0_0, HS0_1, HD0_1, HT0_1, HU0_1, HS0_2, HD0_2, HT0_2, HU0_2⟩ Hk
  iapply (send0 dat K c 0 (dev4_eq c) rfl rfl rfl rfl) $$ [HS0_0 HD0_0 HO HT0_0 HU0_0]
  · isplitr; · iexact HR
    isplitl [HS0_0]; · iexact HS0_0
    isplitl [HD0_0]; · iexact HD0_0
    isplitl [HO]; · iexact HO
    isplitl [HT0_0]; · iexact HT0_0
    iexact HU0_0
  iintro ⟨HC0_0, HO⟩
  iapply (send0 dat K c 1 (dev5_eq c) rfl rfl rfl rfl) $$ [HS0_1 HD0_1 HO HT0_1 HU0_1]
  · isplitr; · iexact HR
    isplitl [HS0_1]; · iexact HS0_1
    isplitl [HD0_1]; · iexact HD0_1
    isplitl [HO]; · iexact HO
    isplitl [HT0_1]; · iexact HT0_1
    iexact HU0_1
  iintro ⟨HC0_1, HO⟩
  iapply (send0 dat K c 2 (dev6_eq c) rfl rfl rfl rfl) $$ [HS0_2 HD0_2 HO HT0_2 HU0_2]
  · isplitr; · iexact HR
    isplitl [HS0_2]; · iexact HS0_2
    isplitl [HD0_2]; · iexact HD0_2
    isplitl [HO]; · iexact HO
    isplitl [HT0_2]; · iexact HT0_2
    iexact HU0_2
  iintro ⟨HC0_2, HO⟩
  iapply Hk
  isplitl [HO]; · iexact HO
  isplitl [HC0_0]; · iexact HC0_0
  isplitl [HC0_1]; · iexact HC0_1
  iexact HC0_2

theorem part3_wp (c : Dev nD) {v46 : IVec S256x256 32} {v49 : BitVec 32} {v51 : IVec S256x256 32} {v53 : IVec S256x256 1} {v55 : IVec S256x256 1} {v56 : BitVec 1}
    {β : Type} {k : (Σ' (v94 : FVec F S256x256 .f32) (v96 : BitVec 32) (v98 : IVec S256x256 32) (v100 : IVec S256x256 1), IVec S256x256 1) → Prog (TpuEff nD τ sig (Elt F) Λ₀ .tc) β} {Q : β → sProp 𝕄} :
    wpc c (k ⟨k0_pay4 (F := F) v49 v51 v53 v55 v56, (Scalar.select (Scalar.cmpi .eq 2#32 0#32) 1#32 2#32), k0_pay5 v46, k0_pay6 v46, k0_pay7 v46⟩) Q ⊢ wpc c ((k0_part3 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 v46 v49 v51 v53 v55 v56) >>= k) Q := by
  rw [k0_part3_eq_skeleton]; unfold k0_part3_skel
  exact BIBase.Entails.rfl

theorem part4_wp (c : Dev nD) {v2 : BitVec 32} {v47 : IVec S256x256 32} {v94 : FVec F S256x256 .f32} {v96 : BitVec 32} {v98 : IVec S256x256 32} {v100 : IVec S256x256 1} {v102 : IVec S256x256 1} {X0 : S2x256x768.Idx → Elt F .bf16} {q : PosShare TreeShare} {W1 : S768x256.Idx → Elt F .bf16} {W2 : S768x256.Idx → Elt F .bf16}
    {β : Type} {k : (Σ' (v112 : IVec S256x256 1) (v122 : FVec F S512x256 .f32) (v123 : FVec F S512x256 .f32) (v124 : IVec S512x256 1) (v125 : FVec F S512x768 .bf16) (v142 : FVec F S512x256 .f32) (v145 : FVec F S512x256 .f32), FVec F S512x256 .f32) → Prog (TpuEff nD τ sig (Elt F) Λ₀ .tc) β} {Q : β → sProp 𝕄} :
    iprop(own c xM q X0 ∗ own c wqM fullShare W1 ∗ own c wkM fullShare W2)
    ⊢ iprop(((own c xM q X0 ∗ own c wqM fullShare W1 ∗ own c wkM fullShare W2)
        -∗ wpc c (k ⟨k0_pay8 v96 v98 v100 v102, k0_pay10 v2 v47 v94, k0_pay11 v2 v47 v94, k0_pay12 v96 v98 v100 v102, k0_pay13 X0, k0_pay14 v2 v47 v94 v96 v98 v100 v102 X0 W1, k0_pay15 X0 W2, k0_pay16 X0 W2⟩) Q)
      -∗ wpc c ((k0_part4 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 v2 v47 v94 v96 v98 v100 v102) >>= k) Q) := by
  rw [k0_part4_eq_skeleton]; unfold k0_part4_skel
  simp only [Prog.lift, Prog.bind_op, Prog.bind_ret, Prog.pure_eq_ret]
  iintro ⟨H0, H1, H2⟩ Hk
  iapply (load_full c) $$ H0; iintro H0
  iapply (load_full c) $$ H1; iintro H1
  iapply (load_full c) $$ H2; iintro H2
  iapply Hk
  isplitl [H0]; · iexact H0
  isplitl [H1]; · iexact H1
  iexact H2

theorem part5_wp (c : Dev nD) {v2 : BitVec 32} {v122 : FVec F S512x256 .f32} {v123 : FVec F S512x256 .f32} {v124 : IVec S512x256 1} {v125 : FVec F S512x768 .bf16} {v142 : FVec F S512x256 .f32} {v145 : FVec F S512x256 .f32} {v148 : FVec F S512x256 .f32} {W3 : S768x256.Idx → Elt F .bf16} {Y7 : S2x1024x256.Idx → Elt F .bf16} {Y8 : S2x1024x256.Idx → Elt F .bf16} {Y9 : S2x1024x256.Idx → Elt F .bf16}
    {β : Type} {k : (Σ' (v157 : FVec F S512x256 .f32), FVec F S512x256 .f32) → Prog (TpuEff nD τ sig (Elt F) Λ₀ .tc) β} {Q : β → sProp 𝕄} :
    iprop(own c wvM fullShare W3 ∗ own c qM fullShare Y7 ∗ own c kM fullShare Y8 ∗ own c vM fullShare Y9)
    ⊢ iprop(((own c wvM fullShare W3 ∗ own c qM fullShare (VecWindow.put (VecWindow.put Y7 (k0_off1 c) S1x256x256.size (k0_pay19 v142)) (k0_off2 c) S1x256x256.size (k0_pay22 v142)) ∗ own c kM fullShare (VecWindow.put Y8 (k0_off1 c) S1x256x256.size (k0_pay20 v122 v123 v124 v145 v148)) ∗ own c vM fullShare (VecWindow.put Y9 (k0_off1 c) S1x256x256.size (k0_pay21 v125 W3)))
        -∗ wpc c (k ⟨k0_pay17 v122 v123 v124 v145 v148, k0_pay18 v125 W3⟩) Q)
      -∗ wpc c ((k0_part5 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v2 v122 v123 v124 v125 v142 v145 v148) >>= k) Q) := by
  rw [k0_part5_eq_skeleton]; unfold k0_part5_skel
  simp only [Prog.lift, Prog.bind_op, Prog.bind_ret, Prog.pure_eq_ret]
  iintro ⟨H3, H7, H8, H9⟩ Hk
  iapply (load_full c) $$ H3; iintro H3
  iapply (load_own c) $$ H7; iintro H7
  iapply (store_own c) $$ H7; iintro H7
  iapply (load_own c) $$ H8; iintro H8
  iapply (store_own c) $$ H8; iintro H8
  iapply (load_own c) $$ H9; iintro H9
  iapply (store_own c) $$ H9; iintro H9
  iapply (load_own c) $$ H7; iintro H7
  iapply (store_own c) $$ H7; iintro H7
  iapply Hk
  isplitl [H3]; · iexact H3
  isplitl [H7]; · iexact H7
  isplitl [H8]; · iexact H8
  iexact H9

theorem part6_wp (dat : Fin 2 → Dev nD → Fin 3 → S2x256x768.Idx → Elt F .bf16) (K : Dev nD × Cx → ℕ) (c : Dev nD) {l : List (GSem nD τ sig × ℕ)} {v2 : BitVec 32} {v17 : BitVec 32} {v47 : IVec S256x256 32} {v94 : FVec F S256x256 .f32} {v112 : IVec S256x256 1} {v157 : FVec F S512x256 .f32} {v160 : FVec F S512x256 .f32} {Y8 : S2x1024x256.Idx → Elt F .bf16} {Y9 : S2x1024x256.Idx → Elt F .bf16} (hl15_2 : ∀ p ∈ l, p.1.1.2 = .tc ∧ lvS (csem (some (false, 0, 2))) < lvS p.1.2)
    {β : Type} {k : (Σ' (v211 : BitVec 32) (v213 : FVec F S2x256x768 .bf16) (v221 : FVec F S512x256 .f32) (v222 : FVec F S512x256 .f32), IVec S512x256 1) → Prog (TpuEff nD τ sig (Elt F) Λ₀ .tc) β} {Q : β → sProp 𝕄} :
    iprop(records dat K ∗ owesL c l ∗ cred (tallyAt (rCell c 0 2) () N) ∗ atPos ER (rCell c 0 2) 0 ∅ 0 ∗ own c kM fullShare Y8 ∗ own c vM fullShare Y9)
    ⊢ iprop(((owesL c l ∗ semVal (rCell c 0 2) 0 ∗ own c kM fullShare (VecWindow.put Y8 (k0_off2 c) S1x256x256.size (k0_pay23 v157)) ∗ own c vM fullShare (VecWindow.put Y9 (k0_off2 c) S1x256x256.size (k0_pay24 v160)) ∗ own c (slotOf agM 2) fullShare (dat 0 (fw c 2) (rv 2)))
        -∗ wpc c (k ⟨(Scalar.remsi (Scalar.subi (Scalar.addi v2 4#32) 1#32) 4#32), k0_pay25 (up (dat 0 (fw c 2) (rv 2))), k0_pay27 v2 v47 v94, k0_pay28 v2 v47 v94, k0_pay29 v112⟩) Q)
      -∗ wpc c ((k0_part6 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v2 v17 v47 v94 v112 v157 v160) >>= k) Q) := by
  rw [k0_part6_eq_skeleton]; unfold k0_part6_skel
  simp only [Prog.lift, Prog.bind_op, Prog.bind_ret, Prog.pure_eq_ret]
  iintro ⟨#HR, HO, HC15_2, HA15_2, H8, H9⟩ Hk
  iapply (load_own c) $$ H8; iintro H8
  iapply (store_own c) $$ H8; iintro H8
  iapply (load_own c) $$ H9; iintro H9
  iapply (store_own c) $$ H9; iintro H9
  iapply (wait_rcv0 dat K c 2 hl15_2 rfl rfl) $$ [HC15_2 HO HA15_2]
  · isplitr; · iexact HR
    isplitl [HC15_2]; · iexact HC15_2
    isplitl [HO]; · iexact HO
    iexact HA15_2
  iintro ⟨HO, HZ15_2, HP15_2⟩
  icases HP15_2 with H6_2
  iapply (load_slot c 2) $$ H6_2; iintro H6_2
  iapply Hk
  isplitl [HO]; · iexact HO
  isplitl [HZ15_2]; · iexact HZ15_2
  isplitl [H8]; · iexact H8
  isplitl [H9]; · iexact H9
  iexact H6_2

theorem part7_wp (c : Dev nD) {v211 : BitVec 32} {v213 : FVec F S2x256x768 .bf16} {v221 : FVec F S512x256 .f32} {v222 : FVec F S512x256 .f32} {v223 : IVec S512x256 1} {W1 : S768x256.Idx → Elt F .bf16} {W2 : S768x256.Idx → Elt F .bf16} {W3 : S768x256.Idx → Elt F .bf16} {Y7 : S2x1024x256.Idx → Elt F .bf16}
    {β : Type} {k : (Σ' (v241 : FVec F S512x256 .f32) (v256 : FVec F S512x256 .f32) (v259 : FVec F S512x256 .f32), FVec F S256x256 .f32) → Prog (TpuEff nD τ sig (Elt F) Λ₀ .tc) β} {Q : β → sProp 𝕄} :
    iprop(own c wqM fullShare W1 ∗ own c wkM fullShare W2 ∗ own c wvM fullShare W3 ∗ own c qM fullShare Y7)
    ⊢ iprop(((own c wqM fullShare W1 ∗ own c wkM fullShare W2 ∗ own c wvM fullShare W3 ∗ own c qM fullShare (VecWindow.put Y7 (k0_off3 c 1#32) S1x256x256.size (k0_pay34 v213 v221 v222 v223 W1)))
        -∗ wpc c (k ⟨k0_pay31 v213 v221 v222 v223 W1, k0_pay32 v213 v221 v222 v223 W2, k0_pay33 v213 W3, k0_pay35 v213 v221 v222 v223 W2⟩) Q)
      -∗ wpc c ((k0_part7 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v211 v213 v221 v222 v223) >>= k) Q) := by
  rw [k0_part7_eq_skeleton]; unfold k0_part7_skel
  simp only [Prog.lift, Prog.bind_op, Prog.bind_ret, Prog.pure_eq_ret]
  iintro ⟨H1, H2, H3, H7⟩ Hk
  iapply (load_full c) $$ H1; iintro H1
  iapply (load_full c) $$ H2; iintro H2
  iapply (load_full c) $$ H3; iintro H3
  iapply (load_own c) $$ H7; iintro H7
  iapply (store_own c) $$ H7; iintro H7
  iapply Hk
  isplitl [H1]; · iexact H1
  isplitl [H2]; · iexact H2
  isplitl [H3]; · iexact H3
  iexact H7

end Cert.Rope

end
-- ==== Proof.PartsB.lean ====
/-
# What each piece of the body does (8 to 13)

The body is a chain of pieces. Each lemma below: from the buffers a piece touches, at given contents, the
piece runs to the values it hands on and leaves the buffers at their new contents.
-/
module

public import proofs.«01_k».proof.Proof.Rules

@[expose] public section

set_option maxRecDepth 8000

noncomputable section

namespace Cert.Rope

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem part8_wp (c : Dev nD) {v37 : BitVec 32} {v211 : BitVec 32} {v241 : FVec F S512x256 .f32} {v256 : FVec F S512x256 .f32} {v259 : FVec F S512x256 .f32} {v267 : FVec F S256x256 .f32} {Y8 : S2x1024x256.Idx → Elt F .bf16} {Y9 : S2x1024x256.Idx → Elt F .bf16} {Y7 : S2x1024x256.Idx → Elt F .bf16}
    {β : Type} {k : (Σ' (v302 : BitVec 32), BitVec 32) → Prog (TpuEff nD τ sig (Elt F) Λ₀ .tc) β} {Q : β → sProp 𝕄} :
    iprop(own c kM fullShare Y8 ∗ own c vM fullShare Y9 ∗ own c qM fullShare Y7)
    ⊢ iprop(((own c kM fullShare (VecWindow.put (VecWindow.put Y8 (k0_off3 c 1#32) S1x256x256.size (k0_pay36 v267)) (k0_off4 c 1#32) S1x256x256.size (k0_pay39 v256)) ∗ own c vM fullShare (VecWindow.put (VecWindow.put Y9 (k0_off3 c 1#32) S1x256x256.size (k0_pay37 v259)) (k0_off4 c 1#32) S1x256x256.size (k0_pay40 v259)) ∗ own c qM fullShare (VecWindow.put Y7 (k0_off4 c 1#32) S1x256x256.size (k0_pay38 v241)))
        -∗ wpc c (k ⟨(Scalar.muli v37 1#32), 0#32⟩) Q)
      -∗ wpc c ((k0_part8 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v37 v211 v241 v256 v259 v267) >>= k) Q) := by
  rw [k0_part8_eq_skeleton]; unfold k0_part8_skel
  simp only [Prog.lift, Prog.bind_op, Prog.bind_ret, Prog.pure_eq_ret]
  iintro ⟨H8, H9, H7⟩ Hk
  iapply (load_own c) $$ H8; iintro H8
  iapply (store_own c) $$ H8; iintro H8
  iapply (load_own c) $$ H9; iintro H9
  iapply (store_own c) $$ H9; iintro H9
  iapply (load_own c) $$ H7; iintro H7
  iapply (store_own c) $$ H7; iintro H7
  iapply (load_own c) $$ H8; iintro H8
  iapply (store_own c) $$ H8; iintro H8
  iapply (load_own c) $$ H9; iintro H9
  iapply (store_own c) $$ H9; iintro H9
  iapply Hk
  isplitl [H8]; · iexact H8
  isplitl [H9]; · iexact H9
  iexact H7

theorem part9_wp (dat : Fin 2 → Dev nD → Fin 3 → S2x256x768.Idx → Elt F .bf16) (K : Dev nD × Cx → ℕ) (c : Dev nD) {l : List (GSem nD τ sig × ℕ)} {v2 : BitVec 32} {v47 : IVec S256x256 32} {v94 : FVec F S256x256 .f32} {v112 : IVec S256x256 1} {v302 : BitVec 32} {c0_i32_143 : BitVec 32} {W1 : S768x256.Idx → Elt F .bf16} {W2 : S768x256.Idx → Elt F .bf16} (hl15_0 : ∀ p ∈ l, p.1.1.2 = .tc ∧ lvS (csem (some (false, 0, 0))) < lvS p.1.2)
    {β : Type} {k : (Σ' (v310 : BitVec 32) (v320 : FVec F S512x256 .f32) (v321 : FVec F S512x256 .f32) (v322 : IVec S512x256 1) (v323 : FVec F S512x768 .bf16) (v340 : FVec F S512x256 .f32) (v342 : FVec F S768x256 .bf16), FVec F S512x256 .f32) → Prog (TpuEff nD τ sig (Elt F) Λ₀ .tc) β} {Q : β → sProp 𝕄} :
    iprop(records dat K ∗ owesL c l ∗ cred (tallyAt (rCell c 0 0) () N) ∗ atPos ER (rCell c 0 0) 0 ∅ 0 ∗ own c wqM fullShare W1 ∗ own c wkM fullShare W2)
    ⊢ iprop(((owesL c l ∗ semVal (rCell c 0 0) 0 ∗ own c (slotOf agM 0) fullShare (dat 0 (fw c 0) (rv 0)) ∗ own c wqM fullShare W1 ∗ own c wkM fullShare W2)
        -∗ wpc c (k ⟨(Scalar.remsi (Scalar.subi (Scalar.addi v2 4#32) 3#32) 4#32), k0_pay42 v2 v47 v94, k0_pay43 v2 v47 v94, k0_pay44 v112, k0_pay45 (up (dat 0 (fw c 0) (rv 0))), k0_pay46 v2 v47 v94 v112 (up (dat 0 (fw c 0) (rv 0))) W1, k0_pay47 W2, (constant S512x256 .f32 0x00000000#32)⟩) Q)
      -∗ wpc c ((k0_part9 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 v2 v47 v94 v112 v302 c0_i32_143) >>= k) Q) := by
  rw [k0_part9_eq_skeleton]; unfold k0_part9_skel
  simp only [Prog.lift, Prog.bind_op, Prog.bind_ret, Prog.pure_eq_ret]
  iintro ⟨#HR, HO, HC15_0, HA15_0, H1, H2⟩ Hk
  iapply (wait_rcv0 dat K c 0 hl15_0 rfl rfl) $$ [HC15_0 HO HA15_0]
  · isplitr; · iexact HR
    isplitl [HC15_0]; · iexact HC15_0
    isplitl [HO]; · iexact HO
    iexact HA15_0
  iintro ⟨HO, HZ15_0, HP15_0⟩
  icases HP15_0 with H6_0
  iapply (load_slot c 0) $$ H6_0; iintro H6_0
  iapply (load_full c) $$ H1; iintro H1
  iapply (load_full c) $$ H2; iintro H2
  iapply Hk
  isplitl [HO]; · iexact HO
  isplitl [HZ15_0]; · iexact HZ15_0
  isplitl [H6_0]; · iexact H6_0
  isplitl [H1]; · iexact H1
  iexact H2

theorem part10_wp (c : Dev nD) {v310 : BitVec 32} {v320 : FVec F S512x256 .f32} {v321 : FVec F S512x256 .f32} {v322 : IVec S512x256 1} {v323 : FVec F S512x768 .bf16} {v340 : FVec F S512x256 .f32} {v342 : FVec F S768x256 .bf16} {cst_162 : FVec F S512x256 .f32} {W3 : S768x256.Idx → Elt F .bf16} {Y7 : S2x1024x256.Idx → Elt F .bf16} {Y8 : S2x1024x256.Idx → Elt F .bf16} {Y9 : S2x1024x256.Idx → Elt F .bf16}
    {β : Type} {k : (Σ' (v355 : FVec F S512x256 .f32) (v358 : FVec F S512x256 .f32), FVec F S256x256 .bf16) → Prog (TpuEff nD τ sig (Elt F) Λ₀ .tc) β} {Q : β → sProp 𝕄} :
    iprop(own c wvM fullShare W3 ∗ own c qM fullShare Y7 ∗ own c kM fullShare Y8 ∗ own c vM fullShare Y9)
    ⊢ iprop(((own c wvM fullShare W3 ∗ own c qM fullShare (VecWindow.put Y7 (k0_off3 c 3#32) S1x256x256.size (k0_pay50 v340)) ∗ own c kM fullShare (VecWindow.put Y8 (k0_off3 c 3#32) S1x256x256.size (k0_pay51 v320 v321 v322 v323 v342 cst_162)) ∗ own c vM fullShare (VecWindow.put Y9 (k0_off3 c 3#32) S1x256x256.size (k0_pay52 v323 W3)))
        -∗ wpc c (k ⟨k0_pay48 v320 v321 v322 v323 v342 cst_162, k0_pay49 v323 W3, k0_pay53 v340⟩) Q)
      -∗ wpc c ((k0_part10 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v310 v320 v321 v322 v323 v340 v342 cst_162) >>= k) Q) := by
  rw [k0_part10_eq_skeleton]; unfold k0_part10_skel
  simp only [Prog.lift, Prog.bind_op, Prog.bind_ret, Prog.pure_eq_ret]
  iintro ⟨H3, H7, H8, H9⟩ Hk
  iapply (load_full c) $$ H3; iintro H3
  iapply (load_own c) $$ H7; iintro H7
  iapply (store_own c) $$ H7; iintro H7
  iapply (load_own c) $$ H8; iintro H8
  iapply (store_own c) $$ H8; iintro H8
  iapply (load_own c) $$ H9; iintro H9
  iapply (store_own c) $$ H9; iintro H9
  iapply Hk
  isplitl [H3]; · iexact H3
  isplitl [H7]; · iexact H7
  isplitl [H8]; · iexact H8
  iexact H9

theorem part11_wp (dat : Fin 2 → Dev nD → Fin 3 → S2x256x768.Idx → Elt F .bf16) (K : Dev nD × Cx → ℕ) (c : Dev nD) {l : List (GSem nD τ sig × ℕ)} {v2 : BitVec 32} {v27 : BitVec 32} {v47 : IVec S256x256 32} {v94 : FVec F S256x256 .f32} {v310 : BitVec 32} {v355 : FVec F S512x256 .f32} {v358 : FVec F S512x256 .f32} {v381 : FVec F S256x256 .bf16} {Y7 : S2x1024x256.Idx → Elt F .bf16} {Y8 : S2x1024x256.Idx → Elt F .bf16} {Y9 : S2x1024x256.Idx → Elt F .bf16} (hl15_1 : ∀ p ∈ l, p.1.1.2 = .tc ∧ lvS (csem (some (false, 0, 1))) < lvS p.1.2)
    {β : Type} {k : (Σ' (v409 : BitVec 32) (v411 : FVec F S2x256x768 .bf16) (v416 : FVec F S256x256 .f32), FVec F S256x256 .f32) → Prog (TpuEff nD τ sig (Elt F) Λ₀ .tc) β} {Q : β → sProp 𝕄} :
    iprop(records dat K ∗ owesL c l ∗ cred (tallyAt (rCell c 0 1) () N) ∗ atPos ER (rCell c 0 1) 0 ∅ 0 ∗ own c qM fullShare Y7 ∗ own c kM fullShare Y8 ∗ own c vM fullShare Y9)
    ⊢ iprop(((owesL c l ∗ semVal (rCell c 0 1) 0 ∗ own c qM fullShare (VecWindow.put Y7 (k0_off4 c 3#32) S1x256x256.size (k0_pay54 v381)) ∗ own c kM fullShare (VecWindow.put Y8 (k0_off4 c 3#32) S1x256x256.size (k0_pay55 v355)) ∗ own c vM fullShare (VecWindow.put Y9 (k0_off4 c 3#32) S1x256x256.size (k0_pay56 v358)) ∗ own c (slotOf agM 1) fullShare (dat 0 (fw c 1) (rv 1)))
        -∗ wpc c (k ⟨(Scalar.remsi (Scalar.subi (Scalar.addi v2 4#32) 2#32) 4#32), k0_pay57 (up (dat 0 (fw c 1) (rv 1))), k0_pay58 v2 v47 v94, k0_pay59 v2 v47 v94⟩) Q)
      -∗ wpc c ((k0_part11 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v2 v27 v47 v94 v310 v355 v358 v381) >>= k) Q) := by
  rw [k0_part11_eq_skeleton]; unfold k0_part11_skel
  simp only [Prog.lift, Prog.bind_op, Prog.bind_ret, Prog.pure_eq_ret]
  iintro ⟨#HR, HO, HC15_1, HA15_1, H7, H8, H9⟩ Hk
  iapply (load_own c) $$ H7; iintro H7
  iapply (store_own c) $$ H7; iintro H7
  iapply (load_own c) $$ H8; iintro H8
  iapply (store_own c) $$ H8; iintro H8
  iapply (load_own c) $$ H9; iintro H9
  iapply (store_own c) $$ H9; iintro H9
  iapply (wait_rcv0 dat K c 1 hl15_1 rfl rfl) $$ [HC15_1 HO HA15_1]
  · isplitr; · iexact HR
    isplitl [HC15_1]; · iexact HC15_1
    isplitl [HO]; · iexact HO
    iexact HA15_1
  iintro ⟨HO, HZ15_1, HP15_1⟩
  icases HP15_1 with H6_1
  iapply (load_slot c 1) $$ H6_1; iintro H6_1
  iapply Hk
  isplitl [HO]; · iexact HO
  isplitl [HZ15_1]; · iexact HZ15_1
  isplitl [H7]; · iexact H7
  isplitl [H8]; · iexact H8
  isplitl [H9]; · iexact H9
  iexact H6_1

theorem part12_wp (c : Dev nD) {v112 : IVec S256x256 1} {v409 : BitVec 32} {v411 : FVec F S2x256x768 .bf16} {v416 : FVec F S256x256 .f32} {v417 : FVec F S256x256 .f32} {W1 : S768x256.Idx → Elt F .bf16} {W2 : S768x256.Idx → Elt F .bf16} {W3 : S768x256.Idx → Elt F .bf16} {Y7 : S2x1024x256.Idx → Elt F .bf16}
    {β : Type} {k : (Σ' (v439 : FVec F S512x256 .f32) (v454 : FVec F S512x256 .f32) (v457 : FVec F S512x256 .f32) (v459 : FVec F S256x256 .bf16), Vec F S1x256x256 .bf16) → Prog (TpuEff nD τ sig (Elt F) Λ₀ .tc) β} {Q : β → sProp 𝕄} :
    iprop(own c wqM fullShare W1 ∗ own c wkM fullShare W2 ∗ own c wvM fullShare W3 ∗ own c qM fullShare Y7)
    ⊢ iprop(((own c wqM fullShare W1 ∗ own c wkM fullShare W2 ∗ own c wvM fullShare W3 ∗ own c qM fullShare Y7)
        -∗ wpc c (k ⟨k0_pay64 v112 v411 v416 v417 W1, k0_pay65 v112 v411 v416 v417 W2, k0_pay66 v411 W3, k0_pay67 v112 v411 v416 v417 W1, (VecWindow.window Y7 (k0_off3 c 2#32) S1x256x256.size (k0_off3_inb c 1))⟩) Q)
      -∗ wpc c ((k0_part12 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v112 v409 v411 v416 v417) >>= k) Q) := by
  rw [k0_part12_eq_skeleton]; unfold k0_part12_skel
  simp only [Prog.lift, Prog.bind_op, Prog.bind_ret, Prog.pure_eq_ret]
  iintro ⟨H1, H2, H3, H7⟩ Hk
  iapply (load_full c) $$ H1; iintro H1
  iapply (load_full c) $$ H2; iintro H2
  iapply (load_full c) $$ H3; iintro H3
  iapply (load_own c) $$ H7; iintro H7
  iapply Hk
  isplitl [H1]; · iexact H1
  isplitl [H2]; · iexact H2
  isplitl [H3]; · iexact H3
  iexact H7

theorem part13_wp (c : Dev nD) {v2 : BitVec 32} {v409 : BitVec 32} {v439 : FVec F S512x256 .f32} {v454 : FVec F S512x256 .f32} {v457 : FVec F S512x256 .f32} {v459 : FVec F S256x256 .bf16} {v462 : Vec F S1x256x256 .bf16} {Y7 : S2x1024x256.Idx → Elt F .bf16} {Y8 : S2x1024x256.Idx → Elt F .bf16} {Y9 : S2x1024x256.Idx → Elt F .bf16}
    {β : Type} {k : (BitVec 32) → Prog (TpuEff nD τ sig (Elt F) Λ₀ .tc) β} {Q : β → sProp 𝕄} :
    iprop(own c qM fullShare Y7 ∗ own c kM fullShare Y8 ∗ own c vM fullShare Y9)
    ⊢ iprop(((own c qM fullShare (VecWindow.put (VecWindow.put Y7 (k0_off3 c 2#32) S1x256x256.size (k0_pay68 v459)) (k0_off4 c 2#32) S1x256x256.size (k0_pay71 v439)) ∗ own c kM fullShare (VecWindow.put (VecWindow.put Y8 (k0_off3 c 2#32) S1x256x256.size (k0_pay69 v454)) (k0_off4 c 2#32) S1x256x256.size (k0_pay72 v454)) ∗ own c vM fullShare (VecWindow.put (VecWindow.put Y9 (k0_off3 c 2#32) S1x256x256.size (k0_pay70 v457)) (k0_off4 c 2#32) S1x256x256.size (k0_pay73 v457)))
        -∗ wpc c (k (Scalar.addi v2 1#32)) Q)
      -∗ wpc c ((k0_part13 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v2 v409 v439 v454 v457 v459 v462) >>= k) Q) := by
  rw [k0_part13_eq_skeleton]; unfold k0_part13_skel
  simp only [Prog.lift, Prog.bind_op, Prog.bind_ret, Prog.pure_eq_ret]
  iintro ⟨H7, H8, H9⟩ Hk
  iapply (store_own c) $$ H7; iintro H7
  iapply (load_own c) $$ H8; iintro H8
  iapply (store_own c) $$ H8; iintro H8
  iapply (load_own c) $$ H9; iintro H9
  iapply (store_own c) $$ H9; iintro H9
  iapply (load_own c) $$ H7; iintro H7
  iapply (store_own c) $$ H7; iintro H7
  iapply (load_own c) $$ H8; iintro H8
  iapply (store_own c) $$ H8; iintro H8
  iapply (load_own c) $$ H9; iintro H9
  iapply (store_own c) $$ H9; iintro H9
  iapply Hk
  isplitl [H7]; · iexact H7
  isplitl [H8]; · iexact H8
  iexact H9

end Cert.Rope

end
-- ==== Proof.PartsC.lean ====
/-
# What each piece of the body does (14 to 19)

The body is a chain of pieces. Each lemma below: from the buffers a piece touches, at given contents, the
piece runs to the values it hands on and leaves the buffers at their new contents.
-/
module

public import proofs.«01_k».proof.Proof.Rules

@[expose] public section

set_option maxRecDepth 8000

noncomputable section

namespace Cert.Rope

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem part14_wp (c : Dev nD) {v500 : BitVec 32} {Y7 : S2x1024x256.Idx → Elt F .bf16} {Y8 : S2x1024x256.Idx → Elt F .bf16} {Y9 : S2x1024x256.Idx → Elt F .bf16} {Y10 : S512x256.Idx → Elt F .bf16}
    {β : Type} {k : (Σ' (v501 : BitVec 32) (v531 : FVec F S256x1024 .f32) (v533 : FVec F S256x1 .f32), FVec F S256x1 .f32) → Prog (TpuEff nD τ sig (Elt F) Λ₀ .tc) β} {Q : β → sProp 𝕄} :
    iprop(own c qM fullShare Y7 ∗ own c kM fullShare Y8 ∗ own c vM fullShare Y9 ∗ own c ctM fullShare Y10)
    ⊢ iprop(((own c qM fullShare Y7 ∗ own c kM fullShare Y8 ∗ own c vM fullShare Y9 ∗ own c ctM fullShare (VecWindow.put Y10 ![0, 0] S256x64.size (k0_pay74 (VecWindow.window Y7 (k0_off5 c 1#32) S1x256x64.size (k0_off5_inb c 1)) (VecWindow.window Y8 ![0, 0, 0] S1x1024x64.size inb_S2x1024x256_S1x1024x64_0_0_0) (VecWindow.window Y9 ![0, 0, 0] S1x1024x64.size inb_S2x1024x256_S1x1024x64_0_0_0))))
        -∗ wpc c (k ⟨(Scalar.remsi v500 4#32), k0_pay75 (VecWindow.window Y7 (k0_off6 c 1#32) S1x256x64.size (k0_off6_inb c 1)) (VecWindow.window Y8 ![0, 0, 64] S1x1024x64.size inb_S2x1024x256_S1x1024x64_0_0_64), k0_pay76 (VecWindow.window Y7 (k0_off6 c 1#32) S1x256x64.size (k0_off6_inb c 1)) (VecWindow.window Y8 ![0, 0, 64] S1x1024x64.size inb_S2x1024x256_S1x1024x64_0_0_64), k0_pay77 (F := F)⟩) Q)
      -∗ wpc c ((k0_part14 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v500) >>= k) Q) := by
  rw [k0_part14_eq_skeleton]; unfold k0_part14_skel
  simp only [Prog.lift, Prog.bind_op, Prog.bind_ret, Prog.pure_eq_ret]
  iintro ⟨H7, H8, H9, H10⟩ Hk
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply Hk
  isplitl [H7]; · iexact H7
  isplitl [H8]; · iexact H8
  isplitl [H9]; · iexact H9
  iexact H10

theorem part15_wp (c : Dev nD) {v501 : BitVec 32} {v531 : FVec F S256x1024 .f32} {v533 : FVec F S256x1 .f32} {v534 : FVec F S256x1 .f32} {Y9 : S2x1024x256.Idx → Elt F .bf16} {Y10 : S512x256.Idx → Elt F .bf16} {Y7 : S2x1024x256.Idx → Elt F .bf16} {Y8 : S2x1024x256.Idx → Elt F .bf16}
    {β : Type} {k : (PUnit) → Prog (TpuEff nD τ sig (Elt F) Λ₀ .tc) β} {Q : β → sProp 𝕄} :
    iprop(own c vM fullShare Y9 ∗ own c ctM fullShare Y10 ∗ own c qM fullShare Y7 ∗ own c kM fullShare Y8)
    ⊢ iprop(((own c vM fullShare Y9 ∗ own c ctM fullShare (VecWindow.put (VecWindow.put Y10 ![0, 64] S256x64.size (k0_pay78 v531 v533 v534 (VecWindow.window Y9 ![0, 0, 64] S1x1024x64.size inb_S2x1024x256_S1x1024x64_0_0_64))) ![0, 128] S256x64.size (k0_pay79 (VecWindow.window Y7 (k0_off7 c 1#32) S1x256x64.size (k0_off7_inb c 1)) (VecWindow.window Y8 ![0, 0, 128] S1x1024x64.size inb_S2x1024x256_S1x1024x64_0_0_128) (VecWindow.window Y9 ![0, 0, 128] S1x1024x64.size inb_S2x1024x256_S1x1024x64_0_0_128))) ∗ own c qM fullShare Y7 ∗ own c kM fullShare Y8)
        -∗ wpc c (k ⟨⟩) Q)
      -∗ wpc c ((k0_part15 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v501 v531 v533 v534) >>= k) Q) := by
  rw [k0_part15_eq_skeleton]; unfold k0_part15_skel
  simp only [Prog.lift, Prog.bind_op, Prog.bind_ret, Prog.pure_eq_ret]
  iintro ⟨H9, H10, H7, H8⟩ Hk
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply (load_own c) $$ H10; iintro H10
  iapply (store_own c) $$ H10; iintro H10
  iapply Hk
  isplitl [H9]; · iexact H9
  isplitl [H10]; · iexact H10
  isplitl [H7]; · iexact H7
  iexact H8

theorem part16_wp (c : Dev nD) {v501 : BitVec 32} {Y7 : S2x1024x256.Idx → Elt F .bf16} {Y8 : S2x1024x256.Idx → Elt F .bf16} {Y9 : S2x1024x256.Idx → Elt F .bf16} {Y10 : S512x256.Idx → Elt F .bf16}
    {β : Type} {k : (Σ' (v601 : FVec F S256x1 .f32) (v602 : FVec F S256x1024 .bf16), Vec F S1x1024x64 .bf16) → Prog (TpuEff nD τ sig (Elt F) Λ₀ .tc) β} {Q : β → sProp 𝕄} :
    iprop(own c qM fullShare Y7 ∗ own c kM fullShare Y8 ∗ own c vM fullShare Y9 ∗ own c ctM fullShare Y10)
    ⊢ iprop(((own c qM fullShare Y7 ∗ own c kM fullShare Y8 ∗ own c vM fullShare Y9 ∗ own c ctM fullShare (VecWindow.put Y10 ![0, 192] S256x64.size (k0_pay80 (VecWindow.window Y7 (k0_off8 c 1#32) S1x256x64.size (k0_off8_inb c 1)) (VecWindow.window Y8 ![0, 0, 192] S1x1024x64.size inb_S2x1024x256_S1x1024x64_0_0_192) (VecWindow.window Y9 ![0, 0, 192] S1x1024x64.size inb_S2x1024x256_S1x1024x64_0_0_192))))
        -∗ wpc c (k ⟨k0_pay82 (VecWindow.window Y7 (k0_off9 c 1#32) S1x256x64.size (k0_off9_inb c 1)) (VecWindow.window Y8 ![1, 0, 0] S1x1024x64.size inb_S2x1024x256_S1x1024x64_1_0_0), k0_pay83 (VecWindow.window Y7 (k0_off9 c 1#32) S1x256x64.size (k0_off9_inb c 1)) (VecWindow.window Y8 ![1, 0, 0] S1x1024x64.size inb_S2x1024x256_S1x1024x64_1_0_0), (VecWindow.window Y9 ![1, 0, 0] S1x1024x64.size inb_S2x1024x256_S1x1024x64_1_0_0)⟩) Q)
      -∗ wpc c ((k0_part16 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v501) >>= k) Q) := by
  rw [k0_part16_eq_skeleton]; unfold k0_part16_skel
  simp only [Prog.lift, Prog.bind_op, Prog.bind_ret, Prog.pure_eq_ret]
  iintro ⟨H7, H8, H9, H10⟩ Hk
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply Hk
  isplitl [H7]; · iexact H7
  isplitl [H8]; · iexact H8
  isplitl [H9]; · iexact H9
  iexact H10

theorem part17_wp (c : Dev nD) {v501 : BitVec 32} {v601 : FVec F S256x1 .f32} {v602 : FVec F S256x1024 .bf16} {v603 : Vec F S1x1024x64 .bf16} {Y10 : S512x256.Idx → Elt F .bf16} {Y7 : S2x1024x256.Idx → Elt F .bf16} {Y8 : S2x1024x256.Idx → Elt F .bf16} {Y9 : S2x1024x256.Idx → Elt F .bf16}
    {β : Type} {k : (FVec F S256x64 .bf16) → Prog (TpuEff nD τ sig (Elt F) Λ₀ .tc) β} {Q : β → sProp 𝕄} :
    iprop(own c ctM fullShare Y10 ∗ own c qM fullShare Y7 ∗ own c kM fullShare Y8 ∗ own c vM fullShare Y9)
    ⊢ iprop(((own c ctM fullShare (VecWindow.put (VecWindow.put Y10 ![256, 0] S256x64.size (k0_pay84 v601 v602 v603)) ![256, 64] S256x64.size (k0_pay85 (VecWindow.window Y7 (k0_off10 c 1#32) S1x256x64.size (k0_off10_inb c 1)) (VecWindow.window Y8 ![1, 0, 64] S1x1024x64.size inb_S2x1024x256_S1x1024x64_1_0_64) (VecWindow.window Y9 ![1, 0, 64] S1x1024x64.size inb_S2x1024x256_S1x1024x64_1_0_64))) ∗ own c qM fullShare Y7 ∗ own c kM fullShare Y8 ∗ own c vM fullShare Y9)
        -∗ wpc c (k (k0_pay86 (VecWindow.window Y7 (k0_off11 c 1#32) S1x256x64.size (k0_off11_inb c 1)))) Q)
      -∗ wpc c ((k0_part17 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v501 v601 v602 v603) >>= k) Q) := by
  rw [k0_part17_eq_skeleton]; unfold k0_part17_skel
  simp only [Prog.lift, Prog.bind_op, Prog.bind_ret, Prog.pure_eq_ret]
  iintro ⟨H10, H7, H8, H9⟩ Hk
  iapply (load_own c) $$ H10; iintro H10
  iapply (store_own c) $$ H10; iintro H10
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply Hk
  isplitl [H10]; · iexact H10
  isplitl [H7]; · iexact H7
  isplitl [H8]; · iexact H8
  iexact H9

theorem part18_wp (c : Dev nD) {v501 : BitVec 32} {v637 : FVec F S256x64 .bf16} {Y8 : S2x1024x256.Idx → Elt F .bf16} {Y9 : S2x1024x256.Idx → Elt F .bf16} {Y10 : S512x256.Idx → Elt F .bf16} {Y7 : S2x1024x256.Idx → Elt F .bf16}
    {β : Type} {k : (FVec F S256x64 .bf16) → Prog (TpuEff nD τ sig (Elt F) Λ₀ .tc) β} {Q : β → sProp 𝕄} :
    iprop(own c kM fullShare Y8 ∗ own c vM fullShare Y9 ∗ own c ctM fullShare Y10 ∗ own c qM fullShare Y7)
    ⊢ iprop(((own c kM fullShare Y8 ∗ own c vM fullShare Y9 ∗ own c ctM fullShare (VecWindow.put Y10 ![256, 128] S256x64.size (k0_pay87 v637 (VecWindow.window Y8 ![1, 0, 128] S1x1024x64.size inb_S2x1024x256_S1x1024x64_1_0_128) (VecWindow.window Y9 ![1, 0, 128] S1x1024x64.size inb_S2x1024x256_S1x1024x64_1_0_128))) ∗ own c qM fullShare Y7)
        -∗ wpc c (k (k0_pay88 (VecWindow.window Y7 (k0_off12 c 1#32) S1x256x64.size (k0_off12_inb c 1)) (VecWindow.window Y8 ![1, 0, 192] S1x1024x64.size inb_S2x1024x256_S1x1024x64_1_0_192) (VecWindow.window Y9 ![1, 0, 192] S1x1024x64.size inb_S2x1024x256_S1x1024x64_1_0_192))) Q)
      -∗ wpc c ((k0_part18 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v501 v637) >>= k) Q) := by
  rw [k0_part18_eq_skeleton]; unfold k0_part18_skel
  simp only [Prog.lift, Prog.bind_op, Prog.bind_ret, Prog.pure_eq_ret]
  iintro ⟨H8, H9, H10, H7⟩ Hk
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply Hk
  isplitl [H8]; · iexact H8
  isplitl [H9]; · iexact H9
  isplitl [H10]; · iexact H10
  iexact H7

theorem part19_wp (dat : Fin 2 → Dev nD → Fin 3 → S2x256x768.Idx → Elt F .bf16) (K : Dev nD × Cx → ℕ) (c : Dev nD) {l : List (GSem nD τ sig × ℕ)} {v2 : BitVec 32} {v501 : BitVec 32} {v674 : FVec F S256x64 .bf16} {Y10 : S512x256.Idx → Elt F .bf16} {W4 : S256x768.Idx → Elt F .bf16} {Z12_0 : S2x256x768.Idx → Elt F .bf16} (hdat : dat 1 c 0 = twoB (k0_pay91 (VecWindow.put Y10 ![256, 192] S256x64.size (k0_pay89 v674)) W4) (k0_pay92 (VecWindow.put Y10 ![256, 192] S256x64.size (k0_pay89 v674)) W4))
    {β : Type} {k : (BitVec 32) → Prog (TpuEff nD τ sig (Elt F) Λ₀ .tc) β} {Q : β → sProp 𝕄} :
    iprop(records dat K ∗ owesL c ((rCell (fw c 0) 1 (rv 0), N) :: l) ∗ (∃ X, own (F := F) (fw c 0) (slotOf rrM (rv 0)) fullShare X) ∗ dutyTok ER (sCell c 1 0) 0 0 ∗ dutyTok ER (rCell (fw c 0) 1 (rv 0)) 0 0 ∗ own c ctM fullShare Y10 ∗ own c woM fullShare W4 ∗ own c (slotOf rsM 0) fullShare Z12_0)
    ⊢ iprop(((owesL c l ∗ cred (tallyAt (sCell c 1 0) () N) ∗ own c ctM fullShare (VecWindow.put Y10 ![256, 192] S256x64.size (k0_pay89 v674)) ∗ own c woM fullShare W4)
        -∗ wpc c (k (Scalar.addi v2 2#32)) Q)
      -∗ wpc c ((k0_part19 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v2 v501 v674) >>= k) Q) := by
  rw [k0_part19_eq_skeleton]; unfold k0_part19_skel
  simp only [Prog.lift, Prog.bind_op, Prog.bind_ret, Prog.pure_eq_ret]
  iintro ⟨#HR, HO, HD1_0, HT1_0, HU1_0, H10, H4, H12_0⟩ Hk
  iapply (load_own c) $$ H10; iintro H10
  iapply (store_own c) $$ H10; iintro H10
  iapply (load_full c) $$ H10; iintro H10
  iapply (load_full c) $$ H4; iintro H4
  iapply (load_slot_part c 0 0) $$ H12_0; iintro H12_0
  iapply (store_slot c 0 0) $$ H12_0; iintro H12_0
  iapply (load_slot_part c 0 1) $$ H12_0; iintro H12_0
  iapply (store_slot c 0 1) $$ H12_0; iintro H12_0
  rw [putB_putB, ← hdat]
  iapply (send1 dat K c 0 (dev7_eq c) rfl rfl rfl rfl) $$ [H12_0 HD1_0 HO HT1_0 HU1_0]
  · isplitr; · iexact HR
    isplitl [H12_0]; · iexact H12_0
    isplitl [HD1_0]; · iexact HD1_0
    isplitl [HO]; · iexact HO
    isplitl [HT1_0]; · iexact HT1_0
    iexact HU1_0
  iintro ⟨HC1_0, HO⟩
  iapply Hk
  isplitl [HO]; · iexact HO
  isplitl [HC1_0]; · iexact HC1_0
  isplitl [H10]; · iexact H10
  iexact H4

end Cert.Rope

end
-- ==== Proof.PartsD.lean ====
/-
# What each piece of the body does (20 to 25)

The body is a chain of pieces. Each lemma below: from the buffers a piece touches, at given contents, the
piece runs to the values it hands on and leaves the buffers at their new contents.
-/
module

public import proofs.«01_k».proof.Proof.Rules

@[expose] public section

set_option maxRecDepth 8000

noncomputable section

namespace Cert.Rope

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem part20_wp (c : Dev nD) {v702 : BitVec 32} {Y7 : S2x1024x256.Idx → Elt F .bf16} {Y8 : S2x1024x256.Idx → Elt F .bf16} {Y9 : S2x1024x256.Idx → Elt F .bf16} {Y10 : S512x256.Idx → Elt F .bf16}
    {β : Type} {k : (Σ' (v703 : BitVec 32) (v733 : FVec F S256x1024 .f32) (v735 : FVec F S256x1 .f32), FVec F S256x1 .f32) → Prog (TpuEff nD τ sig (Elt F) Λ₀ .tc) β} {Q : β → sProp 𝕄} :
    iprop(own c qM fullShare Y7 ∗ own c kM fullShare Y8 ∗ own c vM fullShare Y9 ∗ own c ctM fullShare Y10)
    ⊢ iprop(((own c qM fullShare Y7 ∗ own c kM fullShare Y8 ∗ own c vM fullShare Y9 ∗ own c ctM fullShare (VecWindow.put Y10 ![0, 0] S256x64.size (k0_pay93 (VecWindow.window Y7 (k0_off5 c 2#32) S1x256x64.size (k0_off5_inb c 2)) (VecWindow.window Y8 ![0, 0, 0] S1x1024x64.size inb_S2x1024x256_S1x1024x64_0_0_0) (VecWindow.window Y9 ![0, 0, 0] S1x1024x64.size inb_S2x1024x256_S1x1024x64_0_0_0))))
        -∗ wpc c (k ⟨(Scalar.remsi v702 4#32), k0_pay94 (VecWindow.window Y7 (k0_off6 c 2#32) S1x256x64.size (k0_off6_inb c 2)) (VecWindow.window Y8 ![0, 0, 64] S1x1024x64.size inb_S2x1024x256_S1x1024x64_0_0_64), k0_pay95 (VecWindow.window Y7 (k0_off6 c 2#32) S1x256x64.size (k0_off6_inb c 2)) (VecWindow.window Y8 ![0, 0, 64] S1x1024x64.size inb_S2x1024x256_S1x1024x64_0_0_64), k0_pay96 (F := F)⟩) Q)
      -∗ wpc c ((k0_part20 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v702) >>= k) Q) := by
  rw [k0_part20_eq_skeleton]; unfold k0_part20_skel
  simp only [Prog.lift, Prog.bind_op, Prog.bind_ret, Prog.pure_eq_ret]
  iintro ⟨H7, H8, H9, H10⟩ Hk
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply Hk
  isplitl [H7]; · iexact H7
  isplitl [H8]; · iexact H8
  isplitl [H9]; · iexact H9
  iexact H10

theorem part21_wp (c : Dev nD) {v703 : BitVec 32} {v733 : FVec F S256x1024 .f32} {v735 : FVec F S256x1 .f32} {v736 : FVec F S256x1 .f32} {Y9 : S2x1024x256.Idx → Elt F .bf16} {Y10 : S512x256.Idx → Elt F .bf16} {Y7 : S2x1024x256.Idx → Elt F .bf16} {Y8 : S2x1024x256.Idx → Elt F .bf16}
    {β : Type} {k : (PUnit) → Prog (TpuEff nD τ sig (Elt F) Λ₀ .tc) β} {Q : β → sProp 𝕄} :
    iprop(own c vM fullShare Y9 ∗ own c ctM fullShare Y10 ∗ own c qM fullShare Y7 ∗ own c kM fullShare Y8)
    ⊢ iprop(((own c vM fullShare Y9 ∗ own c ctM fullShare (VecWindow.put (VecWindow.put Y10 ![0, 64] S256x64.size (k0_pay97 v733 v735 v736 (VecWindow.window Y9 ![0, 0, 64] S1x1024x64.size inb_S2x1024x256_S1x1024x64_0_0_64))) ![0, 128] S256x64.size (k0_pay98 (VecWindow.window Y7 (k0_off7 c 2#32) S1x256x64.size (k0_off7_inb c 2)) (VecWindow.window Y8 ![0, 0, 128] S1x1024x64.size inb_S2x1024x256_S1x1024x64_0_0_128) (VecWindow.window Y9 ![0, 0, 128] S1x1024x64.size inb_S2x1024x256_S1x1024x64_0_0_128))) ∗ own c qM fullShare Y7 ∗ own c kM fullShare Y8)
        -∗ wpc c (k ⟨⟩) Q)
      -∗ wpc c ((k0_part21 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v703 v733 v735 v736) >>= k) Q) := by
  rw [k0_part21_eq_skeleton]; unfold k0_part21_skel
  simp only [Prog.lift, Prog.bind_op, Prog.bind_ret, Prog.pure_eq_ret]
  iintro ⟨H9, H10, H7, H8⟩ Hk
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply (load_own c) $$ H10; iintro H10
  iapply (store_own c) $$ H10; iintro H10
  iapply Hk
  isplitl [H9]; · iexact H9
  isplitl [H10]; · iexact H10
  isplitl [H7]; · iexact H7
  iexact H8

theorem part22_wp (c : Dev nD) {v703 : BitVec 32} {Y7 : S2x1024x256.Idx → Elt F .bf16} {Y8 : S2x1024x256.Idx → Elt F .bf16} {Y9 : S2x1024x256.Idx → Elt F .bf16} {Y10 : S512x256.Idx → Elt F .bf16}
    {β : Type} {k : (Σ' (v803 : FVec F S256x1 .f32) (v804 : FVec F S256x1024 .bf16), Vec F S1x1024x64 .bf16) → Prog (TpuEff nD τ sig (Elt F) Λ₀ .tc) β} {Q : β → sProp 𝕄} :
    iprop(own c qM fullShare Y7 ∗ own c kM fullShare Y8 ∗ own c vM fullShare Y9 ∗ own c ctM fullShare Y10)
    ⊢ iprop(((own c qM fullShare Y7 ∗ own c kM fullShare Y8 ∗ own c vM fullShare Y9 ∗ own c ctM fullShare (VecWindow.put Y10 ![0, 192] S256x64.size (k0_pay99 (VecWindow.window Y7 (k0_off8 c 2#32) S1x256x64.size (k0_off8_inb c 2)) (VecWindow.window Y8 ![0, 0, 192] S1x1024x64.size inb_S2x1024x256_S1x1024x64_0_0_192) (VecWindow.window Y9 ![0, 0, 192] S1x1024x64.size inb_S2x1024x256_S1x1024x64_0_0_192))))
        -∗ wpc c (k ⟨k0_pay101 (VecWindow.window Y7 (k0_off9 c 2#32) S1x256x64.size (k0_off9_inb c 2)) (VecWindow.window Y8 ![1, 0, 0] S1x1024x64.size inb_S2x1024x256_S1x1024x64_1_0_0), k0_pay102 (VecWindow.window Y7 (k0_off9 c 2#32) S1x256x64.size (k0_off9_inb c 2)) (VecWindow.window Y8 ![1, 0, 0] S1x1024x64.size inb_S2x1024x256_S1x1024x64_1_0_0), (VecWindow.window Y9 ![1, 0, 0] S1x1024x64.size inb_S2x1024x256_S1x1024x64_1_0_0)⟩) Q)
      -∗ wpc c ((k0_part22 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v703) >>= k) Q) := by
  rw [k0_part22_eq_skeleton]; unfold k0_part22_skel
  simp only [Prog.lift, Prog.bind_op, Prog.bind_ret, Prog.pure_eq_ret]
  iintro ⟨H7, H8, H9, H10⟩ Hk
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply Hk
  isplitl [H7]; · iexact H7
  isplitl [H8]; · iexact H8
  isplitl [H9]; · iexact H9
  iexact H10

theorem part23_wp (c : Dev nD) {v703 : BitVec 32} {v803 : FVec F S256x1 .f32} {v804 : FVec F S256x1024 .bf16} {v805 : Vec F S1x1024x64 .bf16} {Y10 : S512x256.Idx → Elt F .bf16} {Y7 : S2x1024x256.Idx → Elt F .bf16} {Y8 : S2x1024x256.Idx → Elt F .bf16} {Y9 : S2x1024x256.Idx → Elt F .bf16}
    {β : Type} {k : (FVec F S256x64 .bf16) → Prog (TpuEff nD τ sig (Elt F) Λ₀ .tc) β} {Q : β → sProp 𝕄} :
    iprop(own c ctM fullShare Y10 ∗ own c qM fullShare Y7 ∗ own c kM fullShare Y8 ∗ own c vM fullShare Y9)
    ⊢ iprop(((own c ctM fullShare (VecWindow.put (VecWindow.put Y10 ![256, 0] S256x64.size (k0_pay103 v803 v804 v805)) ![256, 64] S256x64.size (k0_pay104 (VecWindow.window Y7 (k0_off10 c 2#32) S1x256x64.size (k0_off10_inb c 2)) (VecWindow.window Y8 ![1, 0, 64] S1x1024x64.size inb_S2x1024x256_S1x1024x64_1_0_64) (VecWindow.window Y9 ![1, 0, 64] S1x1024x64.size inb_S2x1024x256_S1x1024x64_1_0_64))) ∗ own c qM fullShare Y7 ∗ own c kM fullShare Y8 ∗ own c vM fullShare Y9)
        -∗ wpc c (k (k0_pay105 (VecWindow.window Y7 (k0_off11 c 2#32) S1x256x64.size (k0_off11_inb c 2)))) Q)
      -∗ wpc c ((k0_part23 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v703 v803 v804 v805) >>= k) Q) := by
  rw [k0_part23_eq_skeleton]; unfold k0_part23_skel
  simp only [Prog.lift, Prog.bind_op, Prog.bind_ret, Prog.pure_eq_ret]
  iintro ⟨H10, H7, H8, H9⟩ Hk
  iapply (load_own c) $$ H10; iintro H10
  iapply (store_own c) $$ H10; iintro H10
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply Hk
  isplitl [H10]; · iexact H10
  isplitl [H7]; · iexact H7
  isplitl [H8]; · iexact H8
  iexact H9

theorem part24_wp (c : Dev nD) {v703 : BitVec 32} {v839 : FVec F S256x64 .bf16} {Y8 : S2x1024x256.Idx → Elt F .bf16} {Y9 : S2x1024x256.Idx → Elt F .bf16} {Y10 : S512x256.Idx → Elt F .bf16} {Y7 : S2x1024x256.Idx → Elt F .bf16}
    {β : Type} {k : (FVec F S256x64 .bf16) → Prog (TpuEff nD τ sig (Elt F) Λ₀ .tc) β} {Q : β → sProp 𝕄} :
    iprop(own c kM fullShare Y8 ∗ own c vM fullShare Y9 ∗ own c ctM fullShare Y10 ∗ own c qM fullShare Y7)
    ⊢ iprop(((own c kM fullShare Y8 ∗ own c vM fullShare Y9 ∗ own c ctM fullShare (VecWindow.put Y10 ![256, 128] S256x64.size (k0_pay106 v839 (VecWindow.window Y8 ![1, 0, 128] S1x1024x64.size inb_S2x1024x256_S1x1024x64_1_0_128) (VecWindow.window Y9 ![1, 0, 128] S1x1024x64.size inb_S2x1024x256_S1x1024x64_1_0_128))) ∗ own c qM fullShare Y7)
        -∗ wpc c (k (k0_pay107 (VecWindow.window Y7 (k0_off12 c 2#32) S1x256x64.size (k0_off12_inb c 2)) (VecWindow.window Y8 ![1, 0, 192] S1x1024x64.size inb_S2x1024x256_S1x1024x64_1_0_192) (VecWindow.window Y9 ![1, 0, 192] S1x1024x64.size inb_S2x1024x256_S1x1024x64_1_0_192))) Q)
      -∗ wpc c ((k0_part24 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v703 v839) >>= k) Q) := by
  rw [k0_part24_eq_skeleton]; unfold k0_part24_skel
  simp only [Prog.lift, Prog.bind_op, Prog.bind_ret, Prog.pure_eq_ret]
  iintro ⟨H8, H9, H10, H7⟩ Hk
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply Hk
  isplitl [H8]; · iexact H8
  isplitl [H9]; · iexact H9
  isplitl [H10]; · iexact H10
  iexact H7

theorem part25_wp (dat : Fin 2 → Dev nD → Fin 3 → S2x256x768.Idx → Elt F .bf16) (K : Dev nD × Cx → ℕ) (c : Dev nD) {l : List (GSem nD τ sig × ℕ)} {v2 : BitVec 32} {v703 : BitVec 32} {v876 : FVec F S256x64 .bf16} {Y10 : S512x256.Idx → Elt F .bf16} {W4 : S256x768.Idx → Elt F .bf16} {Z12_1 : S2x256x768.Idx → Elt F .bf16} (hdat : dat 1 c 1 = twoB (k0_pay110 (VecWindow.put Y10 ![256, 192] S256x64.size (k0_pay108 v876)) W4) (k0_pay111 (VecWindow.put Y10 ![256, 192] S256x64.size (k0_pay108 v876)) W4))
    {β : Type} {k : (BitVec 32) → Prog (TpuEff nD τ sig (Elt F) Λ₀ .tc) β} {Q : β → sProp 𝕄} :
    iprop(records dat K ∗ owesL c ((rCell (fw c 1) 1 (rv 1), N) :: l) ∗ (∃ X, own (F := F) (fw c 1) (slotOf rrM (rv 1)) fullShare X) ∗ dutyTok ER (sCell c 1 1) 0 0 ∗ dutyTok ER (rCell (fw c 1) 1 (rv 1)) 0 0 ∗ own c ctM fullShare Y10 ∗ own c woM fullShare W4 ∗ own c (slotOf rsM 1) fullShare Z12_1)
    ⊢ iprop(((owesL c l ∗ cred (tallyAt (sCell c 1 1) () N) ∗ own c ctM fullShare (VecWindow.put Y10 ![256, 192] S256x64.size (k0_pay108 v876)) ∗ own c woM fullShare W4)
        -∗ wpc c (k (Scalar.addi v2 3#32)) Q)
      -∗ wpc c ((k0_part25 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v2 v703 v876) >>= k) Q) := by
  rw [k0_part25_eq_skeleton]; unfold k0_part25_skel
  simp only [Prog.lift, Prog.bind_op, Prog.bind_ret, Prog.pure_eq_ret]
  iintro ⟨#HR, HO, HD1_1, HT1_1, HU1_1, H10, H4, H12_1⟩ Hk
  iapply (load_own c) $$ H10; iintro H10
  iapply (store_own c) $$ H10; iintro H10
  iapply (load_full c) $$ H10; iintro H10
  iapply (load_full c) $$ H4; iintro H4
  iapply (load_slot_part c 1 0) $$ H12_1; iintro H12_1
  iapply (store_slot c 1 0) $$ H12_1; iintro H12_1
  iapply (load_slot_part c 1 1) $$ H12_1; iintro H12_1
  iapply (store_slot c 1 1) $$ H12_1; iintro H12_1
  rw [putB_putB, ← hdat]
  iapply (send1 dat K c 1 (dev8_eq c) rfl rfl rfl rfl) $$ [H12_1 HD1_1 HO HT1_1 HU1_1]
  · isplitr; · iexact HR
    isplitl [H12_1]; · iexact H12_1
    isplitl [HD1_1]; · iexact HD1_1
    isplitl [HO]; · iexact HO
    isplitl [HT1_1]; · iexact HT1_1
    iexact HU1_1
  iintro ⟨HC1_1, HO⟩
  iapply Hk
  isplitl [HO]; · iexact HO
  isplitl [HC1_1]; · iexact HC1_1
  isplitl [H10]; · iexact H10
  iexact H4

end Cert.Rope

end
-- ==== Proof.PartsE.lean ====
/-
# What each piece of the body does (26 to 31)

The body is a chain of pieces. Each lemma below: from the buffers a piece touches, at given contents, the
piece runs to the values it hands on and leaves the buffers at their new contents.
-/
module

public import proofs.«01_k».proof.Proof.Rules

@[expose] public section

set_option maxRecDepth 8000

noncomputable section

namespace Cert.Rope

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem part26_wp (c : Dev nD) {v904 : BitVec 32} {Y7 : S2x1024x256.Idx → Elt F .bf16} {Y8 : S2x1024x256.Idx → Elt F .bf16} {Y9 : S2x1024x256.Idx → Elt F .bf16} {Y10 : S512x256.Idx → Elt F .bf16}
    {β : Type} {k : (Σ' (v905 : BitVec 32) (v935 : FVec F S256x1024 .f32) (v937 : FVec F S256x1 .f32), FVec F S256x1 .f32) → Prog (TpuEff nD τ sig (Elt F) Λ₀ .tc) β} {Q : β → sProp 𝕄} :
    iprop(own c qM fullShare Y7 ∗ own c kM fullShare Y8 ∗ own c vM fullShare Y9 ∗ own c ctM fullShare Y10)
    ⊢ iprop(((own c qM fullShare Y7 ∗ own c kM fullShare Y8 ∗ own c vM fullShare Y9 ∗ own c ctM fullShare (VecWindow.put Y10 ![0, 0] S256x64.size (k0_pay112 (VecWindow.window Y7 (k0_off5 c 3#32) S1x256x64.size (k0_off5_inb c 3)) (VecWindow.window Y8 ![0, 0, 0] S1x1024x64.size inb_S2x1024x256_S1x1024x64_0_0_0) (VecWindow.window Y9 ![0, 0, 0] S1x1024x64.size inb_S2x1024x256_S1x1024x64_0_0_0))))
        -∗ wpc c (k ⟨(Scalar.remsi v904 4#32), k0_pay113 (VecWindow.window Y7 (k0_off6 c 3#32) S1x256x64.size (k0_off6_inb c 3)) (VecWindow.window Y8 ![0, 0, 64] S1x1024x64.size inb_S2x1024x256_S1x1024x64_0_0_64), k0_pay114 (VecWindow.window Y7 (k0_off6 c 3#32) S1x256x64.size (k0_off6_inb c 3)) (VecWindow.window Y8 ![0, 0, 64] S1x1024x64.size inb_S2x1024x256_S1x1024x64_0_0_64), k0_pay115 (F := F)⟩) Q)
      -∗ wpc c ((k0_part26 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v904) >>= k) Q) := by
  rw [k0_part26_eq_skeleton]; unfold k0_part26_skel
  simp only [Prog.lift, Prog.bind_op, Prog.bind_ret, Prog.pure_eq_ret]
  iintro ⟨H7, H8, H9, H10⟩ Hk
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply Hk
  isplitl [H7]; · iexact H7
  isplitl [H8]; · iexact H8
  isplitl [H9]; · iexact H9
  iexact H10

theorem part27_wp (c : Dev nD) {v905 : BitVec 32} {v935 : FVec F S256x1024 .f32} {v937 : FVec F S256x1 .f32} {v938 : FVec F S256x1 .f32} {Y9 : S2x1024x256.Idx → Elt F .bf16} {Y10 : S512x256.Idx → Elt F .bf16} {Y7 : S2x1024x256.Idx → Elt F .bf16} {Y8 : S2x1024x256.Idx → Elt F .bf16}
    {β : Type} {k : (PUnit) → Prog (TpuEff nD τ sig (Elt F) Λ₀ .tc) β} {Q : β → sProp 𝕄} :
    iprop(own c vM fullShare Y9 ∗ own c ctM fullShare Y10 ∗ own c qM fullShare Y7 ∗ own c kM fullShare Y8)
    ⊢ iprop(((own c vM fullShare Y9 ∗ own c ctM fullShare (VecWindow.put (VecWindow.put Y10 ![0, 64] S256x64.size (k0_pay116 v935 v937 v938 (VecWindow.window Y9 ![0, 0, 64] S1x1024x64.size inb_S2x1024x256_S1x1024x64_0_0_64))) ![0, 128] S256x64.size (k0_pay117 (VecWindow.window Y7 (k0_off7 c 3#32) S1x256x64.size (k0_off7_inb c 3)) (VecWindow.window Y8 ![0, 0, 128] S1x1024x64.size inb_S2x1024x256_S1x1024x64_0_0_128) (VecWindow.window Y9 ![0, 0, 128] S1x1024x64.size inb_S2x1024x256_S1x1024x64_0_0_128))) ∗ own c qM fullShare Y7 ∗ own c kM fullShare Y8)
        -∗ wpc c (k ⟨⟩) Q)
      -∗ wpc c ((k0_part27 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v905 v935 v937 v938) >>= k) Q) := by
  rw [k0_part27_eq_skeleton]; unfold k0_part27_skel
  simp only [Prog.lift, Prog.bind_op, Prog.bind_ret, Prog.pure_eq_ret]
  iintro ⟨H9, H10, H7, H8⟩ Hk
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply (load_own c) $$ H10; iintro H10
  iapply (store_own c) $$ H10; iintro H10
  iapply Hk
  isplitl [H9]; · iexact H9
  isplitl [H10]; · iexact H10
  isplitl [H7]; · iexact H7
  iexact H8

theorem part28_wp (c : Dev nD) {v905 : BitVec 32} {Y7 : S2x1024x256.Idx → Elt F .bf16} {Y8 : S2x1024x256.Idx → Elt F .bf16} {Y9 : S2x1024x256.Idx → Elt F .bf16} {Y10 : S512x256.Idx → Elt F .bf16}
    {β : Type} {k : (Σ' (v1005 : FVec F S256x1 .f32) (v1006 : FVec F S256x1024 .bf16), Vec F S1x1024x64 .bf16) → Prog (TpuEff nD τ sig (Elt F) Λ₀ .tc) β} {Q : β → sProp 𝕄} :
    iprop(own c qM fullShare Y7 ∗ own c kM fullShare Y8 ∗ own c vM fullShare Y9 ∗ own c ctM fullShare Y10)
    ⊢ iprop(((own c qM fullShare Y7 ∗ own c kM fullShare Y8 ∗ own c vM fullShare Y9 ∗ own c ctM fullShare (VecWindow.put Y10 ![0, 192] S256x64.size (k0_pay118 (VecWindow.window Y7 (k0_off8 c 3#32) S1x256x64.size (k0_off8_inb c 3)) (VecWindow.window Y8 ![0, 0, 192] S1x1024x64.size inb_S2x1024x256_S1x1024x64_0_0_192) (VecWindow.window Y9 ![0, 0, 192] S1x1024x64.size inb_S2x1024x256_S1x1024x64_0_0_192))))
        -∗ wpc c (k ⟨k0_pay120 (VecWindow.window Y7 (k0_off9 c 3#32) S1x256x64.size (k0_off9_inb c 3)) (VecWindow.window Y8 ![1, 0, 0] S1x1024x64.size inb_S2x1024x256_S1x1024x64_1_0_0), k0_pay121 (VecWindow.window Y7 (k0_off9 c 3#32) S1x256x64.size (k0_off9_inb c 3)) (VecWindow.window Y8 ![1, 0, 0] S1x1024x64.size inb_S2x1024x256_S1x1024x64_1_0_0), (VecWindow.window Y9 ![1, 0, 0] S1x1024x64.size inb_S2x1024x256_S1x1024x64_1_0_0)⟩) Q)
      -∗ wpc c ((k0_part28 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v905) >>= k) Q) := by
  rw [k0_part28_eq_skeleton]; unfold k0_part28_skel
  simp only [Prog.lift, Prog.bind_op, Prog.bind_ret, Prog.pure_eq_ret]
  iintro ⟨H7, H8, H9, H10⟩ Hk
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply Hk
  isplitl [H7]; · iexact H7
  isplitl [H8]; · iexact H8
  isplitl [H9]; · iexact H9
  iexact H10

theorem part29_wp (c : Dev nD) {v905 : BitVec 32} {v1005 : FVec F S256x1 .f32} {v1006 : FVec F S256x1024 .bf16} {v1007 : Vec F S1x1024x64 .bf16} {Y10 : S512x256.Idx → Elt F .bf16} {Y7 : S2x1024x256.Idx → Elt F .bf16} {Y8 : S2x1024x256.Idx → Elt F .bf16} {Y9 : S2x1024x256.Idx → Elt F .bf16}
    {β : Type} {k : (FVec F S256x64 .bf16) → Prog (TpuEff nD τ sig (Elt F) Λ₀ .tc) β} {Q : β → sProp 𝕄} :
    iprop(own c ctM fullShare Y10 ∗ own c qM fullShare Y7 ∗ own c kM fullShare Y8 ∗ own c vM fullShare Y9)
    ⊢ iprop(((own c ctM fullShare (VecWindow.put (VecWindow.put Y10 ![256, 0] S256x64.size (k0_pay122 v1005 v1006 v1007)) ![256, 64] S256x64.size (k0_pay123 (VecWindow.window Y7 (k0_off10 c 3#32) S1x256x64.size (k0_off10_inb c 3)) (VecWindow.window Y8 ![1, 0, 64] S1x1024x64.size inb_S2x1024x256_S1x1024x64_1_0_64) (VecWindow.window Y9 ![1, 0, 64] S1x1024x64.size inb_S2x1024x256_S1x1024x64_1_0_64))) ∗ own c qM fullShare Y7 ∗ own c kM fullShare Y8 ∗ own c vM fullShare Y9)
        -∗ wpc c (k (k0_pay124 (VecWindow.window Y7 (k0_off11 c 3#32) S1x256x64.size (k0_off11_inb c 3)))) Q)
      -∗ wpc c ((k0_part29 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v905 v1005 v1006 v1007) >>= k) Q) := by
  rw [k0_part29_eq_skeleton]; unfold k0_part29_skel
  simp only [Prog.lift, Prog.bind_op, Prog.bind_ret, Prog.pure_eq_ret]
  iintro ⟨H10, H7, H8, H9⟩ Hk
  iapply (load_own c) $$ H10; iintro H10
  iapply (store_own c) $$ H10; iintro H10
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply Hk
  isplitl [H10]; · iexact H10
  isplitl [H7]; · iexact H7
  isplitl [H8]; · iexact H8
  iexact H9

theorem part30_wp (c : Dev nD) {v905 : BitVec 32} {v1041 : FVec F S256x64 .bf16} {Y8 : S2x1024x256.Idx → Elt F .bf16} {Y9 : S2x1024x256.Idx → Elt F .bf16} {Y10 : S512x256.Idx → Elt F .bf16} {Y7 : S2x1024x256.Idx → Elt F .bf16}
    {β : Type} {k : (FVec F S256x64 .bf16) → Prog (TpuEff nD τ sig (Elt F) Λ₀ .tc) β} {Q : β → sProp 𝕄} :
    iprop(own c kM fullShare Y8 ∗ own c vM fullShare Y9 ∗ own c ctM fullShare Y10 ∗ own c qM fullShare Y7)
    ⊢ iprop(((own c kM fullShare Y8 ∗ own c vM fullShare Y9 ∗ own c ctM fullShare (VecWindow.put Y10 ![256, 128] S256x64.size (k0_pay125 v1041 (VecWindow.window Y8 ![1, 0, 128] S1x1024x64.size inb_S2x1024x256_S1x1024x64_1_0_128) (VecWindow.window Y9 ![1, 0, 128] S1x1024x64.size inb_S2x1024x256_S1x1024x64_1_0_128))) ∗ own c qM fullShare Y7)
        -∗ wpc c (k (k0_pay126 (VecWindow.window Y7 (k0_off12 c 3#32) S1x256x64.size (k0_off12_inb c 3)) (VecWindow.window Y8 ![1, 0, 192] S1x1024x64.size inb_S2x1024x256_S1x1024x64_1_0_192) (VecWindow.window Y9 ![1, 0, 192] S1x1024x64.size inb_S2x1024x256_S1x1024x64_1_0_192))) Q)
      -∗ wpc c ((k0_part30 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v905 v1041) >>= k) Q) := by
  rw [k0_part30_eq_skeleton]; unfold k0_part30_skel
  simp only [Prog.lift, Prog.bind_op, Prog.bind_ret, Prog.pure_eq_ret]
  iintro ⟨H8, H9, H10, H7⟩ Hk
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply Hk
  isplitl [H8]; · iexact H8
  isplitl [H9]; · iexact H9
  isplitl [H10]; · iexact H10
  iexact H7

theorem part31_wp (dat : Fin 2 → Dev nD → Fin 3 → S2x256x768.Idx → Elt F .bf16) (K : Dev nD × Cx → ℕ) (c : Dev nD) {l : List (GSem nD τ sig × ℕ)} {v2 : BitVec 32} {v905 : BitVec 32} {v1078 : FVec F S256x64 .bf16} {Y10 : S512x256.Idx → Elt F .bf16} {W4 : S256x768.Idx → Elt F .bf16} {Z12_2 : S2x256x768.Idx → Elt F .bf16} (hdat : dat 1 c 2 = twoB (k0_pay129 (VecWindow.put Y10 ![256, 192] S256x64.size (k0_pay127 v1078)) W4) (k0_pay130 (VecWindow.put Y10 ![256, 192] S256x64.size (k0_pay127 v1078)) W4))
    {β : Type} {k : (BitVec 32) → Prog (TpuEff nD τ sig (Elt F) Λ₀ .tc) β} {Q : β → sProp 𝕄} :
    iprop(records dat K ∗ owesL c ((rCell (fw c 2) 1 (rv 2), N) :: l) ∗ (∃ X, own (F := F) (fw c 2) (slotOf rrM (rv 2)) fullShare X) ∗ dutyTok ER (sCell c 1 2) 0 0 ∗ dutyTok ER (rCell (fw c 2) 1 (rv 2)) 0 0 ∗ own c ctM fullShare Y10 ∗ own c woM fullShare W4 ∗ own c (slotOf rsM 2) fullShare Z12_2)
    ⊢ iprop(((owesL c l ∗ cred (tallyAt (sCell c 1 2) () N) ∗ own c ctM fullShare (VecWindow.put Y10 ![256, 192] S256x64.size (k0_pay127 v1078)) ∗ own c woM fullShare W4)
        -∗ wpc c (k (Scalar.addi v2 0#32)) Q)
      -∗ wpc c ((k0_part31 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v2 v905 v1078) >>= k) Q) := by
  rw [k0_part31_eq_skeleton]; unfold k0_part31_skel
  simp only [Prog.lift, Prog.bind_op, Prog.bind_ret, Prog.pure_eq_ret]
  iintro ⟨#HR, HO, HD1_2, HT1_2, HU1_2, H10, H4, H12_2⟩ Hk
  iapply (load_own c) $$ H10; iintro H10
  iapply (store_own c) $$ H10; iintro H10
  iapply (load_full c) $$ H10; iintro H10
  iapply (load_full c) $$ H4; iintro H4
  iapply (load_slot_part c 2 0) $$ H12_2; iintro H12_2
  iapply (store_slot c 2 0) $$ H12_2; iintro H12_2
  iapply (load_slot_part c 2 1) $$ H12_2; iintro H12_2
  iapply (store_slot c 2 1) $$ H12_2; iintro H12_2
  rw [putB_putB, ← hdat]
  iapply (send1 dat K c 2 (dev9_eq c) rfl rfl rfl rfl) $$ [H12_2 HD1_2 HO HT1_2 HU1_2]
  · isplitr; · iexact HR
    isplitl [H12_2]; · iexact H12_2
    isplitl [HD1_2]; · iexact HD1_2
    isplitl [HO]; · iexact HO
    isplitl [HT1_2]; · iexact HT1_2
    iexact HU1_2
  iintro ⟨HC1_2, HO⟩
  iapply Hk
  isplitl [HO]; · iexact HO
  isplitl [HC1_2]; · iexact HC1_2
  isplitl [H10]; · iexact H10
  iexact H4

end Cert.Rope

end
-- ==== Proof.PartsF.lean ====
/-
# What each piece of the body does (32 to 39)

The body is a chain of pieces. Each lemma below: from the buffers a piece touches, at given contents, the
piece runs to the values it hands on and leaves the buffers at their new contents.
-/
module

public import proofs.«01_k».proof.Proof.Rules

@[expose] public section

set_option maxRecDepth 8000

noncomputable section

namespace Cert.Rope

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem part32_wp (c : Dev nD) {v1106 : BitVec 32} {Y7 : S2x1024x256.Idx → Elt F .bf16} {Y8 : S2x1024x256.Idx → Elt F .bf16} {Y9 : S2x1024x256.Idx → Elt F .bf16} {Y10 : S512x256.Idx → Elt F .bf16}
    {β : Type} {k : (Σ' (v1107 : BitVec 32) (v1137 : FVec F S256x1024 .f32) (v1139 : FVec F S256x1 .f32), FVec F S256x1 .f32) → Prog (TpuEff nD τ sig (Elt F) Λ₀ .tc) β} {Q : β → sProp 𝕄} :
    iprop(own c qM fullShare Y7 ∗ own c kM fullShare Y8 ∗ own c vM fullShare Y9 ∗ own c ctM fullShare Y10)
    ⊢ iprop(((own c qM fullShare Y7 ∗ own c kM fullShare Y8 ∗ own c vM fullShare Y9 ∗ own c ctM fullShare (VecWindow.put Y10 ![0, 0] S256x64.size (k0_pay131 (VecWindow.window Y7 (k0_off5 c 0#32) S1x256x64.size (k0_off5_inb c 0)) (VecWindow.window Y8 ![0, 0, 0] S1x1024x64.size inb_S2x1024x256_S1x1024x64_0_0_0) (VecWindow.window Y9 ![0, 0, 0] S1x1024x64.size inb_S2x1024x256_S1x1024x64_0_0_0))))
        -∗ wpc c (k ⟨(Scalar.remsi v1106 4#32), k0_pay132 (VecWindow.window Y7 (k0_off6 c 0#32) S1x256x64.size (k0_off6_inb c 0)) (VecWindow.window Y8 ![0, 0, 64] S1x1024x64.size inb_S2x1024x256_S1x1024x64_0_0_64), k0_pay133 (VecWindow.window Y7 (k0_off6 c 0#32) S1x256x64.size (k0_off6_inb c 0)) (VecWindow.window Y8 ![0, 0, 64] S1x1024x64.size inb_S2x1024x256_S1x1024x64_0_0_64), k0_pay134 (F := F)⟩) Q)
      -∗ wpc c ((k0_part32 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v1106) >>= k) Q) := by
  rw [k0_part32_eq_skeleton]; unfold k0_part32_skel
  simp only [Prog.lift, Prog.bind_op, Prog.bind_ret, Prog.pure_eq_ret]
  iintro ⟨H7, H8, H9, H10⟩ Hk
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply Hk
  isplitl [H7]; · iexact H7
  isplitl [H8]; · iexact H8
  isplitl [H9]; · iexact H9
  iexact H10

theorem part33_wp (c : Dev nD) {v1107 : BitVec 32} {v1137 : FVec F S256x1024 .f32} {v1139 : FVec F S256x1 .f32} {v1140 : FVec F S256x1 .f32} {Y9 : S2x1024x256.Idx → Elt F .bf16} {Y10 : S512x256.Idx → Elt F .bf16} {Y7 : S2x1024x256.Idx → Elt F .bf16} {Y8 : S2x1024x256.Idx → Elt F .bf16}
    {β : Type} {k : (PUnit) → Prog (TpuEff nD τ sig (Elt F) Λ₀ .tc) β} {Q : β → sProp 𝕄} :
    iprop(own c vM fullShare Y9 ∗ own c ctM fullShare Y10 ∗ own c qM fullShare Y7 ∗ own c kM fullShare Y8)
    ⊢ iprop(((own c vM fullShare Y9 ∗ own c ctM fullShare (VecWindow.put (VecWindow.put Y10 ![0, 64] S256x64.size (k0_pay135 v1137 v1139 v1140 (VecWindow.window Y9 ![0, 0, 64] S1x1024x64.size inb_S2x1024x256_S1x1024x64_0_0_64))) ![0, 128] S256x64.size (k0_pay136 (VecWindow.window Y7 (k0_off7 c 0#32) S1x256x64.size (k0_off7_inb c 0)) (VecWindow.window Y8 ![0, 0, 128] S1x1024x64.size inb_S2x1024x256_S1x1024x64_0_0_128) (VecWindow.window Y9 ![0, 0, 128] S1x1024x64.size inb_S2x1024x256_S1x1024x64_0_0_128))) ∗ own c qM fullShare Y7 ∗ own c kM fullShare Y8)
        -∗ wpc c (k ⟨⟩) Q)
      -∗ wpc c ((k0_part33 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v1107 v1137 v1139 v1140) >>= k) Q) := by
  rw [k0_part33_eq_skeleton]; unfold k0_part33_skel
  simp only [Prog.lift, Prog.bind_op, Prog.bind_ret, Prog.pure_eq_ret]
  iintro ⟨H9, H10, H7, H8⟩ Hk
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply (load_own c) $$ H10; iintro H10
  iapply (store_own c) $$ H10; iintro H10
  iapply Hk
  isplitl [H9]; · iexact H9
  isplitl [H10]; · iexact H10
  isplitl [H7]; · iexact H7
  iexact H8

theorem part34_wp (c : Dev nD) {v1107 : BitVec 32} {Y7 : S2x1024x256.Idx → Elt F .bf16} {Y8 : S2x1024x256.Idx → Elt F .bf16} {Y9 : S2x1024x256.Idx → Elt F .bf16} {Y10 : S512x256.Idx → Elt F .bf16}
    {β : Type} {k : (Σ' (v1207 : FVec F S256x1 .f32) (v1208 : FVec F S256x1024 .bf16), Vec F S1x1024x64 .bf16) → Prog (TpuEff nD τ sig (Elt F) Λ₀ .tc) β} {Q : β → sProp 𝕄} :
    iprop(own c qM fullShare Y7 ∗ own c kM fullShare Y8 ∗ own c vM fullShare Y9 ∗ own c ctM fullShare Y10)
    ⊢ iprop(((own c qM fullShare Y7 ∗ own c kM fullShare Y8 ∗ own c vM fullShare Y9 ∗ own c ctM fullShare (VecWindow.put Y10 ![0, 192] S256x64.size (k0_pay137 (VecWindow.window Y7 (k0_off8 c 0#32) S1x256x64.size (k0_off8_inb c 0)) (VecWindow.window Y8 ![0, 0, 192] S1x1024x64.size inb_S2x1024x256_S1x1024x64_0_0_192) (VecWindow.window Y9 ![0, 0, 192] S1x1024x64.size inb_S2x1024x256_S1x1024x64_0_0_192))))
        -∗ wpc c (k ⟨k0_pay139 (VecWindow.window Y7 (k0_off9 c 0#32) S1x256x64.size (k0_off9_inb c 0)) (VecWindow.window Y8 ![1, 0, 0] S1x1024x64.size inb_S2x1024x256_S1x1024x64_1_0_0), k0_pay140 (VecWindow.window Y7 (k0_off9 c 0#32) S1x256x64.size (k0_off9_inb c 0)) (VecWindow.window Y8 ![1, 0, 0] S1x1024x64.size inb_S2x1024x256_S1x1024x64_1_0_0), (VecWindow.window Y9 ![1, 0, 0] S1x1024x64.size inb_S2x1024x256_S1x1024x64_1_0_0)⟩) Q)
      -∗ wpc c ((k0_part34 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v1107) >>= k) Q) := by
  rw [k0_part34_eq_skeleton]; unfold k0_part34_skel
  simp only [Prog.lift, Prog.bind_op, Prog.bind_ret, Prog.pure_eq_ret]
  iintro ⟨H7, H8, H9, H10⟩ Hk
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply Hk
  isplitl [H7]; · iexact H7
  isplitl [H8]; · iexact H8
  isplitl [H9]; · iexact H9
  iexact H10

theorem part35_wp (c : Dev nD) {v1107 : BitVec 32} {v1207 : FVec F S256x1 .f32} {v1208 : FVec F S256x1024 .bf16} {v1209 : Vec F S1x1024x64 .bf16} {Y10 : S512x256.Idx → Elt F .bf16} {Y7 : S2x1024x256.Idx → Elt F .bf16} {Y8 : S2x1024x256.Idx → Elt F .bf16} {Y9 : S2x1024x256.Idx → Elt F .bf16}
    {β : Type} {k : (FVec F S256x64 .bf16) → Prog (TpuEff nD τ sig (Elt F) Λ₀ .tc) β} {Q : β → sProp 𝕄} :
    iprop(own c ctM fullShare Y10 ∗ own c qM fullShare Y7 ∗ own c kM fullShare Y8 ∗ own c vM fullShare Y9)
    ⊢ iprop(((own c ctM fullShare (VecWindow.put (VecWindow.put Y10 ![256, 0] S256x64.size (k0_pay141 v1207 v1208 v1209)) ![256, 64] S256x64.size (k0_pay142 (VecWindow.window Y7 (k0_off10 c 0#32) S1x256x64.size (k0_off10_inb c 0)) (VecWindow.window Y8 ![1, 0, 64] S1x1024x64.size inb_S2x1024x256_S1x1024x64_1_0_64) (VecWindow.window Y9 ![1, 0, 64] S1x1024x64.size inb_S2x1024x256_S1x1024x64_1_0_64))) ∗ own c qM fullShare Y7 ∗ own c kM fullShare Y8 ∗ own c vM fullShare Y9)
        -∗ wpc c (k (k0_pay143 (VecWindow.window Y7 (k0_off11 c 0#32) S1x256x64.size (k0_off11_inb c 0)))) Q)
      -∗ wpc c ((k0_part35 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v1107 v1207 v1208 v1209) >>= k) Q) := by
  rw [k0_part35_eq_skeleton]; unfold k0_part35_skel
  simp only [Prog.lift, Prog.bind_op, Prog.bind_ret, Prog.pure_eq_ret]
  iintro ⟨H10, H7, H8, H9⟩ Hk
  iapply (load_own c) $$ H10; iintro H10
  iapply (store_own c) $$ H10; iintro H10
  iapply (load_own c) $$ H7; iintro H7
  iapply (load_own c) $$ H8; iintro H8
  iapply (load_own c) $$ H9; iintro H9
  iapply (load_own c) $$ H10; iintro H10
  iapply (store_own c) $$ H10; iintro H10
  iapply (load_own c) $$ H7; iintro H7
  iapply Hk
  isplitl [H10]; · iexact H10
  isplitl [H7]; · iexact H7
  isplitl [H8]; · iexact H8
  iexact H9

theorem part36_wp (c : Dev nD) {v1107 : BitVec 32} {v1243 : FVec F S256x64 .bf16} {Y8 : S2x1024x256.Idx → Elt F .bf16} {Y9 : S2x1024x256.Idx → Elt F .bf16} {Y10 : S512x256.Idx → Elt F .bf16} {Y7 : S2x1024x256.Idx → Elt F .bf16}
    {β : Type} {k : (FVec F S256x64 .bf16) → Prog (TpuEff nD τ sig (Elt F) Λ₀ .tc) β} {Q : β → sProp 𝕄} :
    iprop(own c kM fullShare Y8 ∗ own c vM fullShare Y9 ∗ own c ctM fullShare Y10 ∗ own c qM fullShare Y7)
    ⊢ iprop(((own c kM fullShare Y8 ∗ own c vM fullShare Y9 ∗ own c ctM fullShare (VecWindow.put Y10 ![256, 128] S256x64.size (k0_pay144 v1243 (VecWindow.window Y8 ![1, 0, 128] S1x1024x64.size inb_S2x1024x256_S1x1024x64_1_0_128) (VecWindow.window Y9 ![1, 0, 128] S1x1024x64.size inb_S2x1024x256_S1x1024x64_1_0_128))) ∗ own c qM fullShare Y7)
        -∗ wpc c (k (k0_pay145 (VecWindow.window Y7 (k0_off12 c 0#32) S1x256x64.size (k0_off12_inb c 0)) (VecWindow.window Y8 ![1, 0, 192] S1x1024x64.size inb_S2x1024x256_S1x1024x64_1_0_192) (VecWindow.window Y9 ![1, 0, 192] S1x1024x64.size inb_S2x1024x256_S1x1024x64_1_0_192))) Q)
      -∗ wpc c ((k0_part36 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 c v1107 v1243) >>= k) Q) := by
  rw [k0_part36_eq_skeleton]; unfold k0_part36_skel
  simp only [Prog.lift, Prog.bind_op, Prog.bind_ret, Prog.pure_eq_ret]
  iintro ⟨H8, H9, H10, H7⟩ Hk
  iapply (load_own c) $$ H8; iintro H8
  iapply (load_own c) $$ H9; iintro H9
  iapply (load_own c) $$ H10; iintro H10
  iapply (store_own c) $$ H10; iintro H10
  iapply (load_own c) $$ H7; iintro H7
  iapply (load_own c) $$ H8; iintro H8
  iapply (load_own c) $$ H9; iintro H9
  iapply Hk
  isplitl [H8]; · iexact H8
  isplitl [H9]; · iexact H9
  isplitl [H10]; · iexact H10
  iexact H7

theorem part37_wp (dat : Fin 2 → Dev nD → Fin 3 → S2x256x768.Idx → Elt F .bf16) (K : Dev nD × Cx → ℕ) (c : Dev nD) {l : List (GSem nD τ sig × ℕ)} {v501 : BitVec 32} {v1280 : FVec F S256x64 .bf16} {Y10 : S512x256.Idx → Elt F .bf16} {W4 : S256x768.Idx → Elt F .bf16} {Y11 : S2x256x768.Idx → Elt F .f32} (hl17_2 : ∀ p ∈ l, p.1.1.2 = .tc ∧ lvS (csem (some (false, 1, 2))) < lvS p.1.2)
    {β : Type} {k : (Vec F S2x256x768 .f32) → Prog (TpuEff nD τ sig (Elt F) Λ₀ .tc) β} {Q : β → sProp 𝕄} :
    iprop(records dat K ∗ owesL c l ∗ cred (tallyAt (rCell c 1 2) () N) ∗ atPos ER (rCell c 1 2) 0 ∅ 0 ∗ own c ctM fullShare Y10 ∗ own c woM fullShare W4 ∗ own c pwM fullShare Y11)
    ⊢ iprop(((owesL c l ∗ semVal (rCell c 1 2) 0 ∗ own c ctM fullShare (VecWindow.put Y10 ![256, 192] S256x64.size (k0_pay146 v1280)) ∗ own c woM fullShare W4 ∗ own c pwM fullShare (VecWindow.put (VecWindow.put Y11 ![0, 0, 0] S1x256x768.size (k0_pay148 (VecWindow.put Y10 ![256, 192] S256x64.size (k0_pay146 v1280)) W4)) ![1, 0, 0] S1x256x768.size (k0_pay149 (VecWindow.put Y10 ![256, 192] S256x64.size (k0_pay146 v1280)) W4)) ∗ own c (slotOf rrM 2) fullShare (dat 1 (fw c 2) (rv 2)))
        -∗ wpc c (k (VecWindow.put (VecWindow.put Y11 ![0, 0, 0] S1x256x768.size (k0_pay148 (VecWindow.put Y10 ![256, 192] S256x64.size (k0_pay146 v1280)) W4)) ![1, 0, 0] S1x256x768.size (k0_pay149 (VecWindow.put Y10 ![256, 192] S256x64.size (k0_pay146 v1280)) W4))) Q)
      -∗ wpc c ((k0_part37 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 v501 v1280) >>= k) Q) := by
  rw [k0_part37_eq_skeleton]; unfold k0_part37_skel
  simp only [Prog.lift, Prog.bind_op, Prog.bind_ret, Prog.pure_eq_ret]
  iintro ⟨#HR, HO, HC17_2, HA17_2, H10, H4, H11⟩ Hk
  iapply (load_own c) $$ H10; iintro H10
  iapply (store_own c) $$ H10; iintro H10
  iapply (load_full c) $$ H10; iintro H10
  iapply (load_full c) $$ H4; iintro H4
  iapply (load_own c) $$ H11; iintro H11
  iapply (store_own c) $$ H11; iintro H11
  iapply (load_own c) $$ H11; iintro H11
  iapply (store_own c) $$ H11; iintro H11
  iapply (load_full c) $$ H11; iintro H11
  iapply (wait_rcv1 dat K c 2 hl17_2 rfl rfl) $$ [HC17_2 HO HA17_2]
  · isplitr; · iexact HR
    isplitl [HC17_2]; · iexact HC17_2
    isplitl [HO]; · iexact HO
    iexact HA17_2
  iintro ⟨HO, HZ17_2, HP17_2⟩
  icases HP17_2 with H13_2
  iapply Hk
  isplitl [HO]; · iexact HO
  isplitl [HZ17_2]; · iexact HZ17_2
  isplitl [H10]; · iexact H10
  isplitl [H4]; · iexact H4
  isplitl [H11]; · iexact H11
  iexact H13_2

theorem part38_wp (dat : Fin 2 → Dev nD → Fin 3 → S2x256x768.Idx → Elt F .bf16) (K : Dev nD × Cx → ℕ) (c : Dev nD) {l : List (GSem nD τ sig × ℕ)} {v703 : BitVec 32} {v905 : BitVec 32} {v1296 : Vec F S2x256x768 .f32} {Z13_2 : S2x256x768.Idx → Elt F .bf16} (hl17_1 : ∀ p ∈ l, p.1.1.2 = .tc ∧ lvS (csem (some (false, 1, 1))) < lvS p.1.2) (hl17_0 : ∀ p ∈ l, p.1.1.2 = .tc ∧ lvS (csem (some (false, 1, 0))) < lvS p.1.2)
    {β : Type} {k : (Σ' (v1320 : FVec F S2x256x768 .f32), FVec F S2x256x768 .bf16) → Prog (TpuEff nD τ sig (Elt F) Λ₀ .tc) β} {Q : β → sProp 𝕄} :
    iprop(records dat K ∗ owesL c l ∗ cred (tallyAt (rCell c 1 1) () N) ∗ atPos ER (rCell c 1 1) 0 ∅ 0 ∗ cred (tallyAt (rCell c 1 0) () N) ∗ atPos ER (rCell c 1 0) 0 ∅ 0 ∗ own c (slotOf rrM 2) fullShare Z13_2)
    ⊢ iprop(((owesL c l ∗ semVal (rCell c 1 1) 0 ∗ semVal (rCell c 1 0) 0 ∗ own c (slotOf rrM 2) fullShare Z13_2 ∗ own c (slotOf rrM 1) fullShare (dat 1 (fw c 1) (rv 1)) ∗ own c (slotOf rrM 0) fullShare (dat 1 (fw c 0) (rv 0)))
        -∗ wpc c (k ⟨k0_pay150 v1296 (up Z13_2) (up (dat 1 (fw c 1) (rv 1))), k0_pay151 (up (dat 1 (fw c 0) (rv 0)))⟩) Q)
      -∗ wpc c ((k0_part38 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 v703 v905 v1296) >>= k) Q) := by
  rw [k0_part38_eq_skeleton]; unfold k0_part38_skel
  simp only [Prog.lift, Prog.bind_op, Prog.bind_ret, Prog.pure_eq_ret]
  iintro ⟨#HR, HO, HC17_1, HA17_1, HC17_0, HA17_0, H13_2⟩ Hk
  iapply (load_slot c 2) $$ H13_2; iintro H13_2
  iapply (wait_rcv1 dat K c 1 hl17_1 rfl rfl) $$ [HC17_1 HO HA17_1]
  · isplitr; · iexact HR
    isplitl [HC17_1]; · iexact HC17_1
    isplitl [HO]; · iexact HO
    iexact HA17_1
  iintro ⟨HO, HZ17_1, HP17_1⟩
  icases HP17_1 with H13_1
  iapply (load_slot c 1) $$ H13_1; iintro H13_1
  iapply (wait_rcv1 dat K c 0 hl17_0 rfl rfl) $$ [HC17_0 HO HA17_0]
  · isplitr; · iexact HR
    isplitl [HC17_0]; · iexact HC17_0
    isplitl [HO]; · iexact HO
    iexact HA17_0
  iintro ⟨HO, HZ17_0, HP17_0⟩
  icases HP17_0 with H13_0
  iapply (load_slot c 0) $$ H13_0; iintro H13_0
  iapply Hk
  isplitl [HO]; · iexact HO
  isplitl [HZ17_1]; · iexact HZ17_1
  isplitl [HZ17_0]; · iexact HZ17_0
  isplitl [H13_2]; · iexact H13_2
  isplitl [H13_1]; · iexact H13_1
  iexact H13_0

theorem part39_wp (dat : Fin 2 → Dev nD → Fin 3 → S2x256x768.Idx → Elt F .bf16) (K : Dev nD × Cx → ℕ) (c : Dev nD) {l : List (GSem nD τ sig × ℕ)} {v1320 : FVec F S2x256x768 .f32} {v1330 : FVec F S2x256x768 .bf16} {Y5 : S2x256x768.Idx → Elt F .f32} (hl14_0 : ∀ p ∈ l, p.1.1.2 = .tc ∧ lvS (csem (some (true, 0, 0))) < lvS p.1.2) (hl14_1 : ∀ p ∈ l, p.1.1.2 = .tc ∧ lvS (csem (some (true, 0, 1))) < lvS p.1.2) (hl14_2 : ∀ p ∈ l, p.1.1.2 = .tc ∧ lvS (csem (some (true, 0, 2))) < lvS p.1.2)
    {β : Type} {k : (PUnit) → Prog (TpuEff nD τ sig (Elt F) Λ₀ .tc) β} {Q : β → sProp 𝕄} :
    iprop(records dat K ∗ owesL c l ∗ cred (tallyAt (sCell c 0 0) () N) ∗ atPos ER (sCell c 0 0) 0 ∅ 0 ∗ cred (tallyAt (sCell c 0 1) () N) ∗ atPos ER (sCell c 0 1) 0 ∅ 0 ∗ cred (tallyAt (sCell c 0 2) () N) ∗ atPos ER (sCell c 0 2) 0 ∅ 0 ∗ own c outM fullShare Y5)
    ⊢ iprop(((owesL c l ∗ semVal (sCell c 0 0) 0 ∗ own c xM (shr 0 0) (dat 0 c 0) ∗ semVal (sCell c 0 1) 0 ∗ own c xM (shr 0 1) (dat 0 c 1) ∗ semVal (sCell c 0 2) 0 ∗ own c xM (shr 0 2) (dat 0 c 2) ∗ own c outM fullShare ((k0_pay152 v1320 v1330)))
        -∗ wpc c (k ⟨⟩) Q)
      -∗ wpc c ((k0_part39 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11 v1320 v1330) >>= k) Q) := by
  rw [k0_part39_eq_skeleton]; unfold k0_part39_skel
  simp only [Prog.lift, Prog.bind_op, Prog.bind_ret, Prog.pure_eq_ret]
  iintro ⟨#HR, HO, HC14_0, HA14_0, HC14_1, HA14_1, HC14_2, HA14_2, H5⟩ Hk
  iapply (load_full c) $$ H5; iintro H5
  iapply (store_full c) $$ H5; iintro H5
  iapply (wait_snd0 dat K c 0 hl14_0 rfl rfl) $$ [HC14_0 HO HA14_0]
  · isplitr; · iexact HR
    isplitl [HC14_0]; · iexact HC14_0
    isplitl [HO]; · iexact HO
    iexact HA14_0
  iintro ⟨HO, HZ14_0, HP14_0⟩
  iapply (wait_snd0 dat K c 1 hl14_1 rfl rfl) $$ [HC14_1 HO HA14_1]
  · isplitr; · iexact HR
    isplitl [HC14_1]; · iexact HC14_1
    isplitl [HO]; · iexact HO
    iexact HA14_1
  iintro ⟨HO, HZ14_1, HP14_1⟩
  iapply (wait_snd0 dat K c 2 hl14_2 rfl rfl) $$ [HC14_2 HO HA14_2]
  · isplitr; · iexact HR
    isplitl [HC14_2]; · iexact HC14_2
    isplitl [HO]; · iexact HO
    iexact HA14_2
  iintro ⟨HO, HZ14_2, HP14_2⟩
  iapply Hk
  isplitl [HO]; · iexact HO
  isplitl [HZ14_0]; · iexact HZ14_0
  isplitl [HP14_0]; · iexact HP14_0
  isplitl [HZ14_1]; · iexact HZ14_1
  isplitl [HP14_1]; · iexact HP14_1
  isplitl [HZ14_2]; · iexact HZ14_2
  isplitl [HP14_2]; · iexact HP14_2
  iexact H5

end Cert.Rope

end
-- ==== Proof.Body.lean ====
/-
# The body

From the operands in their staging buffers, the scratch buffers at any contents, the credit and the tokens of its
transfers, the body runs to the result in its staging buffer and gives everything back. `Slots` splits a buffer of three
slots and puts it together again; `start_wp` is the handshake; `sound` runs the pieces in program order.
-/
module

public import proofs.«01_k».proof.Proof.Values
public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import Idealize.ShloMosaic.Lib.StableHlo.CollectiveRules

@[expose] public section

set_option maxRecDepth 8000

noncomputable section

namespace Cert.Rope

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots -/

section Slots
variable (c : Dev nD) (M : Memref sig .tc .vmem S3x2x256x768 .bf16)

theorem slot_set (k : Fin 3) : (slotOf M k).view.set
    = (Rect.unit (s := S3x2x256x768) ![k.val, 0, 0, 0] S1x2x256x768.size (slot_inb k)).set.map M.view.emb := by
  rw [show (slotOf M k).view.set = (M.view.slice _).set from View.set_reshape _ _, View.set_slice]

theorem slots_disj {k k' : Fin 3} (h : k ≠ k') : Disjoint (slotOf M k).view.set (slotOf M k').view.set := by
  rw [slot_set, slot_set, Finset.disjoint_map, Finset.disjoint_left]
  intro y h1 h2
  rw [Rect.mem_set_unit] at h1 h2
  have a1 : k.val ≤ (y 0).val ∧ (y 0).val < k.val + 1 := h1 0
  have a2 : k'.val ≤ (y 0).val ∧ (y 0).val < k'.val + 1 := h2 0
  exact h (Fin.ext (by omega))

theorem rects_univ : (Finset.univ : Finset S3x2x256x768.Idx) = (Rect.unit (s := S3x2x256x768) ![(0 : Fin 3).val, 0, 0, 0] S1x2x256x768.size (slot_inb 0)).set
    ∪ ((Rect.unit (s := S3x2x256x768) ![(1 : Fin 3).val, 0, 0, 0] S1x2x256x768.size (slot_inb 1)).set
      ∪ (Rect.unit (s := S3x2x256x768) ![(2 : Fin 3).val, 0, 0, 0] S1x2x256x768.size (slot_inb 2)).set) := by
  refine (Finset.eq_univ_of_forall fun y => ?_).symm
  have h0 : (y 0).val < 3 := (y 0).isLt
  have h1 : (y 1).val < 2 := (y 1).isLt
  have h2 : (y 2).val < 256 := (y 2).isLt
  have h3 : (y 3).val < 768 := (y 3).isLt
  have key : ∀ k : Fin 3, (y 0).val = k.val → y ∈ (Rect.unit (s := S3x2x256x768) ![k.val, 0, 0, 0] S1x2x256x768.size (slot_inb k)).set := by
    intro k hk
    rw [Rect.mem_set_unit]
    intro a
    match a with
    | ⟨0, _⟩ => exact ⟨hk.ge, by show (y 0).val < k.val + 1; omega⟩
    | ⟨1, _⟩ => exact ⟨Nat.zero_le _, by show (y 1).val < 0 + 2; omega⟩
    | ⟨2, _⟩ => exact ⟨Nat.zero_le _, by show (y 2).val < 0 + 256; omega⟩
    | ⟨3, _⟩ => exact ⟨Nat.zero_le _, by show (y 3).val < 0 + 768; omega⟩
  rw [Finset.mem_union, Finset.mem_union]
  have : (y 0).val = 0 ∨ (y 0).val = 1 ∨ (y 0).val = 2 := by omega
  rcases this with h | h | h
  · exact Or.inl (key 0 h)
  · exact Or.inr (Or.inl (key 1 h))
  · exact Or.inr (Or.inr (key 2 h))

theorem slots_union : M.view.set = (slotOf M 0).view.set ∪ ((slotOf M 1).view.set ∪ (slotOf M 2).view.set) := by
  rw [slot_set, slot_set, slot_set, ← Finset.map_union, ← Finset.map_union]
  exact congrArg (Finset.map M.view.emb) rects_univ

/-- A slot of which only the ownership counts. -/
abbrev some' (k : Fin 3) : sProp 𝕄 := iprop(∃ X, own (F := F) c (slotOf M k) fullShare X)

omit [FloatOps F] in
theorem pts_own {f : Buf (Elt F) (M.view.loc (c : Thread nD τ))} : (M.view.loc (c : Thread nD τ) ↦[M.view.set]{fullShare} f)
    ⊢ (iprop(∃ X, ∃ g, ⌜M.view.read (Elt F) g = X⌝ ∗ (M.view.loc (c : Thread nD τ) ↦[M.view.set]{fullShare} g)) : sProp 𝕄) := by
  iintro H
  iexists _; iexists f
  isplitr; · ipureintro; rfl
  iexact H

omit [FloatOps F] in
theorem slots_split : iprop(∃ X, own (F := F) c M fullShare X) ⊢ iprop(some' (F := F) c M 0 ∗ some' c M 1 ∗ some' c M 2) := by
  unfold own owns
  iintro ⟨%X, %f, -, H⟩
  rw [slots_union M]
  ihave H' := (pointsTo_union (Finset.disjoint_union_right.mpr ⟨slots_disj M (by decide), slots_disj M (by decide)⟩)).1 $$ H
  icases H' with ⟨H0, H'⟩
  ihave H'' := (pointsTo_union (slots_disj M (by decide))).1 $$ H'
  icases H'' with ⟨H1, H2⟩
  unfold some' own owns
  isplitl [H0]
  · iexists _; iexists f; isplitr; · ipureintro; rfl
    iexact H0
  isplitl [H1]
  · iexists _; iexists f; isplitr; · ipureintro; rfl
    iexact H1
  iexists _; iexists f; isplitr; · ipureintro; rfl
  iexact H2

omit [FloatOps F] in
theorem slots_join : iprop(some' (F := F) c M 0 ∗ some' c M 1 ∗ some' c M 2) ⊢ iprop(∃ X, own (F := F) c M fullShare X) := by
  unfold some' own owns
  iintro ⟨⟨%X0, %f0, -, H0⟩, ⟨%X1, %f1, -, H1⟩, ⟨%X2, %f2, -, H2⟩⟩
  ihave H := (pointsTo_join (ℓ := M.view.loc (c : Thread nD τ)) (I := (slotOf M 1).view.set) (J := (slotOf M 2).view.set) (slots_disj M (by decide))) $$ [H1 H2]
  · isplitl [H1]; · iexact H1
    iexact H2
  ihave H' := (pointsTo_join (ℓ := M.view.loc (c : Thread nD τ)) (I := (slotOf M 0).view.set) (J := (slotOf M 1).view.set ∪ (slotOf M 2).view.set)
    (Finset.disjoint_union_right.mpr ⟨slots_disj M (by decide), slots_disj M (by decide)⟩)) $$ [H0 H]
  · isplitl [H0]; · iexact H0
    iexact H
  rw [← slots_union M]
  iapply (pts_own c M)
  iexact H'

/-- The block of `x`, lent three times and kept once. -/
theorem x_split (X : S2x256x768.Idx → Elt F .bf16) : own c xM fullShare X
    ⊣⊢ iprop((own c xM (shr 0 0) X ∗ own c xM (shr 0 1) X) ∗ own c xM (shr 0 2) X ∗ own c xM fullShare.right.right X) := by
  refine (owns_share (c : Thread nD τ) xM (PosShare.mem_left_op_right fullShare) X).trans ?_
  exact sep_congr (owns_share (c : Thread nD τ) xM (PosShare.mem_left_op_right fullShare.left) X)
    (owns_share (c : Thread nD τ) xM (PosShare.mem_left_op_right fullShare.right) X)

end Slots

/-! ## The handshake -/

section Body
variable (dat : Fin 2 → Dev nD → Fin 3 → S2x256x768.Idx → Elt F .bf16) (K : Dev nD × Cx → ℕ) (c : Dev nD)

/-- The three partial products still owed while the first exchange runs. -/
abbrev lastDues : List (GSem nD τ sig × ℕ) := [(rCell (fw c 0) 1 (rv 0), N), (rCell (fw c 1) 1 (rv 1), N), (rCell (fw c 2) 1 (rv 2), N)]
abbrev midDues : List (GSem nD τ sig × ℕ) := (rCell (fw c 0) 0 (rv 0), N) :: (rCell (fw c 1) 0 (rv 1), N) :: (rCell (fw c 2) 0 (rv 2), N) :: lastDues c

theorem level_last (k : Fin 3) : ∀ p ∈ lastDues c, p.1.1.2 = .tc ∧ lvS (csem (some (false, 0, k))) < lvS p.1.2 := by
  have h : ∀ j k : Fin 3, lvS (csem (some (false, 0, k))) < lvS (.dma (rS 1 j)) := by decide
  intro p hp
  simp only [lastDues, List.mem_cons, List.not_mem_nil, or_false] at hp
  rcases hp with rfl | rfl | rfl <;> exact ⟨rfl, h _ k⟩

theorem level_bar : ∀ p ∈ midDues c, p.1.1.2 = .tc ∧ lvS (.reg barS) < lvS p.1.2 := by
  have h : ∀ (a : Fin 2) (j : Fin 3), lvS (.reg barS) < lvS (.dma (rS a j)) := by decide
  intro p hp
  simp only [midDues, lastDues, List.mem_cons, List.not_mem_nil, or_false] at hp
  rcases hp with rfl | rfl | rfl | rfl | rfl | rfl <;> exact ⟨rfl, h _ _⟩

theorem level_nil {s : SemLoc sig} : ∀ p ∈ ([] : List (GSem nD τ sig × ℕ)), p.1.1.2 = .tc ∧ lvS s < lvS p.1.2 :=
  fun p hp => absurd hp List.not_mem_nil

theorem done_wp {α : Type} {a : α} {Q : α → sProp 𝕄} : Q a ⊢ wpc c (.ret a) Q := by
  unfold wpc; rw [wp_ret]
  iintro H; imodintro; iexact H

/-- Three signals and the wait for three: the landing slots change hands. -/
theorem start_wp {β : Type} {k : (Σ' (d0 : Dev nD) (v2 : BitVec 32), BitVec 32) → Prog (TpuEff nD τ sig (Elt F) Λ₀ .tc) β} {Q : β → sProp 𝕄} :
    iprop(records dat K ∗ owesL c ((barCell (fw c 0), 1) :: (barCell (fw c 1), 1) :: (barCell (fw c 2), 1) :: midDues c)
        ∗ (dutyTok ER (barCell (fw c 0)) 0 (rv 0) ∗ dutyTok ER (barCell (fw c 1)) 0 (rv 1) ∗ dutyTok ER (barCell (fw c 2)) 0 (rv 2))
        ∗ (some' (F := F) c agM 0 ∗ some' c agM 1 ∗ some' c agM 2) ∗ (some' (F := F) c rrM 0 ∗ some' c rrM 1 ∗ some' c rrM 2)
        ∗ cred (tallyAt (barCell c) () 3) ∗ atPos ER (barCell c) 0 ∅ 0)
    ⊢ iprop(((owesL c (midDues c) ∗ semVal (barCell c) 0 ∗ barPay (F := F) c 0 ∗ barPay (F := F) c 1 ∗ barPay (F := F) c 2)
        -∗ wpc c (k ⟨c, wd c, Scalar.remsi (Scalar.addi (wd c) 1#32) 4#32⟩) Q)
      -∗ wpc c ((k0_part1 (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11) >>= k) Q) := by
  rw [k0_part1_eq_skeleton]; unfold k0_part1_skel
  simp only [semSignalWord, semWaitWord, Prog.lift, Prog.bind_op, Prog.bind_ret, Prog.pure_eq_ret, wp_deviceId]
  iintro ⟨#HR, HO, ⟨T0, T1, T2⟩, ⟨A0, A1, A2⟩, ⟨B0, B1, B2⟩, HC, HA⟩ Hk
  iapply (signal_own dat K c 0 (dev1_eq c) rfl) $$ [HO T0 A0 B0]
  · isplitr; · iexact HR
    isplitl [HO]; · iexact HO
    isplitl [T0]; · iexact T0
    isplitl [A0]; · iexact A0
    iexact B0
  iintro HO
  iapply (signal_own dat K c 1 (dev2_eq c) rfl) $$ [HO T1 A1 B1]
  · isplitr; · iexact HR
    isplitl [HO]; · iexact HO
    isplitl [T1]; · iexact T1
    isplitl [A1]; · iexact A1
    iexact B1
  iintro HO
  iapply (signal_own dat K c 2 (dev3_eq c) rfl) $$ [HO T2 A2 B2]
  · isplitr; · iexact HR
    isplitl [HO]; · iexact HO
    isplitl [T2]; · iexact T2
    isplitl [A2]; · iexact A2
    iexact B2
  iintro HO
  iapply (wait_bar dat K c (level_bar c) rfl) $$ [HC HO HA]
  · isplitr; · iexact HR
    isplitl [HC]; · iexact HC
    isplitl [HO]; · iexact HO
    iexact HA
  iintro HP
  iapply Hk
  iexact HP

end Body

/-! ## The whole body -/

section Sound
variable (I : Ins F) (K : Dev nD × Cx → ℕ) (c : Dev nD)

theorem send_dat0 {C : S512x256.Idx → Elt F .bf16} (hC : C = I.ctx c (fw c 0)) :
    I.dat 1 c 0 = twoB (k0_pay91 C (I.wo c)) (k0_pay92 C (I.wo c)) := by
  subst hC; rfl
theorem send_dat1 {C : S512x256.Idx → Elt F .bf16} (hC : C = I.ctx c (fw c 1)) :
    I.dat 1 c 1 = twoB (k0_pay110 C (I.wo c)) (k0_pay111 C (I.wo c)) := by
  subst hC; rfl
theorem send_dat2 {C : S512x256.Idx → Elt F .bf16} (hC : C = I.ctx c (fw c 2)) :
    I.dat 1 c 2 = twoB (k0_pay129 C (I.wo c)) (k0_pay130 C (I.wo c)) := by
  subst hC; rfl

/-- The result as the last pieces compute it. -/
theorem out_eq (Y11 : S2x256x768.Idx → Elt F .f32) (Y10 : S512x256.Idx → Elt F .bf16) :
    k0_pay152 (k0_pay150 (VecWindow.put (VecWindow.put Y11 ![0, 0, 0] S1x256x768.size (k0_pay148 (VecWindow.put (VecWindow.put (VecWindow.put (VecWindow.put (VecWindow.put (VecWindow.put (VecWindow.put (VecWindow.put Y10 ![0, 0] S256x64.size (k0_pay131 (VecWindow.window (I.qV c) (k0_off5 c 0#32) S1x256x64.size (k0_off5_inb c 0)) (VecWindow.window (I.kV c) ![0, 0, 0] S1x1024x64.size inb_S2x1024x256_S1x1024x64_0_0_0) (VecWindow.window (I.vV c) ![0, 0, 0] S1x1024x64.size inb_S2x1024x256_S1x1024x64_0_0_0))) ![0, 64] S256x64.size (k0_pay135 (k0_pay132 (VecWindow.window (I.qV c) (k0_off6 c 0#32) S1x256x64.size (k0_off6_inb c 0)) (VecWindow.window (I.kV c) ![0, 0, 64] S1x1024x64.size inb_S2x1024x256_S1x1024x64_0_0_64)) (k0_pay133 (VecWindow.window (I.qV c) (k0_off6 c 0#32) S1x256x64.size (k0_off6_inb c 0)) (VecWindow.window (I.kV c) ![0, 0, 64] S1x1024x64.size inb_S2x1024x256_S1x1024x64_0_0_64)) (k0_pay134 (F := F)) (VecWindow.window (I.vV c) ![0, 0, 64] S1x1024x64.size inb_S2x1024x256_S1x1024x64_0_0_64))) ![0, 128] S256x64.size (k0_pay136 (VecWindow.window (I.qV c) (k0_off7 c 0#32) S1x256x64.size (k0_off7_inb c 0)) (VecWindow.window (I.kV c) ![0, 0, 128] S1x1024x64.size inb_S2x1024x256_S1x1024x64_0_0_128) (VecWindow.window (I.vV c) ![0, 0, 128] S1x1024x64.size inb_S2x1024x256_S1x1024x64_0_0_128))) ![0, 192] S256x64.size (k0_pay137 (VecWindow.window (I.qV c) (k0_off8 c 0#32) S1x256x64.size (k0_off8_inb c 0)) (VecWindow.window (I.kV c) ![0, 0, 192] S1x1024x64.size inb_S2x1024x256_S1x1024x64_0_0_192) (VecWindow.window (I.vV c) ![0, 0, 192] S1x1024x64.size inb_S2x1024x256_S1x1024x64_0_0_192))) ![256, 0] S256x64.size (k0_pay141 (k0_pay139 (VecWindow.window (I.qV c) (k0_off9 c 0#32) S1x256x64.size (k0_off9_inb c 0)) (VecWindow.window (I.kV c) ![1, 0, 0] S1x1024x64.size inb_S2x1024x256_S1x1024x64_1_0_0)) (k0_pay140 (VecWindow.window (I.qV c) (k0_off9 c 0#32) S1x256x64.size (k0_off9_inb c 0)) (VecWindow.window (I.kV c) ![1, 0, 0] S1x1024x64.size inb_S2x1024x256_S1x1024x64_1_0_0)) (VecWindow.window (I.vV c) ![1, 0, 0] S1x1024x64.size inb_S2x1024x256_S1x1024x64_1_0_0))) ![256, 64] S256x64.size (k0_pay142 (VecWindow.window (I.qV c) (k0_off10 c 0#32) S1x256x64.size (k0_off10_inb c 0)) (VecWindow.window (I.kV c) ![1, 0, 64] S1x1024x64.size inb_S2x1024x256_S1x1024x64_1_0_64) (VecWindow.window (I.vV c) ![1, 0, 64] S1x1024x64.size inb_S2x1024x256_S1x1024x64_1_0_64))) ![256, 128] S256x64.size (k0_pay144 ((k0_pay143 (VecWindow.window (I.qV c) (k0_off11 c 0#32) S1x256x64.size (k0_off11_inb c 0)))) (VecWindow.window (I.kV c) ![1, 0, 128] S1x1024x64.size inb_S2x1024x256_S1x1024x64_1_0_128) (VecWindow.window (I.vV c) ![1, 0, 128] S1x1024x64.size inb_S2x1024x256_S1x1024x64_1_0_128))) ![256, 192] S256x64.size (k0_pay146 ((k0_pay145 (VecWindow.window (I.qV c) (k0_off12 c 0#32) S1x256x64.size (k0_off12_inb c 0)) (VecWindow.window (I.kV c) ![1, 0, 192] S1x1024x64.size inb_S2x1024x256_S1x1024x64_1_0_192) (VecWindow.window (I.vV c) ![1, 0, 192] S1x1024x64.size inb_S2x1024x256_S1x1024x64_1_0_192))))) (I.wo c))) ![1, 0, 0] S1x256x768.size (k0_pay149 (VecWindow.put (VecWindow.put (VecWindow.put (VecWindow.put (VecWindow.put (VecWindow.put (VecWindow.put (VecWindow.put Y10 ![0, 0] S256x64.size (k0_pay131 (VecWindow.window (I.qV c) (k0_off5 c 0#32) S1x256x64.size (k0_off5_inb c 0)) (VecWindow.window (I.kV c) ![0, 0, 0] S1x1024x64.size inb_S2x1024x256_S1x1024x64_0_0_0) (VecWindow.window (I.vV c) ![0, 0, 0] S1x1024x64.size inb_S2x1024x256_S1x1024x64_0_0_0))) ![0, 64] S256x64.size (k0_pay135 (k0_pay132 (VecWindow.window (I.qV c) (k0_off6 c 0#32) S1x256x64.size (k0_off6_inb c 0)) (VecWindow.window (I.kV c) ![0, 0, 64] S1x1024x64.size inb_S2x1024x256_S1x1024x64_0_0_64)) (k0_pay133 (VecWindow.window (I.qV c) (k0_off6 c 0#32) S1x256x64.size (k0_off6_inb c 0)) (VecWindow.window (I.kV c) ![0, 0, 64] S1x1024x64.size inb_S2x1024x256_S1x1024x64_0_0_64)) (k0_pay134 (F := F)) (VecWindow.window (I.vV c) ![0, 0, 64] S1x1024x64.size inb_S2x1024x256_S1x1024x64_0_0_64))) ![0, 128] S256x64.size (k0_pay136 (VecWindow.window (I.qV c) (k0_off7 c 0#32) S1x256x64.size (k0_off7_inb c 0)) (VecWindow.window (I.kV c) ![0, 0, 128] S1x1024x64.size inb_S2x1024x256_S1x1024x64_0_0_128) (VecWindow.window (I.vV c) ![0, 0, 128] S1x1024x64.size inb_S2x1024x256_S1x1024x64_0_0_128))) ![0, 192] S256x64.size (k0_pay137 (VecWindow.window (I.qV c) (k0_off8 c 0#32) S1x256x64.size (k0_off8_inb c 0)) (VecWindow.window (I.kV c) ![0, 0, 192] S1x1024x64.size inb_S2x1024x256_S1x1024x64_0_0_192) (VecWindow.window (I.vV c) ![0, 0, 192] S1x1024x64.size inb_S2x1024x256_S1x1024x64_0_0_192))) ![256, 0] S256x64.size (k0_pay141 (k0_pay139 (VecWindow.window (I.qV c) (k0_off9 c 0#32) S1x256x64.size (k0_off9_inb c 0)) (VecWindow.window (I.kV c) ![1, 0, 0] S1x1024x64.size inb_S2x1024x256_S1x1024x64_1_0_0)) (k0_pay140 (VecWindow.window (I.qV c) (k0_off9 c 0#32) S1x256x64.size (k0_off9_inb c 0)) (VecWindow.window (I.kV c) ![1, 0, 0] S1x1024x64.size inb_S2x1024x256_S1x1024x64_1_0_0)) (VecWindow.window (I.vV c) ![1, 0, 0] S1x1024x64.size inb_S2x1024x256_S1x1024x64_1_0_0))) ![256, 64] S256x64.size (k0_pay142 (VecWindow.window (I.qV c) (k0_off10 c 0#32) S1x256x64.size (k0_off10_inb c 0)) (VecWindow.window (I.kV c) ![1, 0, 64] S1x1024x64.size inb_S2x1024x256_S1x1024x64_1_0_64) (VecWindow.window (I.vV c) ![1, 0, 64] S1x1024x64.size inb_S2x1024x256_S1x1024x64_1_0_64))) ![256, 128] S256x64.size (k0_pay144 ((k0_pay143 (VecWindow.window (I.qV c) (k0_off11 c 0#32) S1x256x64.size (k0_off11_inb c 0)))) (VecWindow.window (I.kV c) ![1, 0, 128] S1x1024x64.size inb_S2x1024x256_S1x1024x64_1_0_128) (VecWindow.window (I.vV c) ![1, 0, 128] S1x1024x64.size inb_S2x1024x256_S1x1024x64_1_0_128))) ![256, 192] S256x64.size (k0_pay146 ((k0_pay145 (VecWindow.window (I.qV c) (k0_off12 c 0#32) S1x256x64.size (k0_off12_inb c 0)) (VecWindow.window (I.kV c) ![1, 0, 192] S1x1024x64.size inb_S2x1024x256_S1x1024x64_1_0_192) (VecWindow.window (I.vV c) ![1, 0, 192] S1x1024x64.size inb_S2x1024x256_S1x1024x64_1_0_192))))) (I.wo c)))
        (up (I.dat 1 (fw c 2) (rv 2))) (up (I.dat 1 (fw c 1) (rv 1)))) (k0_pay151 (up (I.dat 1 (fw c 0) (rv 0)))) = I.out c := by
  have hc : (⟨(c.val + 0) % 4, Nat.mod_lt _ (by decide)⟩ : Dev nD) = c := Fin.ext (Nat.mod_eq_of_lt c.isLt)
  rw [ctx_fill0, hc]
  exact congrArg (fun P => k0_pay152 (k0_pay150 P (up (I.dat 1 (fw c 2) (rv 2))) (up (I.dat 1 (fw c 1) (rv 1)))) (k0_pay151 (up (I.dat 1 (fw c 0) (rv 0))))) (own_fill I c Y11)

/-- A device's positions at its thirteen cells. -/
def pos : sProp 𝕄 :=
  iprop(atPos ER (barCell c) 0 ∅ 0 ∗ atPos ER (sCell c 0 0) 0 ∅ 0 ∗ atPos ER (sCell c 0 1) 0 ∅ 0 ∗ atPos ER (sCell c 0 2) 0 ∅ 0 ∗ atPos ER (rCell c 0 0) 0 ∅ 0 ∗ atPos ER (rCell c 0 1) 0 ∅ 0 ∗ atPos ER (rCell c 0 2) 0 ∅ 0 ∗ atPos ER (sCell c 1 0) 0 ∅ 0 ∗ atPos ER (sCell c 1 1) 0 ∅ 0 ∗ atPos ER (sCell c 1 2) 0 ∅ 0 ∗ atPos ER (rCell c 1 0) 0 ∅ 0 ∗ atPos ER (rCell c 1 1) 0 ∅ 0 ∗ atPos ER (rCell c 1 2) 0 ∅ 0)
/-- The tokens it pays with. -/
def payToks : sProp 𝕄 :=
  iprop((dutyTok ER (barCell (fw c 0)) 0 (rv 0) ∗ dutyTok ER (barCell (fw c 1)) 0 (rv 1) ∗ dutyTok ER (barCell (fw c 2)) 0 (rv 2))
    ∗ dutyTok ER (sCell c 0 0) 0 0 ∗ dutyTok ER (rCell (fw c 0) 0 (rv 0)) 0 0 ∗ dutyTok ER (sCell c 0 1) 0 0 ∗ dutyTok ER (rCell (fw c 1) 0 (rv 1)) 0 0 ∗ dutyTok ER (sCell c 0 2) 0 0 ∗ dutyTok ER (rCell (fw c 2) 0 (rv 2)) 0 0 ∗ dutyTok ER (sCell c 1 0) 0 0 ∗ dutyTok ER (rCell (fw c 0) 1 (rv 0)) 0 0 ∗ dutyTok ER (sCell c 1 1) 0 0 ∗ dutyTok ER (rCell (fw c 1) 1 (rv 1)) 0 0 ∗ dutyTok ER (sCell c 1 2) 0 0 ∗ dutyTok ER (rCell (fw c 2) 1 (rv 2)) 0 0)
/-- The credit it is launched with. -/
def creds : sProp 𝕄 :=
  iprop(cred (tallyAt (barCell c) () 3) ∗ cred (tallyAt (rCell c 0 0) () N) ∗ cred (tallyAt (rCell c 0 1) () N) ∗ cred (tallyAt (rCell c 0 2) () N) ∗ cred (tallyAt (rCell c 1 0) () N) ∗ cred (tallyAt (rCell c 1 1) () N) ∗ cred (tallyAt (rCell c 1 2) () N))
/-- Its semaphores, at zero. -/
def semsZ : sProp 𝕄 :=
  iprop(semVal (barCell c) 0 ∗ semVal (sCell c 0 0) 0 ∗ semVal (sCell c 0 1) 0 ∗ semVal (sCell c 0 2) 0 ∗ semVal (rCell c 0 0) 0 ∗ semVal (rCell c 0 1) 0 ∗ semVal (rCell c 0 2) 0 ∗ semVal (sCell c 1 0) 0 ∗ semVal (sCell c 1 1) 0 ∗ semVal (sCell c 1 2) 0 ∗ semVal (rCell c 1 0) 0 ∗ semVal (rCell c 1 1) 0 ∗ semVal (rCell c 1 2) 0)
/-- Its eight scratch buffers, at any contents. -/
def scratch : sProp 𝕄 :=
  iprop((∃ X, own (F := F) c agM fullShare X) ∗ (∃ X, own (F := F) c qM fullShare X) ∗ (∃ X, own (F := F) c kM fullShare X) ∗ (∃ X, own (F := F) c vM fullShare X) ∗ (∃ X, own (F := F) c ctM fullShare X) ∗ (∃ X, own (F := F) c pwM fullShare X) ∗ (∃ X, own (F := F) c rsM fullShare X) ∗ (∃ X, own (F := F) c rrM fullShare X))
/-- The operands in their staging buffers. -/
def operands : sProp 𝕄 :=
  iprop(own c xM fullShare (I.x c) ∗ own c wqM fullShare (I.wq c) ∗ own c wkM fullShare (I.wk c) ∗ own c wvM fullShare (I.wv c) ∗ own c woM fullShare (I.wo c))

set_option maxHeartbeats 4000000 in
theorem sound {Q : PUnit → sProp 𝕄} :
    iprop(records I.dat K ∗ owesL c (dues c) ∗ pos (F := F) c ∗ payToks (F := F) c ∗ creds (F := F) c ∗ operands I c ∗ (∃ X, own (F := F) c outM fullShare X) ∗ scratch (F := F) c)
    ⊢ iprop(((owesL c [] ∗ semsZ (F := F) c ∗ operands I c ∗ own c outM fullShare (I.out c) ∗ scratch (F := F) c) -∗ Q ⟨⟩)
      -∗ wpc c (cc0_body (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11) Q) := by
  unfold pos payToks creds operands scratch
  iintro ⟨#HR, HO, ⟨HAb, HA14_0, HA14_1, HA14_2, HA15_0, HA15_1, HA15_2, HA16_0, HA16_1, HA16_2, HA17_0, HA17_1, HA17_2⟩,
    ⟨HTb, HT0_0, HU0_0, HT0_1, HU0_1, HT0_2, HU0_2, HT1_0, HU1_0, HT1_1, HU1_1, HT1_2, HU1_2⟩,
    ⟨HCb, HC15_0, HC15_1, HC15_2, HC17_0, HC17_1, HC17_2⟩, ⟨Hx, H1, H2, H3, H4⟩, ⟨%Y5, H5⟩,
    ⟨Hag, ⟨%Y7, H7⟩, ⟨%Y8, H8⟩, ⟨%Y9, H9⟩, ⟨%Y10, H10⟩, ⟨%Y11, H11⟩, Hrs, Hrr⟩⟩ Hk
  ihave Hx := (x_split c (I.x c)).1 $$ Hx
  icases Hx with ⟨⟨HS0_0, HS0_1⟩, HS0_2, H0⟩
  ihave Hag := (slots_split c agM) $$ Hag
  ihave Hrr := (slots_split c rrM) $$ Hrr
  ihave Hrs := (slots_split c rsM) $$ Hrs
  icases Hrs with ⟨⟨%Z12_0, H12_0⟩, ⟨%Z12_1, H12_1⟩, ⟨%Z12_2, H12_2⟩⟩
  rw [cc0_body_eq_skeleton]; unfold cc0_body_skel
  rw [k0_part40_eq_skeleton]; unfold k0_part40_skel
  unfold wpc
  rw [Sem.wp_bind]
  iapply (start_wp I.dat K c) $$ [HO HTb Hag Hrr HCb HAb]
  · isplitr; · iexact HR
    isplitl [HO]; · iexact HO
    isplitl [HTb]; · iexact HTb
    isplitl [Hag]; · iexact Hag
    isplitl [Hrr]; · iexact Hrr
    isplitl [HCb]; · iexact HCb
    iexact HAb
  iintro ⟨HO, HZb, HP0, HP1, HP2⟩
  unfold barPay
  icases HP0 with ⟨HD0_0, HD1_0⟩
  icases HP1 with ⟨HD0_1, HD1_1⟩
  icases HP2 with ⟨HD0_2, HD1_2⟩
  iapply (part2_wp I.dat K c) $$ [HO HS0_0 HD0_0 HT0_0 HU0_0 HS0_1 HD0_1 HT0_1 HU0_1 HS0_2 HD0_2 HT0_2 HU0_2]
  · isplitr; · iexact HR
    isplitl [HO]; · iexact HO
    isplitl [HS0_0]; · iexact HS0_0
    isplitl [HD0_0]; · iexact HD0_0
    isplitl [HT0_0]; · iexact HT0_0
    isplitl [HU0_0]; · iexact HU0_0
    isplitl [HS0_1]; · iexact HS0_1
    isplitl [HD0_1]; · iexact HD0_1
    isplitl [HT0_1]; · iexact HT0_1
    isplitl [HU0_1]; · iexact HU0_1
    isplitl [HS0_2]; · iexact HS0_2
    isplitl [HD0_2]; · iexact HD0_2
    isplitl [HT0_2]; · iexact HT0_2
    iexact HU0_2
  iintro ⟨HO, HC0_0, HC0_1, HC0_2⟩
  iapply (part3_wp c)
  iapply (part4_wp c) $$ [H0 H1 H2]
  · isplitl [H0]; · iexact H0
    isplitl [H1]; · iexact H1
    iexact H2
  iintro ⟨H0, H1, H2⟩
  iapply (part5_wp c) $$ [H3 H7 H8 H9]
  · isplitl [H3]; · iexact H3
    isplitl [H7]; · iexact H7
    isplitl [H8]; · iexact H8
    iexact H9
  iintro ⟨H3, H7, H8, H9⟩
  iapply (part6_wp I.dat K c (level_last c 2)) $$ [HO HC15_2 HA15_2 H8 H9]
  · isplitr; · iexact HR
    isplitl [HO]; · iexact HO
    isplitl [HC15_2]; · iexact HC15_2
    isplitl [HA15_2]; · iexact HA15_2
    isplitl [H8]; · iexact H8
    iexact H9
  iintro ⟨HO, HZ15_2, H8, H9, H6_2⟩
  iapply (part7_wp c) $$ [H1 H2 H3 H7]
  · isplitl [H1]; · iexact H1
    isplitl [H2]; · iexact H2
    isplitl [H3]; · iexact H3
    iexact H7
  iintro ⟨H1, H2, H3, H7⟩
  iapply (part8_wp c) $$ [H8 H9 H7]
  · isplitl [H8]; · iexact H8
    isplitl [H9]; · iexact H9
    iexact H7
  iintro ⟨H8, H9, H7⟩
  iapply (part9_wp I.dat K c (level_last c 0)) $$ [HO HC15_0 HA15_0 H1 H2]
  · isplitr; · iexact HR
    isplitl [HO]; · iexact HO
    isplitl [HC15_0]; · iexact HC15_0
    isplitl [HA15_0]; · iexact HA15_0
    isplitl [H1]; · iexact H1
    iexact H2
  iintro ⟨HO, HZ15_0, H6_0, H1, H2⟩
  iapply (part10_wp c) $$ [H3 H7 H8 H9]
  · isplitl [H3]; · iexact H3
    isplitl [H7]; · iexact H7
    isplitl [H8]; · iexact H8
    iexact H9
  iintro ⟨H3, H7, H8, H9⟩
  iapply (part11_wp I.dat K c (level_last c 1)) $$ [HO HC15_1 HA15_1 H7 H8 H9]
  · isplitr; · iexact HR
    isplitl [HO]; · iexact HO
    isplitl [HC15_1]; · iexact HC15_1
    isplitl [HA15_1]; · iexact HA15_1
    isplitl [H7]; · iexact H7
    isplitl [H8]; · iexact H8
    iexact H9
  iintro ⟨HO, HZ15_1, H7, H8, H9, H6_1⟩
  iapply (part12_wp c) $$ [H1 H2 H3 H7]
  · isplitl [H1]; · iexact H1
    isplitl [H2]; · iexact H2
    isplitl [H3]; · iexact H3
    iexact H7
  iintro ⟨H1, H2, H3, H7⟩
  iapply (part13_wp c) $$ [H7 H8 H9]
  · isplitl [H7]; · iexact H7
    isplitl [H8]; · iexact H8
    iexact H9
  iintro ⟨H7, H8, H9⟩
  ihave H7 := (Entails.of_eq (congrArg (own c qM fullShare) (q_fill I c Y7))) $$ H7
  ihave H8 := (Entails.of_eq (congrArg (own c kM fullShare) (k_fill I c Y8))) $$ H8
  ihave H9 := (Entails.of_eq (congrArg (own c vM fullShare) (v_fill I c Y9))) $$ H9
  iapply (part14_wp c) $$ [H7 H8 H9 H10]
  · isplitl [H7]; · iexact H7
    isplitl [H8]; · iexact H8
    isplitl [H9]; · iexact H9
    iexact H10
  iintro ⟨H7, H8, H9, H10⟩
  iapply (part15_wp c) $$ [H9 H10 H7 H8]
  · isplitl [H9]; · iexact H9
    isplitl [H10]; · iexact H10
    isplitl [H7]; · iexact H7
    iexact H8
  iintro ⟨H9, H10, H7, H8⟩
  iapply (part16_wp c) $$ [H7 H8 H9 H10]
  · isplitl [H7]; · iexact H7
    isplitl [H8]; · iexact H8
    isplitl [H9]; · iexact H9
    iexact H10
  iintro ⟨H7, H8, H9, H10⟩
  iapply (part17_wp c) $$ [H10 H7 H8 H9]
  · isplitl [H10]; · iexact H10
    isplitl [H7]; · iexact H7
    isplitl [H8]; · iexact H8
    iexact H9
  iintro ⟨H10, H7, H8, H9⟩
  iapply (part18_wp c) $$ [H8 H9 H10 H7]
  · isplitl [H8]; · iexact H8
    isplitl [H9]; · iexact H9
    isplitl [H10]; · iexact H10
    iexact H7
  iintro ⟨H8, H9, H10, H7⟩
  iapply (part19_wp I.dat K c (send_dat0 I c (ctx_fill1 c (I.qV c) (I.kV c) (I.vV c) _))) $$ [HO HD1_0 HT1_0 HU1_0 H10 H4 H12_0]
  · isplitr; · iexact HR
    isplitl [HO]; · iexact HO
    isplitl [HD1_0]; · iexact HD1_0
    isplitl [HT1_0]; · iexact HT1_0
    isplitl [HU1_0]; · iexact HU1_0
    isplitl [H10]; · iexact H10
    isplitl [H4]; · iexact H4
    iexact H12_0
  iintro ⟨HO, HC1_0, H10, H4⟩
  ihave H10 := (Entails.of_eq (congrArg (own c ctM fullShare) (ctx_fill1 c (I.qV c) (I.kV c) (I.vV c) _))) $$ H10
  iapply (part20_wp c) $$ [H7 H8 H9 H10]
  · isplitl [H7]; · iexact H7
    isplitl [H8]; · iexact H8
    isplitl [H9]; · iexact H9
    iexact H10
  iintro ⟨H7, H8, H9, H10⟩
  iapply (part21_wp c) $$ [H9 H10 H7 H8]
  · isplitl [H9]; · iexact H9
    isplitl [H10]; · iexact H10
    isplitl [H7]; · iexact H7
    iexact H8
  iintro ⟨H9, H10, H7, H8⟩
  iapply (part22_wp c) $$ [H7 H8 H9 H10]
  · isplitl [H7]; · iexact H7
    isplitl [H8]; · iexact H8
    isplitl [H9]; · iexact H9
    iexact H10
  iintro ⟨H7, H8, H9, H10⟩
  iapply (part23_wp c) $$ [H10 H7 H8 H9]
  · isplitl [H10]; · iexact H10
    isplitl [H7]; · iexact H7
    isplitl [H8]; · iexact H8
    iexact H9
  iintro ⟨H10, H7, H8, H9⟩
  iapply (part24_wp c) $$ [H8 H9 H10 H7]
  · isplitl [H8]; · iexact H8
    isplitl [H9]; · iexact H9
    isplitl [H10]; · iexact H10
    iexact H7
  iintro ⟨H8, H9, H10, H7⟩
  iapply (part25_wp I.dat K c (send_dat1 I c (ctx_fill2 c (I.qV c) (I.kV c) (I.vV c) _))) $$ [HO HD1_1 HT1_1 HU1_1 H10 H4 H12_1]
  · isplitr; · iexact HR
    isplitl [HO]; · iexact HO
    isplitl [HD1_1]; · iexact HD1_1
    isplitl [HT1_1]; · iexact HT1_1
    isplitl [HU1_1]; · iexact HU1_1
    isplitl [H10]; · iexact H10
    isplitl [H4]; · iexact H4
    iexact H12_1
  iintro ⟨HO, HC1_1, H10, H4⟩
  ihave H10 := (Entails.of_eq (congrArg (own c ctM fullShare) (ctx_fill2 c (I.qV c) (I.kV c) (I.vV c) _))) $$ H10
  iapply (part26_wp c) $$ [H7 H8 H9 H10]
  · isplitl [H7]; · iexact H7
    isplitl [H8]; · iexact H8
    isplitl [H9]; · iexact H9
    iexact H10
  iintro ⟨H7, H8, H9, H10⟩
  iapply (part27_wp c) $$ [H9 H10 H7 H8]
  · isplitl [H9]; · iexact H9
    isplitl [H10]; · iexact H10
    isplitl [H7]; · iexact H7
    iexact H8
  iintro ⟨H9, H10, H7, H8⟩
  iapply (part28_wp c) $$ [H7 H8 H9 H10]
  · isplitl [H7]; · iexact H7
    isplitl [H8]; · iexact H8
    isplitl [H9]; · iexact H9
    iexact H10
  iintro ⟨H7, H8, H9, H10⟩
  iapply (part29_wp c) $$ [H10 H7 H8 H9]
  · isplitl [H10]; · iexact H10
    isplitl [H7]; · iexact H7
    isplitl [H8]; · iexact H8
    iexact H9
  iintro ⟨H10, H7, H8, H9⟩
  iapply (part30_wp c) $$ [H8 H9 H10 H7]
  · isplitl [H8]; · iexact H8
    isplitl [H9]; · iexact H9
    isplitl [H10]; · iexact H10
    iexact H7
  iintro ⟨H8, H9, H10, H7⟩
  iapply (part31_wp I.dat K c (send_dat2 I c (ctx_fill3 c (I.qV c) (I.kV c) (I.vV c) _))) $$ [HO HD1_2 HT1_2 HU1_2 H10 H4 H12_2]
  · isplitr; · iexact HR
    isplitl [HO]; · iexact HO
    isplitl [HD1_2]; · iexact HD1_2
    isplitl [HT1_2]; · iexact HT1_2
    isplitl [HU1_2]; · iexact HU1_2
    isplitl [H10]; · iexact H10
    isplitl [H4]; · iexact H4
    iexact H12_2
  iintro ⟨HO, HC1_2, H10, H4⟩
  ihave H10 := (Entails.of_eq (congrArg (own c ctM fullShare) (ctx_fill3 c (I.qV c) (I.kV c) (I.vV c) _))) $$ H10
  iapply (part32_wp c) $$ [H7 H8 H9 H10]
  · isplitl [H7]; · iexact H7
    isplitl [H8]; · iexact H8
    isplitl [H9]; · iexact H9
    iexact H10
  iintro ⟨H7, H8, H9, H10⟩
  iapply (part33_wp c) $$ [H9 H10 H7 H8]
  · isplitl [H9]; · iexact H9
    isplitl [H10]; · iexact H10
    isplitl [H7]; · iexact H7
    iexact H8
  iintro ⟨H9, H10, H7, H8⟩
  iapply (part34_wp c) $$ [H7 H8 H9 H10]
  · isplitl [H7]; · iexact H7
    isplitl [H8]; · iexact H8
    isplitl [H9]; · iexact H9
    iexact H10
  iintro ⟨H7, H8, H9, H10⟩
  iapply (part35_wp c) $$ [H10 H7 H8 H9]
  · isplitl [H10]; · iexact H10
    isplitl [H7]; · iexact H7
    isplitl [H8]; · iexact H8
    iexact H9
  iintro ⟨H10, H7, H8, H9⟩
  iapply (part36_wp c) $$ [H8 H9 H10 H7]
  · isplitl [H8]; · iexact H8
    isplitl [H9]; · iexact H9
    isplitl [H10]; · iexact H10
    iexact H7
  iintro ⟨H8, H9, H10, H7⟩
  iapply (part37_wp I.dat K c level_nil) $$ [HO HC17_2 HA17_2 H10 H4 H11]
  · isplitr; · iexact HR
    isplitl [HO]; · iexact HO
    isplitl [HC17_2]; · iexact HC17_2
    isplitl [HA17_2]; · iexact HA17_2
    isplitl [H10]; · iexact H10
    isplitl [H4]; · iexact H4
    iexact H11
  iintro ⟨HO, HZ17_2, H10, H4, H11, H13_2⟩
  iapply (part38_wp I.dat K c level_nil level_nil) $$ [HO HC17_1 HA17_1 HC17_0 HA17_0 H13_2]
  · isplitr; · iexact HR
    isplitl [HO]; · iexact HO
    isplitl [HC17_1]; · iexact HC17_1
    isplitl [HA17_1]; · iexact HA17_1
    isplitl [HC17_0]; · iexact HC17_0
    isplitl [HA17_0]; · iexact HA17_0
    iexact H13_2
  iintro ⟨HO, HZ17_1, HZ17_0, H13_2, H13_1, H13_0⟩
  iapply (part39_wp I.dat K c level_nil level_nil level_nil) $$ [HO HC0_0 HA14_0 HC0_1 HA14_1 HC0_2 HA14_2 H5]
  · isplitr; · iexact HR
    isplitl [HO]; · iexact HO
    isplitl [HC0_0]; · iexact HC0_0
    isplitl [HA14_0]; · iexact HA14_0
    isplitl [HC0_1]; · iexact HC0_1
    isplitl [HA14_1]; · iexact HA14_1
    isplitl [HC0_2]; · iexact HC0_2
    isplitl [HA14_2]; · iexact HA14_2
    iexact H5
  iintro ⟨HO, HZ14_0, HP14_0, HZ14_1, HP14_1, HZ14_2, HP14_2, H5⟩
  simp only [Prog.lift, Prog.bind_op, Prog.bind_ret, Prog.pure_eq_ret]
  iapply (wait_snd1 I.dat K c 0 level_nil rfl rfl) $$ [HC1_0 HO HA16_0]
  · isplitr; · iexact HR
    isplitl [HC1_0]; · iexact HC1_0
    isplitl [HO]; · iexact HO
    iexact HA16_0
  iintro ⟨HO, HZ16_0, HP16_0⟩
  iapply (wait_snd1 I.dat K c 1 level_nil rfl rfl) $$ [HC1_1 HO HA16_1]
  · isplitr; · iexact HR
    isplitl [HC1_1]; · iexact HC1_1
    isplitl [HO]; · iexact HO
    iexact HA16_1
  iintro ⟨HO, HZ16_1, HP16_1⟩
  iapply (done_wp c)
  iapply (wait_snd1 I.dat K c 2 level_nil rfl rfl) $$ [HC1_2 HO HA16_2]
  · isplitr; · iexact HR
    isplitl [HC1_2]; · iexact HC1_2
    isplitl [HO]; · iexact HO
    iexact HA16_2
  iintro ⟨HO, HZ16_2, HP16_2⟩
  iapply (done_wp c)
  iapply Hk
  unfold semsZ
  isplitl [HO]; · iexact HO
  isplitl [HZb HZ14_0 HZ14_1 HZ14_2 HZ15_0 HZ15_1 HZ15_2 HZ16_0 HZ16_1 HZ16_2 HZ17_0 HZ17_1 HZ17_2]
  · isplitl [HZb]; · iexact HZb
    isplitl [HZ14_0]; · iexact HZ14_0
    isplitl [HZ14_1]; · iexact HZ14_1
    isplitl [HZ14_2]; · iexact HZ14_2
    isplitl [HZ15_0]; · iexact HZ15_0
    isplitl [HZ15_1]; · iexact HZ15_1
    isplitl [HZ15_2]; · iexact HZ15_2
    isplitl [HZ16_0]; · iexact HZ16_0
    isplitl [HZ16_1]; · iexact HZ16_1
    isplitl [HZ16_2]; · iexact HZ16_2
    isplitl [HZ17_0]; · iexact HZ17_0
    isplitl [HZ17_1]; · iexact HZ17_1
    iexact HZ17_2
  isplitl [HP14_0 HP14_1 HP14_2 H0 H1 H2 H3 H4]
  · isplitl [HP14_0 HP14_1 HP14_2 H0]
    · iapply (x_split c (I.x c)).2
      isplitl [HP14_0 HP14_1]
      · isplitl [HP14_0]; · iexact HP14_0
        iexact HP14_1
      isplitl [HP14_2]; · iexact HP14_2
      iexact H0
    isplitl [H1]; · iexact H1
    isplitl [H2]; · iexact H2
    isplitl [H3]; · iexact H3
    iexact H4
  isplitl [H5]
  · iapply (Entails.of_eq (congrArg (own c outM fullShare) (out_eq I c Y11 _)))
    iexact H5
  isplitl [H6_0 H6_1 H6_2]
  · iapply (slots_join c agM)
    isplitl [H6_0]; · iexists _; iexact H6_0
    isplitl [H6_1]; · iexists _; iexact H6_1
    iexists _; iexact H6_2
  isplitl [H7]; · iexists _; iexact H7
  isplitl [H8]; · iexists _; iexact H8
  isplitl [H9]; · iexists _; iexact H9
  isplitl [H10]; · iexists _; iexact H10
  isplitl [H11]; · iexists _; iexact H11
  isplitl [HP16_0 HP16_1 HP16_2]
  · iapply (slots_join c rsM)
    isplitl [HP16_0]; · iexists _; iexact HP16_0
    isplitl [HP16_1]; · iexists _; iexact HP16_1
    iexists _; iexact HP16_2
  iapply (slots_join c rrM)
  isplitl [H13_0]; · iexists _; iexact H13_0
  isplitl [H13_1]; · iexists _; iexact H13_1
  iexists _; iexact H13_2

end Sound

end Cert.Rope

end
-- ==== Proof.Deal.lean ====
/-
# Dealing out the exchange's ghost state

At launch every cell's invariant is set up, and the tokens are handed to the devices that pay with them: a barrier's
token `j` of device `c`, and the token of its receive slot `j`, go to the device `j + 1` places after it. The credit the
launch gives a device for each of its cells is what the others owe it there.
-/
module

public import proofs.«01_k».proof.Proof.Body

@[expose] public section

set_option maxRecDepth 8000

noncomputable section

namespace Cert.Rope

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells and tokens -/

theorem kcell_injective : Function.Injective (kcell : Dev nD × Cx → GSem nD τ sig) := by
  rintro ⟨c, x⟩ ⟨c', x'⟩ h
  have h1 : c = c' := congrArg (fun g : GSem nD τ sig => g.1.1) h
  have h2 : csem x = csem x' := congrArg Prod.snd h
  have h3 : x = x' := Option.some.inj ((decode_csem x).symm.trans ((congrArg decode h2).trans (decode_csem x')))
  rw [h1, h3]

def cells : Finset (GSem nD τ sig) := Finset.univ.map ⟨kcell, kcell_injective⟩

/-- The five tokens numbered `j` of a device's own cells: its barrier's, its send cells', its receive cells'. -/
def tok (p : (Dev nD × Fin 3) × Fin 5) : GSem nD τ sig × ℕ × Fin 3 := match p.2 with
  | 0 => (barCell p.1.1, 0, p.1.2)
  | 1 => (sCell p.1.1 0 p.1.2, 0, 0)
  | 2 => (sCell p.1.1 1 p.1.2, 0, 0)
  | 3 => (rCell p.1.1 0 p.1.2, 0, 0)
  | 4 => (rCell p.1.1 1 p.1.2, 0, 0)

/-- The cell and the duty a token is for, by name. -/
def tokName (j : Fin 3) (t : Fin 5) : Cx × Fin 3 := match t with
  | 0 => (none, j)
  | 1 => (some (true, 0, j), 0)
  | 2 => (some (true, 1, j), 0)
  | 3 => (some (false, 0, j), 0)
  | 4 => (some (false, 1, j), 0)

theorem tokName_inj : ∀ (j : Fin 3) (t : Fin 5) (j' : Fin 3) (t' : Fin 5), tokName j t = tokName j' t' → j = j' ∧ t = t' := by decide

theorem tok_eq (p : (Dev nD × Fin 3) × Fin 5) : tok p = (kcell (p.1.1, (tokName p.1.2 p.2).1), 0, (tokName p.1.2 p.2).2) := by
  obtain ⟨⟨c, j⟩, t⟩ := p
  match t with
  | 0 => rfl
  | 1 => rfl
  | 2 => rfl
  | 3 => rfl
  | 4 => rfl

theorem tok_injective : Function.Injective tok := by
  rintro ⟨⟨c, j⟩, t⟩ ⟨⟨c', j'⟩, t'⟩ h
  rw [tok_eq, tok_eq] at h
  have h0 := kcell_injective (congrArg Prod.fst h)
  have h1 : c = c' := congrArg Prod.fst h0
  have h2 : tokName j t = tokName j' t' := Prod.ext (congrArg Prod.snd h0) (congrArg (fun q => q.2.2) h)
  obtain ⟨e1, e2⟩ := tokName_inj j t j' t' h2
  rw [h1, e1, e2]

def toksF : Finset (GSem nD τ sig × ℕ × Fin 3) := Finset.univ.map ⟨tok, tok_injective⟩

/-- The other end of a slot. -/
def across : Dev nD × Fin 3 ≃ Dev nD × Fin 3 where
  toFun p := (fw p.1 p.2, rv p.2)
  invFun p := (fw p.1 p.2, rv p.2)
  left_inv p := by
    show (fw (fw p.1 p.2) (rv p.2), rv (rv p.2)) = p
    rw [fw_fw, rv_rv]
  right_inv p := by
    show (fw (fw p.1 p.2) (rv p.2), rv (rv p.2)) = p
    rw [fw_fw, rv_rv]

/-- The ghost state at launch: the pipeline's and the exchange's. -/
def u₀ : UU :=
  (initOf (Pipeline.cells cfgs cellOf_inj) (Pipeline.launchToks cfgs cellOf_inj), initOf cells toksF)

/-- The tokens of device `c`'s own cells, as they are minted. -/
def toks (c : Dev nD) : sProp 𝕄 :=
  bigSep Finset.univ fun j : Fin 3 => bigSep Finset.univ fun t : Fin 5 => dutyTok ER (tok ((c, j), t)).1 (tok ((c, j), t)).2.1 (tok ((c, j), t)).2.2

omit [FloatOps F] in
theorem fin3_sep (Φ : Fin 3 → sProp 𝕄) : bigSep Finset.univ Φ = iprop(Φ 0 ∗ Φ 1 ∗ Φ 2) := bigSep_univ_eq_bigSepL [0, 1, 2] (by decide) (by decide) Φ
omit [FloatOps F] in
theorem fin5_sep (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

omit [FloatOps F] in
/-- Each device ends with the tokens it pays with. -/
theorem toks_dealt : (bigSep Finset.univ fun c : Dev nD => (toks c : sProp 𝕄)) ⊢ bigSep Finset.univ fun c : Dev nD => payToks (F := F) c := by
  have h1 : (bigSep Finset.univ fun c : Dev nD => (toks c : sProp 𝕄)) = bigSep Finset.univ fun p : Dev nD × Fin 3 =>
      iprop(dutyTok ER (barCell p.1) 0 p.2 ∗ dutyTok ER (sCell p.1 0 p.2) 0 0 ∗ dutyTok ER (sCell p.1 1 p.2) 0 0
        ∗ dutyTok ER (rCell p.1 0 p.2) 0 0 ∗ dutyTok ER (rCell p.1 1 p.2) 0 0) := by
    rw [bigSep_univ_prod]
    refine bigSep_congr fun c _ => ?_
    unfold toks
    refine bigSep_congr fun j _ => ?_
    rw [fin5_sep]; rfl
  have h2 : (bigSep Finset.univ fun c : Dev nD => bigSep Finset.univ fun j : Fin 3 =>
      iprop(dutyTok ER (barCell (fw c j)) 0 (rv j) ∗ dutyTok ER (sCell c 0 j) 0 0 ∗ dutyTok ER (sCell c 1 j) 0 0
        ∗ dutyTok ER (rCell (fw c j) 0 (rv j)) 0 0 ∗ dutyTok ER (rCell (fw c j) 1 (rv j)) 0 0)) ⊢ bigSep Finset.univ fun c : Dev nD => payToks (F := F) c := by
    refine bigSep_mono fun c _ => ?_
    rw [fin3_sep]
    unfold payToks
    show (_ : sProp 𝕄) ⊢ _
    iintro ⟨⟨A0, S00, S10, R00, R10⟩, ⟨A1, S01, S11, R01, R11⟩, ⟨A2, S02, S12, R02, R12⟩⟩
    isplitl [A0 A1 A2]
    · isplitl [A0]; · iexact A0
      isplitl [A1] <;> iassumption
    isplitl [S00]; · iexact S00
    isplitl [R00]; · iexact R00
    isplitl [S01]; · iexact S01
    isplitl [R01]; · iexact R01
    isplitl [S02]; · iexact S02
    isplitl [R02]; · iexact R02
    isplitl [S10]; · iexact S10
    isplitl [R10]; · iexact R10
    isplitl [S11]; · iexact S11
    isplitl [R11]; · iexact R11
    isplitl [S12] <;> iassumption
  refine BIBase.Entails.trans ?_ h2
  rw [h1, ← bigSep_univ_prod (fun p : Dev nD × Fin 3 => iprop(dutyTok ER (barCell (fw p.1 p.2)) 0 (rv p.2) ∗ dutyTok ER (sCell p.1 0 p.2) 0 0 ∗ dutyTok ER (sCell p.1 1 p.2) 0 0
        ∗ dutyTok ER (rCell (fw p.1 p.2) 0 (rv p.2)) 0 0 ∗ dutyTok ER (rCell (fw p.1 p.2) 1 (rv p.2)) 0 0) : _ → sProp 𝕄)]
  rw [bigSep_sep', bigSep_sep', bigSep_sep', bigSep_sep', bigSep_sep', bigSep_sep', bigSep_sep', bigSep_sep',
    bigSep_univ_equiv across (fun p : Dev nD × Fin 3 => (dutyTok ER (barCell p.1) 0 p.2 : sProp 𝕄)),
    bigSep_univ_equiv across (fun p : Dev nD × Fin 3 => (dutyTok ER (rCell p.1 0 p.2) 0 0 : sProp 𝕄)),
    bigSep_univ_equiv across (fun p : Dev nD × Fin 3 => (dutyTok ER (rCell p.1 1 p.2) 0 0 : sProp 𝕄))]
  exact BIBase.Entails.refl

/-! ## Setting up the cells -/

section Ghost
variable (dat : Fin 2 → Dev nD → Fin 3 → S2x256x768.Idx → Elt F .bf16)

/-- What the launch gives device `c`. -/
def G (c : Dev nD) : sProp 𝕄 :=
  iprop((bigSep Finset.univ fun x : Cx => roundState ER (sched dat) (kcell (c, x)) 0)
    ∗ (bigSep Finset.univ fun x : Cx => atPos ER (kcell (c, x)) 0 ∅ 0)
    ∗ (bigSep Finset.univ fun x : Cx => reached ER (kcell (c, x)) 0) ∗ toks c)

/-- What it holds once every cell is set up. -/
def G' (c : Dev nD) : sProp 𝕄 :=
  iprop(∃ K : Dev nD × Cx → ℕ, ((bigSep Finset.univ fun cx : Dev nD × Cx => cellInv ER (sched dat) (K cx) (kcell cx))
    ∗ (bigSep Finset.univ fun cx : Dev nD × Cx => reached ER (kcell cx) 0)) ∗ pos (F := F) c ∗ payToks (F := F) c)

omit [FloatOps F] in
theorem fund : BI.own (ER (initOf cells toksF)) ⊢ (|==> bigSep Finset.univ (G dat) : sProp 𝕄) := by
  have hX (Φ : GSem nD τ sig → sProp 𝕄) : bigSep cells Φ = bigSep Finset.univ fun c : Dev nD => bigSep Finset.univ fun x : Cx => Φ (kcell (c, x)) := by
    unfold cells; rw [bigSep_map, bigSep_univ_prod]; rfl
  have hT : bigSep toksF (fun x => (dutyTok ER x.1 x.2.1 x.2.2 : sProp 𝕄)) = bigSep Finset.univ fun c : Dev nD => toks c := by
    unfold toksF; rw [bigSep_map, bigSep_univ_prod, bigSep_univ_prod]; rfl
  iintro HX
  imod (Rounds.fund ER (sched dat) cells toksF) $$ HX with ⟨Hst, Hr, Hat, Htok⟩
  imodintro
  ihave Hst' := (Entails.of_eq (hX fun g => roundState ER (sched dat) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-- The kernel's own semaphores. -/
abbrev osem : Bool × Fin 2 × Fin 3 → SemLoc sig := fun y => csem (some y)
theorem ownSemFacts : Pipeline.OwnSemFacts cfg0.spec osem := by decide

omit [FloatOps F] in
theorem cx_sep (Φ : Cx → sProp 𝕄) : bigSep Finset.univ Φ = bigSepL cxs Φ := bigSep_univ_eq_bigSepL cxs (by decide) (by decide) Φ

omit [FloatOps F] in
theorem pos_eq (c : Dev nD) : pos (F := F) c = bigSep Finset.univ fun x : Cx => (atPos ER (kcell (c, x)) 0 ∅ 0 : sProp 𝕄) := by
  rw [cx_sep]; rfl
omit [FloatOps F] in
theorem semsZ_eq (c : Dev nD) : semsZ (F := F) c = bigSep Finset.univ fun x : Cx => (semVal (kcell (c, x)) 0 : sProp 𝕄) := by
  rw [cx_sep]; rfl
omit [FloatOps F] in
theorem sems_split (c : Dev nD) : semsZ (F := F) c
    = iprop(unscopedSems0 c ∗ Pipeline.ownSems0 (Ix := Unit) (Name := ℕ) (U := UU) (Lvl := ℕ) (Val := Elt F) (τ := τ) osem c) := by
  rw [Pipeline.ownSems0_eq_of_list c osem
    [(true, 0, 0), (true, 0, 1), (true, 0, 2), (false, 0, 0), (false, 0, 1), (false, 0, 2), (true, 1, 0), (true, 1, 1), (true, 1, 2), (false, 1, 0), (false, 1, 1), (false, 1, 2)]
    (by decide) (by decide)]
  unfold unscopedSems0; rw [bigSep_eq_bigSepL_of_eq [SemLoc.reg barS] (by decide) (by decide)]; rfl

omit [FloatOps F] in
theorem core_alloc (c : Dev nD) :
    iprop(Pipeline.ownSems0 (Ix := Unit) (Name := ℕ) (U := UU) (Lvl := ℕ) (Val := Elt F) (τ := τ) osem c ∗ unscopedSems0 c ∗ G dat c)
      ⊢ |={Set.univ}=> iprop((bigSep Finset.univ fun x : Cx => iprop(∃ κ : ℕ, cellInv ER (sched dat) κ (kcell (c, x))))
          ∗ pos (F := F) c ∗ (bigSep Finset.univ fun x : Cx => reached ER (kcell (c, x)) 0) ∗ toks c) := by
  unfold G
  iintro ⟨Hos, Hus, Hst, Hat, Hr, Htok⟩
  ihave Hv := (Entails.of_eq ((sems_split (F := F) c).symm.trans (semsZ_eq c))) $$ [Hos Hus]
  · isplitl [Hus] <;> iassumption
  imod (show iprop((bigSep Finset.univ fun x : Cx => semVal (kcell (c, x)) 0) ∗ bigSep Finset.univ fun x : Cx => roundState ER (sched dat) (kcell (c, x)) 0)
      ⊢ (|={Set.univ}=> bigSep Finset.univ fun x : Cx => iprop(∃ κ : ℕ, cellInv ER (sched dat) κ (kcell (c, x))) : sProp 𝕄) from by
        rw [← bigSep_sep']
        exact (bigSep_mono fun x _ => (Rounds.body_intro ER (sched dat) (kcell (c, x))).trans inv_alloc).trans (bigSep_fupd _ _)) $$ [Hv Hst] with Hinv
  · isplitl [Hv] <;> iassumption
  imodintro
  isplitl [Hinv]; · iexact Hinv
  isplitl [Hat]; · rw [pos_eq]; iexact Hat
  isplitl [Hr] <;> iassumption

omit [FloatOps F] in
theorem sep_with {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun x : Cx => iprop(∃ κ : ℕ, cellInv ER (sched dat) κ (kcell (c, x))))
          ∗ pos (F := F) c ∗ (bigSep Finset.univ fun x : Cx => reached ER (kcell (c, x)) 0) ∗ toks c) : sProp 𝕄)
      ⊢ bigSep Finset.univ (G' dat) := by
  rw [bigSep_sep', bigSep_sep', bigSep_sep', ← bigSep_univ_prod (fun cx : Dev nD × Cx => iprop(∃ κ : ℕ, cellInv ER (sched dat) κ (kcell cx))),
    ← bigSep_univ_prod (fun cx : Dev nD × Cx => (reached ER (kcell cx) 0 : sProp 𝕄))]
  iintro ⟨HI, Hat, #HR, Htok⟩
  ihave HK := (BI.bigSep_exists_pi Finset.univ (fun (cx : Dev nD × Cx) (κ : ℕ) => (cellInv ER (sched dat) κ (kcell cx) : sProp 𝕄))) $$ HI
  icases HK with ⟨%K, #HI⟩
  ihave Htk := (toks_dealt (F := F)) $$ Htok
  iapply (sep_with (R := iprop((bigSep Finset.univ fun cx : Dev nD × Cx => cellInv ER (sched dat) (K cx) (kcell cx))
    ∗ (bigSep Finset.univ fun cx : Dev nD × Cx => reached ER (kcell cx) 0))) (Φ := fun c => iprop(pos (F := F) c ∗ payToks (F := F) c))
    fun c _ => show _ ⊢ G' dat c from by
      unfold G'
      iintro H
      iexists K
      iexact H)
  isplitr
  · isplitl; · iexact HI
    iexact HR
  · rw [bigSep_sep']
    isplitl [Hat] <;> iassumption

omit [FloatOps F] in
/-- Every device's cells set up at once. -/
theorem glob : (bigSep Finset.univ fun c => iprop(Pipeline.ownSems0 (Ix := Unit) (Name := ℕ) (U := UU) (Lvl := ℕ) (Val := Elt F) (τ := τ) osem c ∗ unscopedSems0 c ∗ G dat c) : sProp 𝕄)
    ⊢ |={Set.univ}=> bigSep Finset.univ (G' dat) :=
  ((bigSep_mono fun c _ => core_alloc dat c).trans (bigSep_fupd _ _)).trans (BI.fupd_mono (regroup dat))

end Ghost

/-! ## The launch credit -/

theorem bar_iff {a b : Dev nD} : (barCell a = barCell b) ↔ a = b :=
  ⟨fun h => congrArg Prod.fst (kcell_injective (a₁ := (a, none)) (a₂ := (b, none)) h), fun h => h ▸ rfl⟩
theorem rcv_iff {a b : Dev nD} {e e' : Fin 2} {k k' : Fin 3} : (rCell a e k = rCell b e' k') ↔ (a = b ∧ e = e' ∧ k = k') := by
  constructor
  · intro h
    have := kcell_injective (a₁ := (a, some (false, e, k))) (a₂ := (b, some (false, e', k'))) h
    have h2 := Option.some.inj (congrArg Prod.snd this)
    exact ⟨congrArg Prod.fst this, congrArg (fun q => q.2.1) h2, congrArg (fun q => q.2.2) h2⟩
  · rintro ⟨rfl, rfl, rfl⟩; rfl
theorem bar_rcv {a b : Dev nD} {e : Fin 2} {k : Fin 3} : (barCell a = rCell b e k) ↔ False :=
  ⟨fun h => by
    have := kcell_injective (a₁ := (a, none)) (a₂ := (b, some (false, e, k))) h
    have h2 := congrArg Prod.snd this
    exact Option.some_ne_none _ h2.symm, False.elim⟩
theorem rcv_bar {a b : Dev nD} {e : Fin 2} {k : Fin 3} : (rCell b e k = barCell a) ↔ False := by
  rw [eq_comm, bar_rcv]

/-- Device `c`'s barrier is owed one unit by each of the others; -/
theorem owed_bar (c : Dev nD) : ∑ d : Dev nD, O₀ d (barCell c) () = 3 := by
  unfold O₀
  simp only [owe_apply, dues, List.map_cons, List.map_nil, List.sum_cons, List.sum_nil, bar_iff, bar_rcv, if_false, add_zero, zero_add]
  revert c; decide
/-- each of its receive slots one transfer. -/
theorem owed_rcv (c : Dev nD) (a : Fin 2) (k : Fin 3) : ∑ d : Dev nD, O₀ d (rCell c a k) () = N := by
  unfold O₀
  simp only [owe_apply, dues, List.map_cons, List.map_nil, List.sum_cons, List.sum_nil, rcv_iff, rcv_bar, if_false, add_zero, zero_add]
  have h : ∀ d : Dev nD, ((if c = fw d 0 ∧ a = 0 ∧ k = 2 then N else 0) + ((if c = fw d 1 ∧ a = 0 ∧ k = 1 then N else 0)
      + ((if c = fw d 2 ∧ a = 0 ∧ k = 0 then N else 0) + ((if c = fw d 0 ∧ a = 1 ∧ k = 2 then N else 0)
      + ((if c = fw d 1 ∧ a = 1 ∧ k = 1 then N else 0) + (if c = fw d 2 ∧ a = 1 ∧ k = 0 then N else 0))))))
      = N * ((if c = fw d 0 ∧ a = 0 ∧ k = 2 then 1 else 0) + ((if c = fw d 1 ∧ a = 0 ∧ k = 1 then 1 else 0)
      + ((if c = fw d 2 ∧ a = 0 ∧ k = 0 then 1 else 0) + ((if c = fw d 0 ∧ a = 1 ∧ k = 2 then 1 else 0)
      + ((if c = fw d 1 ∧ a = 1 ∧ k = 1 then 1 else 0) + (if c = fw d 2 ∧ a = 1 ∧ k = 0 then 1 else 0)))))) := by
    intro d
    simp only [mul_add, mul_ite, mul_one, mul_zero]
  rw [Finset.sum_congr rfl fun d _ => h d, ← Finset.mul_sum]
  have h1 : ∀ (c : Dev nD) (a : Fin 2) (k : Fin 3), (∑ d : Dev nD, ((if c = fw d 0 ∧ a = 0 ∧ k = 2 then 1 else 0) + ((if c = fw d 1 ∧ a = 0 ∧ k = 1 then 1 else 0)
      + ((if c = fw d 2 ∧ a = 0 ∧ k = 0 then 1 else 0) + ((if c = fw d 0 ∧ a = 1 ∧ k = 2 then 1 else 0)
      + ((if c = fw d 1 ∧ a = 1 ∧ k = 1 then 1 else 0) + (if c = fw d 2 ∧ a = 1 ∧ k = 0 then 1 else 0))))))) = (1 : ℕ) := by decide
  rw [h1, mul_one]

theorem launch_cell (c : Dev nD) (s : SemLoc sig) (n : ℕ) (h : ∑ d : Dev nD, O₀ d ((c : Thread nD τ), s) () = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

/-- The cells a device is launched with credit for. -/
def creditCells : List (SemLoc sig) := [csem none, csem (some (false, 0, 0)), csem (some (false, 0, 1)), csem (some (false, 0, 2)),
  csem (some (false, 1, 0)), csem (some (false, 1, 1)), csem (some (false, 1, 2))]

omit [FloatOps F] in
theorem creds_intro (c : Dev nD) : (Pipeline.launchCred O₀ c : sProp 𝕄) ⊢ creds (F := F) c := by
  unfold Pipeline.launchCred
  refine (bigSep_subset (Finset.subset_univ creditCells.toFinset)).trans ?_
  rw [bigSep_eq_bigSepL_of_eq creditCells rfl (by decide)]
  unfold creditCells creds
  simp only [bigSepL_cons_cons, bigSepL_singleton]
  rw [launch_cell c (csem none) 3 (owed_bar c), launch_cell c (csem (some (false, 0, 0))) N (owed_rcv c 0 0), launch_cell c (csem (some (false, 0, 1))) N (owed_rcv c 0 1),
    launch_cell c (csem (some (false, 0, 2))) N (owed_rcv c 0 2), launch_cell c (csem (some (false, 1, 0))) N (owed_rcv c 1 0),
    launch_cell c (csem (some (false, 1, 1))) N (owed_rcv c 1 1), launch_cell c (csem (some (false, 1, 2))) N (owed_rcv c 1 2)]
  exact (BI.Entails.refl _)

end Cert.Rope

end
-- ==== Proof.Launch.lean ====
/-
# The run of the kernel

From any memory with every semaphore at zero, the four kernels run to the end; every device's operands are unchanged, its
result array holds `Ins.out` of the operands of all four, and every semaphore is at zero again.
-/
module

public import proofs.«01_k».proof.Proof.Deal
public import Idealize.ShloMosaic.Lib.Pipeline.CollectiveSegs

@[expose] public section

set_option maxRecDepth 8000

noncomputable section

namespace Cert.Rope

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The operands -/

section Run
variable (m : (ℓ : Loc nD τ sig) → Buf (Elt F) ℓ) (ρ : Dev nD → PrngReg)

/-- The memory a run starts from. -/
def s₀ : MemSt nD τ sig (Elt F) := ⟨m, fun _ => 0, ρ⟩

/-- The operands it holds. -/
def ins : Ins F where
  x c := m ((c : Thread nD τ).loc main_arg0)
  wq c := m ((c : Thread nD τ).loc main_arg1)
  wk c := m ((c : Thread nD τ).loc main_arg2)
  wv c := m ((c : Thread nD τ).loc main_arg3)
  wo c := m ((c : Thread nD τ).loc main_arg4)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Before the body: the exchange's cells set up, what the device pays with, its credit and its scratch buffers; -/
def Φ₀ (c : Dev nD) : sProp 𝕄 :=
  iprop((∃ K, records (ins m).dat K ∗ pos (F := F) c ∗ payToks (F := F) c) ∗ creds (F := F) c ∗ scratch (F := F) c)
/-- after it: the scratch buffers and the semaphores at zero. -/
def Φ₁ (c : Dev nD) : sProp 𝕄 := iprop(semsZ (F := F) c ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => (ins m).x c
    | ⟨1, _⟩ => (ins m).wq c
    | ⟨2, _⟩ => (ins m).wk c
    | ⟨3, _⟩ => (ins m).wv c
    | ⟨4, _⟩ => (ins m).wo c
    | ⟨5, _⟩ => (ins m).out c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! Each window's one block is its whole array. -/

theorem read_0 (f : main_arg0.ty.Contents (Elt F)) : (win0_0.blk t₀).view.read (Elt F) f = f :=
  Memref.read_access_unit_zero (Elt F) main_arg0 (show (fun a => (win0_0.index t₀) a * main_arg0.ty.shape.size a) = fun _ => 0 from funext fun a => by fin_cases a <;> decide)
    (fun a => by fin_cases a <;> decide) f
theorem read_1 (f : main_arg1.ty.Contents (Elt F)) : (win0_1.blk t₀).view.read (Elt F) f = f :=
  Memref.read_access_unit_zero (Elt F) main_arg1 (show (fun a => (win0_1.index t₀) a * main_arg1.ty.shape.size a) = fun _ => 0 from funext fun a => by fin_cases a <;> decide)
    (fun a => by fin_cases a <;> decide) f
theorem read_2 (f : main_arg2.ty.Contents (Elt F)) : (win0_2.blk t₀).view.read (Elt F) f = f :=
  Memref.read_access_unit_zero (Elt F) main_arg2 (show (fun a => (win0_2.index t₀) a * main_arg2.ty.shape.size a) = fun _ => 0 from funext fun a => by fin_cases a <;> decide)
    (fun a => by fin_cases a <;> decide) f
theorem read_3 (f : main_arg3.ty.Contents (Elt F)) : (win0_3.blk t₀).view.read (Elt F) f = f :=
  Memref.read_access_unit_zero (Elt F) main_arg3 (show (fun a => (win0_3.index t₀) a * main_arg3.ty.shape.size a) = fun _ => 0 from funext fun a => by fin_cases a <;> decide)
    (fun a => by fin_cases a <;> decide) f
theorem read_4 (f : main_arg4.ty.Contents (Elt F)) : (win0_4.blk t₀).view.read (Elt F) f = f :=
  Memref.read_access_unit_zero (Elt F) main_arg4 (show (fun a => (win0_4.index t₀) a * main_arg4.ty.shape.size a) = fun _ => 0 from funext fun a => by fin_cases a <;> decide)
    (fun a => by fin_cases a <;> decide) f
theorem read_5 (f : main_v1.ty.Contents (Elt F)) : (win0_5.blk t₀).view.read (Elt F) f = f :=
  Memref.read_access_unit_zero (Elt F) main_v1 (show (fun a => (win0_5.index t₀) a * main_v1.ty.shape.size a) = fun _ => 0 from funext fun a => by fin_cases a <;> decide)
    (fun a => by fin_cases a <;> decide) f

theorem before_0 (c : Dev nD) (d) : (dats m 0 c).before (0 : Fin 6) t₀ d = (ins m).x c := by
  unfold Dat.before; rw [if_pos (fetch0_0 t₀)]
  exact (show _ = (win0_0.blk t₀).view.read (Elt F) (m ((c : Thread nD τ).loc main_arg0)) from rfl).trans (read_0 _)
theorem before_1 (c : Dev nD) (d) : (dats m 0 c).before (1 : Fin 6) t₀ d = (ins m).wq c := by
  unfold Dat.before; rw [if_pos (fetch0_1 t₀)]
  exact (show _ = (win0_1.blk t₀).view.read (Elt F) (m ((c : Thread nD τ).loc main_arg1)) from rfl).trans (read_1 _)
theorem before_2 (c : Dev nD) (d) : (dats m 0 c).before (2 : Fin 6) t₀ d = (ins m).wk c := by
  unfold Dat.before; rw [if_pos (fetch0_2 t₀)]
  exact (show _ = (win0_2.blk t₀).view.read (Elt F) (m ((c : Thread nD τ).loc main_arg2)) from rfl).trans (read_2 _)
theorem before_3 (c : Dev nD) (d) : (dats m 0 c).before (3 : Fin 6) t₀ d = (ins m).wv c := by
  unfold Dat.before; rw [if_pos (fetch0_3 t₀)]
  exact (show _ = (win0_3.blk t₀).view.read (Elt F) (m ((c : Thread nD τ).loc main_arg3)) from rfl).trans (read_3 _)
theorem before_4 (c : Dev nD) (d) : (dats m 0 c).before (4 : Fin 6) t₀ d = (ins m).wo c := by
  unfold Dat.before; rw [if_pos (fetch0_4 t₀)]
  exact (show _ = (win0_4.blk t₀).view.read (Elt F) (m ((c : Thread nD τ).loc main_arg4)) from rfl).trans (read_4 _)

def bodyPre (c : Dev nD) : sProp 𝕄 :=
  iprop(Φ₀ m c ∗ (dats m 0 c).owesAt () t₀.castSucc
    ∗ (∃ d, own (F := F) c xM fullShare ((dats m 0 c).before (0 : Fin 6) t₀ d))
    ∗ (∃ d, own (F := F) c wqM fullShare ((dats m 0 c).before (1 : Fin 6) t₀ d))
    ∗ (∃ d, own (F := F) c wkM fullShare ((dats m 0 c).before (2 : Fin 6) t₀ d))
    ∗ (∃ d, own (F := F) c wvM fullShare ((dats m 0 c).before (3 : Fin 6) t₀ d))
    ∗ (∃ d, own (F := F) c woM fullShare ((dats m 0 c).before (4 : Fin 6) t₀ d))
    ∗ (∃ d, own (F := F) c outM fullShare ((dats m 0 c).before (5 : Fin 6) t₀ d)))

def bodyPost (c : Dev nD) : sProp 𝕄 :=
  iprop(Φ₁ (F := F) c ∗ (dats m 0 c).owesAt () t₀.succ
    ∗ own c xM fullShare ((ins m).x c) ∗ own c wqM fullShare ((ins m).wq c) ∗ own c wkM fullShare ((ins m).wk c)
    ∗ own c wvM fullShare ((ins m).wv c) ∗ own c woM fullShare ((ins m).wo c) ∗ own c outM fullShare ((ins m).out c))

theorem body_run (c : Dev nD) : bodyPre m c ⊢ wpc c (cc0_body (F := F) xM (Memref.isWhole_whole _) wqM (Memref.isWhole_whole _) wkM (Memref.isWhole_whole _) wvM (Memref.isWhole_whole _) woM (Memref.isWhole_whole _) outM (Memref.isWhole_whole _) agM (Memref.isWhole_whole _) qM (Memref.isWhole_whole _) kM (Memref.isWhole_whole _) vM (Memref.isWhole_whole _) ctM (Memref.isWhole_whole _) pwM (Memref.isWhole_whole _) rsM (Memref.isWhole_whole _) rrM (Memref.isWhole_whole _) cc0_scratch8 cc0_scratch9 cc0_scratch10 cc0_scratch11)
    (fun _ => bodyPost m c) := by
  unfold bodyPre Φ₀ Dat.owesAt Pipeline.owesWithin
  simp only [before_0, before_1, before_2, before_3, before_4]
  rw [show (dats m 0 c).owed t₀.castSucc = owe (dues c) from rfl]
  iintro ⟨⟨⟨%K, HR, Hp, Ht⟩, Hc, Hs⟩, ⟨%W, %hW, HO⟩, ⟨%d0, H0⟩, ⟨%d1, H1⟩, ⟨%d2, H2⟩, ⟨%d3, H3⟩, ⟨%d4, H4⟩, ⟨%d5, H5⟩⟩
  iapply (sound (ins m) K c) $$ [HR Hp Ht Hc Hs HO H0 H1 H2 H3 H4 H5]
  · isplitl [HR]; · iexact HR
    isplitl [HO]; · unfold owesL; iexists W; iexact HO
    isplitl [Hp]; · iexact Hp
    isplitl [Ht]; · iexact Ht
    isplitl [Hc]; · iexact Hc
    isplitl [H0 H1 H2 H3 H4]
    · unfold operands
      isplitl [H0]; · iexact H0
      isplitl [H1]; · iexact H1
      isplitl [H2]; · iexact H2
      isplitl [H3] <;> iassumption
    isplitl [H5]; · iexists _; iexact H5
    iexact Hs
  unfold owesL operands
  iintro ⟨⟨%W', HO⟩, Hz, ⟨H0, H1, H2, H3, H4⟩, H5, Hs⟩
  unfold bodyPost Φ₁ Dat.owesAt Pipeline.owesWithin
  rw [show (dats m 0 c).owed t₀.succ = owe [] from rfl]
  isplitl [Hz Hs]
  · isplitl [Hz] <;> iassumption
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4] <;> iassumption

theorem body_obligation (c : Dev nD) : BodyObligation (dats (F := F) m 0 c) (defs₀ (F := F)) 𝒱₀ () Set.univ := fun t => by
  rw [fin_N t]
  rw [show (bigSep Finset.univ : (Fin cfg0.W → sProp 𝕄) → sProp 𝕄) = _ from funext bigSep_W0]
  exact body_run m c

/-! ## Entering and leaving -/

theorem share_eq (c : Dev nD) (w : Fin cfg0.W) : (dats m 0 c).share w = fullShare := by unfold Dat.share; split <;> rfl

omit [FloatOps F] in
theorem own_of_pts (c : Dev nD) (b : Ref sig .tc) :
    iprop(∃ f : Buf (Elt F) (((c : Dev nD) : Thread nD τ).loc b), (((c : Thread nD τ).loc b) ↦{fullShare} f))
      = (iprop(∃ X, owns (Ix := Unit) (Name := ℕ) (U := UU) (Lvl := ℕ) (c : Thread nD τ) (Memref.whole b) fullShare X) : sProp 𝕄) := by
  unfold owns; simp only [Memref.view_whole, View.read_whole, View.set_whole]
  refine BI.Entails.antisymm ?_ ?_
  · show (_ : sProp 𝕄) ⊢ _
    iintro ⟨%f, H⟩
    iexists f
    iexists f
    isplitr; · ipureintro; rfl
    iexact H
  · show (_ : sProp 𝕄) ⊢ _
    iintro ⟨%X, %f, -, H⟩
    iexists f
    iexact H

omit [FloatOps F] in
theorem rest_eq (c : Dev nD) : (Pipeline.scopedRest (Ix := Unit) (Name := ℕ) (U := UU) (Lvl := ℕ) (Val := Elt F) cfg0.spec c : sProp 𝕄) = scratch (F := F) c := by
  refine (scopedRest0_eq c).trans ?_
  simp only [own_of_pts]
  rfl

/-- What a device enters the body with. -/
def start (c : Dev nD) : sProp 𝕄 :=
  iprop((∃ K, records (ins m).dat K ∗ pos (F := F) c ∗ payToks (F := F) c) ∗ creds (F := F) c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m).dat c)
      ⊢ |={Set.univ}=> iprop(start m c ∗ emp) := by
  iintro ⟨-, Hlev, Hcr, -, HG⟩
  ihave Hc := (creds_intro (F := F) c) $$ Hcr
  unfold start G' records
  icases HG with ⟨%K, ⟨HI, Hr⟩, Hp, Ht⟩
  imodintro
  isplitl
  · isplitr [Hc]
    · iexists K
      isplitl [HI Hr Hlev]
      · isplitl [HI]; · iexact HI
        isplitl [Hr] <;> iassumption
      isplitl [Hp] <;> iassumption
    · iexact Hc
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, rest_eq]
  unfold Φ₀ start
  iintro ⟨⟨HK, Hc⟩, -, Hs⟩
  isplitl [HK]; · iexact HK
  isplitl [Hc] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, rest_eq]
  unfold Φ₁
  rw [sems_split]
  iintro ⟨⟨Hu, Ho⟩, Hs⟩
  isplitl [Hu]; · iexact Hu
  isplitl [Ho] <;> iassumption

theorem level_stage (c : Dev nD) : ∀ p ∈ dues c, p.1.1.2 = .tc ∧ 0 < lvS p.1.2 := by
  intro p hp
  simp only [dues, List.mem_cons, List.not_mem_nil, or_false] at hp
  rcases hp with h | h | h | h | h | h | h | h | h <;> subst h <;>
    first
    | exact ⟨rfl, (by decide : 0 < lvS (.reg barS))⟩
    | exact ⟨rfl, (by decide : ∀ a k, 0 < lvS (csem (some (false, a, k)))) _ _⟩

theorem waits (c : Dev nD) : (levAts L lv : sProp 𝕄) ⊢ Pipeline.cellsWaits cfgs (dats (F := F) m) () 0 c :=
  Pipeline.cellsWaits_intro cfgs (dats m) () 0 c fun w s t => by
    have h0 : ∀ sm : SemLoc sig, lvS sm = 0 → ∀ p ∈ dues c, p.1.1.2 = .tc ∧ lvS sm < lvS p.1.2 := fun sm h p hp => by rw [h]; exact level_stage c p hp
    have hs : lvS (SemLoc.dma (((cfgs 0).win w).sem s)) = 0 := by fin_cases w <;> fin_cases s <;> decide
    rcases t with ⟨_ | _, ht⟩
    · exact mayWait_owe c _ (dues c) (h0 _ hs)
    · exact mayWait_owe c _ [] (fun p hp => absurd hp List.not_mem_nil)

/-! ## The run -/

def finalA (c : Dev nD) (w : Fin cfg0.W) : Buf (Elt F) ((cfg0.win w).arr.view.loc (c : Thread nD τ)) := (dats m 0 c).arrAt w cfg0.N

theorem run_arrays : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (ins m).dat) (G' := G' (ins m).dat) (u₀ := u₀)
    (hu₀ := by
      unfold u₀
      iintro Hu
      ihave H := (ownU_pair _ _) $$ Hu
      icases H with ⟨HP, HX⟩
      imod (fund (ins m).dat) $$ HX with HG
      imodintro
      isplitl [HP] <;> iassumption)
    (hglob := glob (ins m).dat)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array after the run. -/
theorem final_out (c : Dev nD) : finalA m c (5 : Fin 6) = (ins m).out c := by
  have h : (win0_5.blk t₀).view.read (Elt F) (finalA m c (5 : Fin 6)) = (ins m).out c := by
    unfold finalA
    rw [show cfg0.N = t₀.val + 1 from rfl, (dats m 0 c).arrAt_succ (5 : Fin 6) t₀, if_pos (flush0_5 t₀)]
    exact View.read_write_univ _ _
  exact (read_5 _).symm.trans h

/-- Every execution from `m` ends, with the operands unchanged, the result in place and every semaphore at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_v1) = (ins m).out c) ∧ r.2.sem = fun _ => 0) :=
  (θ_run defs _ _).mono (fun r h => ⟨fun c =>
    ⟨(h.1 c (0 : Fin 6)).trans ((dats m 0 c).arrAt_in (0 : Fin 6) rfl _), (h.1 c (1 : Fin 6)).trans ((dats m 0 c).arrAt_in (1 : Fin 6) rfl _),
      (h.1 c (2 : Fin 6)).trans ((dats m 0 c).arrAt_in (2 : Fin 6) rfl _), (h.1 c (3 : Fin 6)).trans ((dats m 0 c).arrAt_in (3 : Fin 6) rfl _),
      (h.1 c (4 : Fin 6)).trans ((dats m 0 c).arrAt_in (4 : Fin 6) rfl _), (h.1 c (5 : Fin 6)).trans (final_out m c)⟩, h.2⟩) (run_arrays m ρ)

end Run

end Cert.Rope

end
-- ==== Proof.Frames.lean ====
/-
# What every run leaves

The frames: each program runs to the end, its operands are unchanged and every semaphore is at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal

@[expose] public section

set_option maxRecDepth 8000

noncomputable section

namespace Cert.Rope

open Idealize.ShloMosaic Idealize.SL.Sem

/-- The run of the kernel, its values dropped. -/
theorem run_frame {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c).1, (h.1 c).2.1, (h.1 c).2.2.1, (h.1 c).2.2.2.1, (h.1 c).2.2.2.2.1⟩, h.2⟩) (run_main (F := F) m ρ)

/-- The two programs hold the same text, so their tables of bodies are equal. -/
theorem defs_same {F : FTy → Type} [FloatOps F] : Cert.Kernel.defs (F := F) = Cert.KernelIdeal.defs (F := F) := by
  have h : Cert.Kernel.defs₀ (F := F) = Cert.KernelIdeal.defs₀ (F := F) := by
    unfold Cert.Kernel.defs₀ Cert.KernelIdeal.defs₀
    refine congrArg Defs.onTc ?_
    funext l x
    match l, x with
    | 0, (t, s) => rfl
    | ⟨_ + 1, h⟩, _ => exact absurd h (Nat.not_lt.2 (Nat.le_add_left _ _))
  unfold Cert.Kernel.defs Cert.KernelIdeal.defs
  exact congrArg (Pipeline.defs Cert.KernelIdeal.pcfgs) h

/-- The kernel over the formats' bits: every run ends, leaves the arguments as they were and every
    semaphore at zero. -/
theorem frame_kernel : Cert.quiescent_Kernel := fun m ρ _ => by
  have h := run_frame (F := Bits) m ρ
  rw [← defs_same] at h
  exact h

theorem frame_kernelIdeal : Cert.quiescent_KernelIdeal := fun m ρ _ => run_frame (F := Ideal) m ρ

theorem frame_kernelIdeal_finite : Cert.quiescent_KernelIdeal_pre_finite_KernelIdeal := fun m ρ _ => run_frame (F := Ideal) m ρ

theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_referenceIdeal_finite : Cert.quiescent_ReferenceIdeal_pre_finite_ReferenceIdeal := fun m ρ _ =>
  frame_referenceIdeal m ρ trivial

end Cert.Rope

end
-- ==== Proof.Math.lean ====
/-
# The mathematics of the claim

Extended reals only, no program: the two ways of writing the softmax of a row of real scores, the rotation of a
pair of columns, and how a sum over 1024 columns falls into four sums over 256.
-/
module

public import Idealize.ShloMosaic.PureOps.Ideal.Laws
public import Idealize.ShloMosaic.Lib.IdealHost

@[expose] public section

noncomputable section

namespace Cert.Rope

open Idealize.ShloMosaic

/-! ## Sums of reals among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A positive real factor goes into a sum of any extended reals. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

theorem exp_coe (r : ℝ) : Ideal.exp (r : EReal) = (Real.exp r : EReal) := rfl
theorem cos_coe (r : ℝ) : Ideal.cos (r : EReal) = (Real.cos r : EReal) := rfl
theorem sin_coe (r : ℝ) : Ideal.sin (r : EReal) = (Real.sin r : EReal) := rfl

/-! ## The words the two programs name -/

theorem word_eighth : Ideal.ofBits .f32 0x3E000000#32 = (((1 : ℝ) / 8 : ℝ) : EReal) := by
  simp [Ideal.ofBits, Ideal.ieee, -EReal.coe_mul, -EReal.coe_neg]; norm_num
theorem word_neg32 : Ideal.ofBits .f32 0xBD000000#32 = ((-((1 : ℝ) / 32) : ℝ) : EReal) := by
  simp [Ideal.ofBits, Ideal.ieee, -EReal.coe_mul, -EReal.coe_neg]; norm_num
theorem word_base : Ideal.ofBits .f32 0x461C4000#32 = ((10000 : ℝ) : EReal) := by
  simp [Ideal.ofBits, Ideal.ieee, -EReal.coe_mul, -EReal.coe_neg]; norm_num
theorem word_64 : Ideal.ofBits .f32 0x42800000#32 = ((64 : ℝ) : EReal) := by
  simp [Ideal.ofBits, Ideal.ieee, -EReal.coe_mul, -EReal.coe_neg]; norm_num
theorem word_bot : Ideal.ofBits .f32 0xFF800000#32 = ⊥ := by
  simp [Ideal.ofBits, Ideal.ieee]

/-! ## The frequency of a pair of columns -/

/-- The frequency of pair `j` of 32. -/
def freq (j : ℕ) : ℝ := (10000 : ℝ) ^ (-((j : ℝ) / 32))

theorem freq_exp (j : ℕ) : Ideal.exp (((j : ℝ) : EReal) * ((-((1 : ℝ) / 32) : ℝ) : EReal) * Ideal.log ((10000 : ℝ) : EReal)) = (freq j : EReal) := by
  have hl : Ideal.log ((10000 : ℝ) : EReal) = (Real.log 10000 : EReal) := by
    show (if (10000 : ℝ) ≤ 0 then (⊥ : EReal) else (Real.log 10000 : EReal)) = _
    rw [if_neg (by norm_num)]
  rw [hl, ← EReal.coe_mul, ← EReal.coe_mul, exp_coe, freq, Real.rpow_def_of_pos (by norm_num)]
  congr 2
  ring

theorem freq_pow (j : ℕ) : Ideal.div 1 (Ideal.pow ((10000 : ℝ) : EReal) (Ideal.div (((2 * j : ℕ) : ℝ) : EReal) ((64 : ℝ) : EReal))) = (freq j : EReal) := by
  rw [Ideal.div_coe (by norm_num : (64 : ℝ) ≠ 0), ← EReal.coe_mul]
  have hp : Ideal.pow ((10000 : ℝ) : EReal) ((((2 * j : ℕ) : ℝ) * (1 / 64) : ℝ) : EReal) = (((10000 : ℝ) ^ ((j : ℝ) / 32) : ℝ) : EReal) := by
    have e : (((2 * j : ℕ) : ℝ) * (1 / 64)) = (j : ℝ) / 32 := by push_cast; ring
    rw [e]
    rfl
  rw [hp]
  have hpos : (0 : ℝ) < (10000 : ℝ) ^ ((j : ℝ) / 32) := Real.rpow_pos_of_pos (by norm_num) _
  rw [Ideal.div_coe hpos.ne', one_mul, freq, Real.rpow_neg (by norm_num), one_div]

/-! ## Softmax -/

/-- Multiplying the weighted sum by the reciprocal of the weights' sum is weighting by the softmax taken after any real shift. -/
theorem softmax_row {n : ℕ} (hn : 0 < n) (s : Fin n → ℝ) (M : ℝ) (v : Fin n → EReal) :
    (∑ j, Ideal.exp (s j : EReal) * v j) * Ideal.div 1 (∑ j, Ideal.exp (s j : EReal))
      = ∑ j, v j * Ideal.div (Ideal.exp ((s j : EReal) - (M : EReal))) (∑ j, Ideal.exp ((s j : EReal) - (M : EReal))) := by
  have hne : (Finset.univ : Finset (Fin n)).Nonempty := ⟨⟨0, hn⟩, Finset.mem_univ _⟩
  have h1 : (∑ j, Ideal.exp (s j : EReal)) = ((∑ j, Real.exp (s j) : ℝ) : EReal) := by rw [coe_sum]; rfl
  have h2 : (∑ j, Ideal.exp ((s j : EReal) - (M : EReal))) = ((∑ j, Real.exp (s j - M) : ℝ) : EReal) := by
    rw [coe_sum]; rfl
  have p1 : 0 < ∑ j, Real.exp (s j) := Finset.sum_pos (fun j _ => Real.exp_pos _) hne
  have p2 : 0 < ∑ j, Real.exp (s j - M) := Finset.sum_pos (fun j _ => Real.exp_pos _) hne
  rw [h1, h2, Ideal.div_coe p1.ne', one_mul, sum_mul_coe _ _ _ (by positivity)]
  refine Finset.sum_congr rfl fun j _ => ?_
  rw [Ideal.div_coe p2.ne', mul_comm (Ideal.exp _) (v j), mul_assoc]
  refine congrArg (v j * ·) ?_
  rw [← EReal.coe_sub, exp_coe, exp_coe, ← EReal.coe_mul, ← EReal.coe_mul]
  refine congrArg Real.toEReal ?_
  have : ∑ j, Real.exp (s j - M) = (∑ j, Real.exp (s j)) * Real.exp (-M) := by
    rw [Finset.sum_mul]; exact Finset.sum_congr rfl fun j _ => by rw [← Real.exp_add]; rfl
  rw [this, sub_eq_add_neg, Real.exp_add]
  have := Real.exp_pos (-M)
  field_simp

/-- The largest of finitely many reals is a real. -/
theorem max_real {n : ℕ} (hn : 0 < n) (s : Fin n → ℝ) : ∃ M : ℝ, Finset.univ.fold max (⊥ : EReal) (fun j => (s j : EReal)) = (M : EReal) := by
  have hge : ∀ j, (s j : EReal) ≤ Finset.univ.fold max (⊥ : EReal) (fun j => (s j : EReal)) := fun j =>
    Finset.le_fold_max _ |>.2 (Or.inr ⟨j, Finset.mem_univ _, le_rfl⟩)
  have hlt : Finset.univ.fold max (⊥ : EReal) (fun j => (s j : EReal)) < ⊤ :=
    Finset.fold_max_lt _ |>.2 ⟨bot_lt_top, fun j _ => EReal.coe_lt_top _⟩
  have hgt : ⊥ < Finset.univ.fold max (⊥ : EReal) (fun j => (s j : EReal)) := lt_of_lt_of_le (EReal.bot_lt_coe _) (hge ⟨0, hn⟩)
  exact ⟨_, (EReal.coe_toReal hlt.ne hgt.ne').symm⟩

/-! ## Sums by blocks -/

theorem sum_blocks {α : Type} [AddCommMonoid α] (f : Fin 1024 → α) :
    ∑ k : Fin 1024, f k = ∑ e : Fin 4, ∑ k : Fin 256, f (⟨256 * e.val + k.val, by omega⟩ : Fin 1024) := by
  rw [← Fintype.sum_prod_type' (f := fun (e : Fin 4) (k : Fin 256) => f (⟨256 * e.val + k.val, by omega⟩ : Fin 1024))]
  refine (Equiv.sum_comp (finProdFinEquiv (m := 4) (n := 256)) f).symm.trans ?_
  refine Finset.sum_congr rfl fun p _ => congrArg f (Fin.ext ?_)
  show p.2.val + 256 * p.1.val = 256 * p.1.val + p.2.val
  omega

end Cert.Rope

end
-- ==== Proof.Spec.lean ====
/-
# What is computed

The distributed attention as plain sums over the whole arrays: projections, rotated pairs of columns, scores, softmax
weights, weighted values and the last product. Columns are numbered 0 to 1023, 64 to a head.
-/
module

public import proofs.«01_k».proof.Proof.Math

@[expose] public section

noncomputable section

namespace Cert.Rope

open Idealize.ShloMosaic

/-- A batch of rows of 1024 columns. -/
abbrev Cols := Fin 2 → Fin 1024 → Fin 1024 → EReal

/-- The rows times a weight. -/
def proj (X : Fin 2 → Fin 1024 → Fin 768 → EReal) (W : Fin 768 → Fin 1024 → EReal) : Cols := fun b s n => ∑ k, X b s k * W k n

/-- The other column of a pair. -/
def mate (n : Fin 1024) : Fin 1024 := ⟨if n.val % 2 = 0 then n.val + 1 else n.val - 1, by split_ifs <;> omega⟩

/-- The angle at row `s` and column `n`. -/
def ang (s n : ℕ) : ℝ := (s : ℝ) * freq (n % 64 / 2)

/-- Every pair of columns turned by its angle. -/
def rot (P : Cols) : Cols := fun b s n =>
  P b s n * (Real.cos (ang s.val n.val) : EReal) + (if n.val % 2 = 0 then -P b s (mate n) else P b s (mate n)) * (Real.sin (ang s.val n.val) : EReal)

/-- Column `d` of head `h`. -/
def hcol (h : Fin 16) (d : Fin 64) : Fin 1024 := ⟨64 * h.val + d.val, by omega⟩

/-- The head of a column. -/
def headNo (n : Fin 1024) : Fin 16 := ⟨n.val / 64, by omega⟩

/-- The scores of head `h`. -/
def score (Q K : Cols) (b : Fin 2) (h : Fin 16) (i j : Fin 1024) : EReal := (∑ d, Q b i (hcol h d) * K b j (hcol h d)) * Ideal.ofBits .f32 0x3E000000#32

/-- The largest score of a row. -/
def top (Q K : Cols) (b : Fin 2) (h : Fin 16) (i : Fin 1024) : EReal := Finset.univ.fold max (⊥ : EReal) (fun j => score Q K b h i j)

/-- The softmax weight. -/
def weight (Q K : Cols) (b : Fin 2) (h : Fin 16) (i j : Fin 1024) : EReal :=
  Ideal.div (Ideal.exp (score Q K b h i j - top Q K b h i)) (∑ j', Ideal.exp (score Q K b h i j' - top Q K b h i))

/-- The weighted values. -/
def attn (Q K V : Cols) : Cols := fun b i n => ∑ j, V b j n * weight Q K b (headNo n) i j

/-- The last product. -/
def final (C : Cols) (WO : Fin 1024 → Fin 768 → EReal) (b : Fin 2) (i : Fin 1024) (n : Fin 768) : EReal := ∑ k, C b i k * WO k n

/-- The whole. -/
def spec (X : Fin 2 → Fin 1024 → Fin 768 → EReal) (WQ WK WV : Fin 768 → Fin 1024 → EReal) (WO : Fin 1024 → Fin 768 → EReal) :
    Fin 2 → Fin 1024 → Fin 768 → EReal :=
  final (attn (rot (proj X WQ)) (rot (proj X WK)) (proj X WV)) WO

end Cert.Rope

end
-- ==== Proof.KerOne.lean ====
/-
# What one block of the kernel computes

The tables and the blocks of the kernel, read at an index over the real numbers: the frequency of a column, the
angle of a row, a block of the projections turned by its angles, one attention head, and one partial product.
-/
module

public import proofs.«01_k».proof.Proof.Spec
public import proofs.«01_k».proof.Proof.Values
public import Idealize.ShloMosaic.Lib.Pointwise

@[expose] public section

set_option maxRecDepth 8000

noncomputable section

namespace Cert.Rope

open Cert.KernelIdeal Cert.KernelIdeal.Gen
open Idealize.ShloMosaic

/-- Row or column `n` of block `o`, counted from the start. -/
def wide (o : Fin 4) (n : Fin 256) : Fin 1024 := ⟨256 * o.val + n.val, by omega⟩

/-- Row `r` of batch `b` in a block of both batches. -/
def srow (b : Fin 2) (r : Fin 256) : Fin 512 := ⟨256 * b.val + r.val, by omega⟩

/-- The number of a column's pair within its head, in words. -/
def pairW (n : BitVec 32) : BitVec 32 :=
  let m := IntOp.remsi .vector n (Scalar.select (Scalar.cmpi .eq 64#32 0#32) 1#32 64#32)
  let p := Scalar.select (IntOp.andi (IntOp.xori (IntOp.cmpi .slt m 0#32) (Scalar.cmpi .slt m64 0#32)) (IntOp.cmpi .ne m 0#32)) (IntOp.addi m m64) m
  Scalar.select
    (IntOp.andi
      (IntOp.cmpi .ne (IntOp.subi ((IntOp.cmpi .sgt p 0#32).setWidth 32) ((IntOp.cmpi .slt p 0#32).setWidth 32))
        (Scalar.subi (Scalar.extui (Scalar.cmpi .sgt 2#32 0#32)) (Scalar.extui (Scalar.cmpi .slt 2#32 0#32))))
      (IntOp.cmpi .ne (IntOp.remsi .vector p 2#32) 0#32))
    (IntOp.subi (IntOp.divsi .vector p 2#32) 1#32)
    (IntOp.divsi .vector p 2#32)

theorem pairW_val : ∀ n : Fin 256, (pairW (BitVec.ofNat 32 n.val)).toInt = ((n.val % 64 / 2 : ℕ) : ℤ) := by decide +kernel

/-- The frequency of a column. -/
theorem invF_val (j : S256x256.Idx) : invF (F := Ideal) j = ((freq ((j 1).val % 64 / 2) : ℝ) : EReal) := by
  have h : invF (F := Ideal) j
      = Ideal.exp ((((pairW (BitVec.ofNat 32 (j 1).val)).toInt : ℝ) : EReal) * Ideal.ofBits .f32 0xBD000000#32 * Ideal.log (Ideal.ofBits .f32 0x461C4000#32)) := by
    unfold invF
    unfold_payloads
    pointwise
    rfl
  rw [h, word_neg32, word_base, pairW_val (j 1)]
  exact_mod_cast freq_exp ((j 1).val % 64 / 2)

/-- Which columns are even, in words. -/
def evenW (n : BitVec 32) : BitVec 1 :=
  let m := IntOp.remsi .vector n (Scalar.select (Scalar.cmpi .eq 2#32 0#32) 1#32 2#32)
  IntOp.cmpi .eq
    (Scalar.select (IntOp.andi (IntOp.xori (IntOp.cmpi .slt m 0#32) (Scalar.cmpi .slt m2 0#32)) (IntOp.cmpi .ne m 0#32)) (IntOp.addi m m2) m) 0#32

theorem evenW_val : ∀ n : Fin 256, evenW (BitVec.ofNat 32 n.val) = if n.val % 2 = 0 then 1#1 else 0#1 := by decide +kernel

theorem evM_val (j : S256x256.Idx) : evM j = if (j 1).val % 2 = 0 then 1#1 else 0#1 := by
  have h : evM j = evenW (BitVec.ofNat 32 (j 1).val) := by
    unfold evM
    unfold_payloads
    pointwise
    rfl
  rw [h]
  exact evenW_val (j 1)

theorem rowW_val : ∀ (o : Fin 4) (r : Fin 256),
    (IntOp.addi (BitVec.ofNat 32 r.val) (Scalar.muli (BitVec.ofNat 32 o.val) 256#32)).toInt = ((256 * o.val + r.val : ℕ) : ℤ) := by decide +kernel

/-- The angle of a row and a column of block `o`. -/
theorem pay9_val (o : Fin 4) (j : S256x256.Idx) :
    k0_pay9 (F := Ideal) (BitVec.ofNat 32 o.val) rowW invF j = ((ang (256 * o.val + (j 0).val) (j 1).val : ℝ) : EReal) := by
  have h : k0_pay9 (F := Ideal) (BitVec.ofNat 32 o.val) rowW invF j
      = (((IntOp.addi (BitVec.ofNat 32 (j 0).val) (Scalar.muli (BitVec.ofNat 32 o.val) 256#32)).toInt : ℝ) : EReal) * invF (F := Ideal) j := by
    unfold k0_pay9
    pointwise
    rfl
  rw [h, invF_val, rowW_val o (j 0), ← EReal.coe_mul]
  unfold ang
  push_cast
  rfl

/-- Reading a block of both batches at a row of one batch. -/
theorem two_rows {α : Type} (f : S256x256.Idx → α) (b : Fin 2) (r n : Fin 256) (y : S512x256.Idx → α)
    (h : ∀ j : S512x256.Idx, y j = if h : (j 0).val < 256 then f (ix2 (⟨(j 0).val, h⟩ : Fin 256) (j 1))
      else f (ix2 (⟨(j 0).val - 256, by have := (j 0).isLt; change _ < 512 at this; omega⟩ : Fin 256) (j 1))) :
    y (ValueIdx.ix2 (srow b r) n) = f (ValueIdx.ix2 r n) := by
  rw [h, ← ix2_eq_valueIdx r n]
  have e0 : ((ValueIdx.ix2 (srow b r) n : S512x256.Idx) 0).val = 256 * b.val + r.val := rfl
  by_cases hb : b.val = 0
  · rw [dif_pos (by rw [e0]; omega)]
    exact congrArg (fun q => f (ix2 q n)) (Fin.ext (by show 256 * b.val + r.val = r.val; omega))
  · rw [dif_neg (by rw [e0]; omega)]
    exact congrArg (fun q => f (ix2 q n)) (Fin.ext (by show 256 * b.val + r.val - 256 = r.val; omega))

theorem cos_val (o : Fin 4) (b : Fin 2) (r n : Fin 256) :
    k0_pay10 (F := Ideal) (BitVec.ofNat 32 o.val) rowW invF (ValueIdx.ix2 (srow b r) n) = ((Real.cos (ang (256 * o.val + r.val) n.val) : ℝ) : EReal) := by
  refine (two_rows (fun j => Ideal.cos (k0_pay9 (F := Ideal) (BitVec.ofNat 32 o.val) rowW invF j)) b r n (k0_pay10 (F := Ideal) (BitVec.ofNat 32 o.val) rowW invF) ?_).trans ?_
  · intro j
    unfold k0_pay10
    pointwise
  · show Ideal.cos (k0_pay9 (F := Ideal) (BitVec.ofNat 32 o.val) rowW invF (ValueIdx.ix2 r n)) = _
    rw [pay9_val, cos_coe]

theorem sin_val (o : Fin 4) (b : Fin 2) (r n : Fin 256) :
    k0_pay11 (F := Ideal) (BitVec.ofNat 32 o.val) rowW invF (ValueIdx.ix2 (srow b r) n) = ((Real.sin (ang (256 * o.val + r.val) n.val) : ℝ) : EReal) := by
  refine (two_rows (fun j => Ideal.sin (k0_pay9 (F := Ideal) (BitVec.ofNat 32 o.val) rowW invF j)) b r n (k0_pay11 (F := Ideal) (BitVec.ofNat 32 o.val) rowW invF) ?_).trans ?_
  · intro j
    unfold k0_pay11
    pointwise
  · show Ideal.sin (k0_pay9 (F := Ideal) (BitVec.ofNat 32 o.val) rowW invF (ValueIdx.ix2 r n)) = _
    rw [pay9_val, sin_coe]

theorem even_val (b : Fin 2) (r n : Fin 256) :
    k0_pay12 m2 (k0_pay5 colW) (k0_pay6 colW) (k0_pay7 colW) (ValueIdx.ix2 (srow b r) n) = if n.val % 2 = 0 then 1#1 else 0#1 := by
  refine (two_rows evM b r n (k0_pay12 m2 (k0_pay5 colW) (k0_pay6 colW) (k0_pay7 colW)) ?_).trans (evM_val _)
  intro j
  unfold k0_pay12
  pointwise

/-- A block of `x` laid out batch below batch. -/
theorem rows_val (X : S2x256x768.Idx → Elt Ideal .bf16) (b : Fin 2) (r : Fin 256) (k : Fin 768) :
    k0_pay13 (F := Ideal) X (ValueIdx.ix2 (srow b r) k) = X (ValueIdx.ix3 b r k) := by
  unfold k0_pay13
  pointwise
  refine congrArg X (funext fun a => Fin.ext ?_)
  match a with
  | ⟨0, _⟩ => show (256 * b.val + r.val) / 256 = b.val; omega
  | ⟨1, _⟩ => show (256 * b.val + r.val) % 256 = r.val; omega
  | ⟨2, _⟩ => rfl

/-- A block of a projection. -/
theorem proj_val (X : S2x256x768.Idx → Elt Ideal .bf16) (W : S768x256.Idx → Elt Ideal .bf16) (b : Fin 2) (r n : Fin 256) :
    k0_pay15 (F := Ideal) X W (ValueIdx.ix2 (srow b r) n) = (∑ k : Fin 768, X (ValueIdx.ix3 b r k) * W (ValueIdx.ix2 k n) : EReal) := by
  unfold k0_pay15
  pointwise
  refine Finset.sum_congr rfl fun k _ => ?_
  rw [← rows_val X b r k]
  simp only [ix2_eq_valueIdx]

/-- The values are a projection with nothing added. -/
theorem vR_eq (X : S2x256x768.Idx → Elt Ideal .bf16) (W : S768x256.Idx → Elt Ideal .bf16) : vR (F := Ideal) X W = k0_pay15 (F := Ideal) X W := rfl

/-- The queries are turned as the keys are, and scaled. -/
theorem qR_eq (w : BitVec 32) (X : S2x256x768.Idx → Elt Ideal .bf16) (W : S768x256.Idx → Elt Ideal .bf16) (j : S512x256.Idx) :
    qR (F := Ideal) w X W j = (kR (F := Ideal) w X W j * Ideal.ofBits .f32 0x3E000000#32 : EReal) := rfl

/-- A block turned by its angles, before the columns are named. -/
theorem turn_val (C S : FVec Ideal S512x256 .f32) (E : IVec S512x256 1) (X : S2x256x768.Idx → Elt Ideal .bf16) (W : S768x256.Idx → Elt Ideal .bf16) (j : S512x256.Idx) :
    k0_pay17 (F := Ideal) C S E (k0_pay15 X W) (k0_pay16 X W) j
      = (k0_pay15 (F := Ideal) X W j * C j + Scalar.select (E j)
          (0 - if h : (j 1).val < 255 then k0_pay15 (F := Ideal) X W (ix2 (j 0) (⟨1 + (j 1).val, by omega⟩ : Fin 256))
            else k0_pay15 (F := Ideal) X W (ix2 (j 0) (⟨(j 1).val - 255, by have := (j 1).isLt; change _ < 256 at this; omega⟩ : Fin 256)))
          (if h : (j 1).val < 1 then k0_pay15 (F := Ideal) X W (ix2 (j 0) (⟨255 + (j 1).val, by omega⟩ : Fin 256))
            else k0_pay15 (F := Ideal) X W (ix2 (j 0) (⟨(j 1).val - 1, by have := (j 1).isLt; change _ < 256 at this; omega⟩ : Fin 256))) * S j : EReal) := by
  unfold k0_pay17 k0_pay16
  generalize k0_pay15 X W = x
  pointwise

section Block
variable (XG : Fin 2 → Fin 1024 → Fin 768 → EReal) (WG : Fin 768 → Fin 1024 → EReal) (o c : Fin 4)
variable (X : S2x256x768.Idx → Elt Ideal .bf16) (W : S768x256.Idx → Elt Ideal .bf16)
variable (hX : ∀ b r k, X (ValueIdx.ix3 b r k) = XG b (wide o r) k) (hW : ∀ k n, W (ValueIdx.ix2 k n) = WG k (wide c n))
include hX hW

theorem proj_wide (b : Fin 2) (r n : Fin 256) : k0_pay15 (F := Ideal) X W (ValueIdx.ix2 (srow b r) n) = proj XG WG b (wide o r) (wide c n) := by
  rw [proj_val]
  exact Finset.sum_congr rfl fun k _ => by rw [hX, hW]

/-- A block of the keys is a block of the turned projection. -/
theorem kR_val (b : Fin 2) (r n : Fin 256) : kR (F := Ideal) (BitVec.ofNat 32 o.val) X W (ValueIdx.ix2 (srow b r) n) = rot (proj XG WG) b (wide o r) (wide c n) := by
  unfold kR
  rw [turn_val, cos_val, sin_val, even_val, proj_wide XG WG o c X W hX hW]
  have e1 : ((ValueIdx.ix2 (srow b r) n : S512x256.Idx) 1).val = n.val := rfl
  have ea : ang (256 * o.val + r.val) n.val = ang (wide o r).val (wide c n).val := by
    unfold ang
    show _ = ((256 * o.val + r.val : ℕ) : ℝ) * freq ((256 * c.val + n.val) % 64 / 2)
    rw [show (256 * c.val + n.val) % 64 = n.val % 64 by omega]
  have ep : (wide c n).val % 2 = n.val % 2 := by show (256 * c.val + n.val) % 2 = _; omega
  unfold rot
  rw [ep, ea]
  refine congrArg (fun t : EReal => (proj XG WG b (wide o r) (wide c n) * (Real.cos (ang (wide o r).val (wide c n).val) : EReal) + t * (Real.sin (ang (wide o r).val (wide c n).val) : EReal) : EReal)) ?_
  have hp : ∀ m : Fin 256, k0_pay15 (F := Ideal) X W (ix2 (srow b r) m) = proj XG WG b (wide o r) (wide c m) := fun m => by
    rw [ix2_eq_valueIdx]; exact proj_wide XG WG o c X W hX hW b r m
  by_cases hn : n.val % 2 = 0
  · rw [if_pos hn, if_pos hn, dif_pos (show n.val < 255 by omega)]
    refine (zero_sub (_ : EReal)).trans (congrArg (fun t : EReal => -t) ?_)
    refine (hp ⟨1 + n.val, by omega⟩).trans (congrArg (proj XG WG b (wide o r)) (Fin.ext ?_))
    show 256 * c.val + (1 + n.val) = if (256 * c.val + n.val) % 2 = 0 then 256 * c.val + n.val + 1 else 256 * c.val + n.val - 1
    rw [if_pos (by omega)]; omega
  · rw [if_neg hn, if_neg hn]
    refine (dif_neg (show ¬ n.val < 1 by omega)).trans ?_
    refine (hp ⟨n.val - 1, by omega⟩).trans (congrArg (proj XG WG b (wide o r)) (Fin.ext ?_))
    show 256 * c.val + (n.val - 1) = if (256 * c.val + n.val) % 2 = 0 then 256 * c.val + n.val + 1 else 256 * c.val + n.val - 1
    rw [if_neg (by omega)]; omega

theorem qR_val (b : Fin 2) (r n : Fin 256) : qR (F := Ideal) (BitVec.ofNat 32 o.val) X W (ValueIdx.ix2 (srow b r) n)
    = (rot (proj XG WG) b (wide o r) (wide c n) * Ideal.ofBits .f32 0x3E000000#32 : EReal) := by
  rw [qR_eq, kR_val XG WG o c X W hX hW]

theorem vR_val (b : Fin 2) (r n : Fin 256) : vR (F := Ideal) X W (ValueIdx.ix2 (srow b r) n) = proj XG WG b (wide o r) (wide c n) := by
  rw [vR_eq, proj_wide XG WG o c X W hX hW]

end Block

/-- The two batches of a block, each stored on its own. -/
theorem half_val (f : FVec Ideal S512x256 .f32) (b : Fin 2) (r n : Fin 256) :
    (if b.val = 0 then k0_pay19 (F := Ideal) f else k0_pay22 (F := Ideal) f) (ValueIdx.ix3 (0 : Fin 1) r n) = f (ValueIdx.ix2 (srow b r) n) := by
  by_cases hb : b.val = 0
  · rw [if_pos hb]
    unfold k0_pay19
    pointwise
    refine congrArg f (funext fun a => Fin.ext ?_)
    match a with
    | ⟨0, _⟩ => show r.val = 256 * b.val + r.val; omega
    | ⟨1, _⟩ => rfl
  · rw [if_neg hb]
    unfold k0_pay22
    pointwise
    refine congrArg f (funext fun a => Fin.ext ?_)
    match a with
    | ⟨0, _⟩ => show 256 + r.val = 256 * b.val + r.val; omega
    | ⟨1, _⟩ => rfl

/-- One attention head. -/
theorem head_val (X : S1x256x64.Idx → Elt Ideal .bf16) (Y Z : S1x1024x64.Idx → Elt Ideal .bf16) (r : Fin 256) (d : Fin 64) :
    k0_pay74 (F := Ideal) X Y Z (ValueIdx.ix2 r d)
      = ((∑ j : Fin 1024, Ideal.exp (∑ e : Fin 64, X (ValueIdx.ix3 (0 : Fin 1) r e) * Y (ValueIdx.ix3 (0 : Fin 1) j e)) * Z (ValueIdx.ix3 (0 : Fin 1) j d))
          * Ideal.div 1 (∑ j : Fin 1024, Ideal.exp (∑ e : Fin 64, X (ValueIdx.ix3 (0 : Fin 1) r e) * Y (ValueIdx.ix3 (0 : Fin 1) j e))) : EReal) := by
  unfold k0_pay74
  pointwise
  simp only [ix3_eq_valueIdx]

/-- One device's product for a block, batch by batch. -/
theorem part_val (C : S512x256.Idx → Elt Ideal .bf16) (W : S256x768.Idx → Elt Ideal .bf16) (b : Fin 2) (r : Fin 256) (n : Fin 768) :
    twoB (F := Ideal) (k0_pay91 C W) (k0_pay92 C W) (ValueIdx.ix3 b r n) = (∑ k : Fin 256, C (ValueIdx.ix2 (srow b r) k) * W (ValueIdx.ix2 k n) : EReal) := by
  unfold twoB
  by_cases hb : b.val = 0
  · rw [if_pos (show ((ValueIdx.ix3 b r n : S2x256x768.Idx) 0).val = 0 from hb)]
    unfold k0_pay91 k0_pay90
    pointwise
    simp only [ix2_eq_valueIdx]
    refine Finset.sum_congr rfl fun k _ => congrArg (fun t => (C t * _ : EReal)) (congrArg (fun q : Fin 512 => ValueIdx.ix2 q k) (Fin.ext ?_))
    show r.val = 256 * b.val + r.val; omega
  · rw [if_neg (show ¬ ((ValueIdx.ix3 b r n : S2x256x768.Idx) 0).val = 0 from hb)]
    unfold k0_pay92 k0_pay90
    pointwise
    simp only [ix2_eq_valueIdx]
    refine Finset.sum_congr rfl fun k _ => congrArg (fun t => (C t * _ : EReal)) (congrArg (fun q : Fin 512 => ValueIdx.ix2 q k) (Fin.ext ?_))
    show 256 + r.val = 256 * b.val + r.val; omega

/-- The same product kept on the device. -/
theorem own_val (C : S512x256.Idx → Elt Ideal .bf16) (W : S256x768.Idx → Elt Ideal .bf16) (b : Fin 2) (r : Fin 256) (n : Fin 768) :
    (if b.val = 0 then k0_pay148 (F := Ideal) C W (ValueIdx.ix3 (0 : Fin 1) r n) else k0_pay149 (F := Ideal) C W (ValueIdx.ix3 (0 : Fin 1) r n))
      = (∑ k : Fin 256, C (ValueIdx.ix2 (srow b r) k) * W (ValueIdx.ix2 k n) : EReal) := by
  by_cases hb : b.val = 0
  · rw [if_pos hb]
    unfold k0_pay148 k0_pay147
    pointwise
    simp only [ix2_eq_valueIdx]
    refine Finset.sum_congr rfl fun k _ => congrArg (fun t => (C t * _ : EReal)) (congrArg (fun q : Fin 512 => ValueIdx.ix2 q k) (Fin.ext ?_))
    show r.val = 256 * b.val + r.val; omega
  · rw [if_neg hb]
    unfold k0_pay149 k0_pay147
    pointwise
    simp only [ix2_eq_valueIdx]
    refine Finset.sum_congr rfl fun k _ => congrArg (fun t => (C t * _ : EReal)) (congrArg (fun q : Fin 512 => ValueIdx.ix2 q k) (Fin.ext ?_))
    show 256 + r.val = 256 * b.val + r.val; omega

/-- The last sum. -/
theorem total_val (A : S2x256x768.Idx → Elt Ideal .f32) (P Q R : S2x256x768.Idx → Elt Ideal .bf16) (j : S2x256x768.Idx) :
    k0_pay152 (F := Ideal) (k0_pay150 A (up P) (up Q)) (k0_pay151 (up R)) j = (A j + P j + Q j + R j : EReal) := by
  have e : ∀ T : S2x256x768.Idx → Elt Ideal .bf16, shapeCast S2x256x768 (up T) shapeCasts_S1x2x256x768_S2x256x768 = T := fun T => cast_up T _
  unfold k0_pay152 k0_pay151 k0_pay150
  rw [e, e, e]
  rfl

end Cert.Rope

end
-- ==== Proof.KerValue.lean ====
/-
# What the kernel computes

With every device holding its block of the whole arrays, and `x` and the weights of the queries and the keys finite,
each device's result is its block of the plain sums.
-/
module

public import proofs.«01_k».proof.Proof.KerOne

@[expose] public section

set_option maxRecDepth 8000

noncomputable section

namespace Cert.Rope

open Cert.KernelIdeal Cert.KernelIdeal.Gen
open Idealize.ShloMosaic

/-- Columns that are real numbers. -/
def Real2 (P : Cols) : Prop := ∃ p : Fin 2 → Fin 1024 → Fin 1024 → ℝ, ∀ b s n, P b s n = (p b s n : EReal)

theorem real_proj {X : Fin 2 → Fin 1024 → Fin 768 → EReal} {W : Fin 768 → Fin 1024 → EReal}
    (hX : ∀ b s k, ∃ r : ℝ, X b s k = (r : EReal)) (hW : ∀ k n, ∃ r : ℝ, W k n = (r : EReal)) : Real2 (proj X W) := by
  choose x hx using hX
  choose w hw using hW
  refine ⟨fun b s n => ∑ k, x b s k * w k n, fun b s n => ?_⟩
  unfold proj
  rw [coe_sum]
  exact Finset.sum_congr rfl fun k _ => by rw [hx, hw, EReal.coe_mul]

theorem real_rot {P : Cols} (h : Real2 P) : Real2 (rot P) := by
  obtain ⟨p, hp⟩ := h
  refine ⟨fun b s n => p b s n * Real.cos (ang s.val n.val) + (if n.val % 2 = 0 then -p b s (mate n) else p b s (mate n)) * Real.sin (ang s.val n.val), fun b s n => ?_⟩
  unfold rot
  rw [hp, hp]
  by_cases hn : n.val % 2 = 0
  · rw [if_pos hn]; dsimp only; rw [if_pos hn]; push_cast; rfl
  · rw [if_neg hn]; dsimp only; rw [if_neg hn]; push_cast; rfl

theorem real_score {Q K : Cols} (hQ : Real2 Q) (hK : Real2 K) (b : Fin 2) (h : Fin 16) (i : Fin 1024) :
    ∃ s : Fin 1024 → ℝ, ∀ j, score Q K b h i j = (s j : EReal) := by
  obtain ⟨q, hq⟩ := hQ
  obtain ⟨k, hk⟩ := hK
  refine ⟨fun j => (∑ d, q b i (hcol h d) * k b j (hcol h d)) * (1 / 8), fun j => ?_⟩
  unfold score
  rw [word_eighth, EReal.coe_mul, coe_sum]
  exact congrArg (· * _) (Finset.sum_congr rfl fun d _ => by rw [hq, hk, EReal.coe_mul])

/-- Scaling the queries first gives the scaled scores. -/
theorem score_early (Q K : Cols) (b : Fin 2) (h : Fin 16) (i j : Fin 1024) :
    (∑ d, Q b i (hcol h d) * Ideal.ofBits .f32 0x3E000000#32 * K b j (hcol h d) : EReal) = score Q K b h i j := by
  unfold score
  rw [word_eighth, sum_mul_coe _ _ _ (by norm_num)]
  exact Finset.sum_congr rfl fun d _ => by rw [mul_assoc, mul_comm (((1 : ℝ) / 8 : ℝ) : EReal), ← mul_assoc]

/-- Exponentials without the largest score taken off, divided at the end, give the same weighted values. -/
theorem attn_late {Q K : Cols} (hQ : Real2 Q) (hK : Real2 K) (V : Cols) (b : Fin 2) (i n : Fin 1024) :
    ((∑ j, Ideal.exp (score Q K b (headNo n) i j) * V b j n) * Ideal.div 1 (∑ j, Ideal.exp (score Q K b (headNo n) i j)) : EReal) = attn Q K V b i n := by
  obtain ⟨s, hs⟩ := real_score hQ hK b (headNo n) i
  obtain ⟨M, hM⟩ := max_real (by norm_num : 0 < 1024) s
  have ht : top Q K b (headNo n) i = (M : EReal) := by
    unfold top
    rw [← hM]
    exact congrArg (fun f => Finset.univ.fold max (⊥ : EReal) f) (funext hs)
  unfold attn weight
  rw [ht]
  simp only [hs]
  exact softmax_row (by norm_num) s M (fun j => V b j n)

section Whole
variable (XG : Fin 2 → Fin 1024 → Fin 768 → EReal) (WQ WK WV : Fin 768 → Fin 1024 → EReal) (WO : Fin 1024 → Fin 768 → EReal)
variable (I : Ins Ideal)

/-- Every device holds its block. -/
structure Holds : Prop where
  x : ∀ (o : Dev nD) b r k, I.x o (ValueIdx.ix3 b r k) = XG b (wide o r) k
  wq : ∀ (c : Dev nD) k n, I.wq c (ValueIdx.ix2 k n) = WQ k (wide c n)
  wk : ∀ (c : Dev nD) k n, I.wk c (ValueIdx.ix2 k n) = WK k (wide c n)
  wv : ∀ (c : Dev nD) k n, I.wv c (ValueIdx.ix2 k n) = WV k (wide c n)
  wo : ∀ (c : Dev nD) k n, I.wo c (ValueIdx.ix2 k n) = WO (wide c k) n

variable {XG WQ WK WV WO I} (H : Holds XG WQ WK WV WO I)

/-- A buffer of the whole sequence at a row and a column. -/
theorem whole_val (f : Dev nD → FVec Ideal S512x256 .f32) (G : Cols) (c : Fin 4)
    (h : ∀ (o : Dev nD) b r n, f o (ValueIdx.ix2 (srow b r) n) = G b (wide o r) (wide c n)) (b : Fin 2) (s : Fin 1024) (n : Fin 256) :
    whole (α := EReal) (fun b o => if b.val = 0 then k0_pay19 (F := Ideal) (f o) else k0_pay22 (F := Ideal) (f o)) (ValueIdx.ix3 b s n) = G b s (wide c n) := by
  refine (half_val (f (chunkOf (ValueIdx.ix3 b s n))) b ⟨s.val % 256, Nat.mod_lt _ (by decide)⟩ n).trans ?_
  rw [h]
  refine congrArg (fun t => G b t (wide c n)) (Fin.ext ?_)
  show 256 * (s.val / 256) + s.val % 256 = s.val
  omega

include H

theorem qV_val (c : Dev nD) (b : Fin 2) (s : Fin 1024) (n : Fin 256) :
    I.qV c (ValueIdx.ix3 b s n) = (rot (proj XG WQ) b s (wide c n) * Ideal.ofBits .f32 0x3E000000#32 : EReal) :=
  whole_val (fun o => I.qRows c o) (fun b s n => rot (proj XG WQ) b s n * Ideal.ofBits .f32 0x3E000000#32) c
    (fun o b r n => qR_val XG WQ o c (I.x o) (I.wq c) (H.x o) (H.wq c) b r n) b s n

theorem kV_val (c : Dev nD) (b : Fin 2) (s : Fin 1024) (n : Fin 256) : I.kV c (ValueIdx.ix3 b s n) = rot (proj XG WK) b s (wide c n) :=
  whole_val (fun o => I.kRows c o) (rot (proj XG WK)) c (fun o b r n => kR_val XG WK o c (I.x o) (I.wk c) (H.x o) (H.wk c) b r n) b s n

theorem vV_val (c : Dev nD) (b : Fin 2) (s : Fin 1024) (n : Fin 256) : I.vV c (ValueIdx.ix3 b s n) = proj XG WV b s (wide c n) :=
  whole_val (fun o => I.vRows c o) (proj XG WV) c (fun o b r n => vR_val XG WV o c (I.x o) (I.wv c) (H.x o) (H.wv c) b r n) b s n

variable (hX : ∀ b s k, ∃ r : ℝ, XG b s k = (r : EReal)) (hQ : ∀ k n, ∃ r : ℝ, WQ k n = (r : EReal)) (hK : ∀ k n, ∃ r : ℝ, WK k n = (r : EReal))
include hX hQ hK

/-- The heads of device `c` for chunk `o` are a block of the weighted values. -/
theorem ctx_val (c o : Dev nD) (b : Fin 2) (r n : Fin 256) :
    I.ctx c o (ValueIdx.ix2 (srow b r) n) = attn (rot (proj XG WQ)) (rot (proj XG WK)) (proj XG WV) b (wide o r) (wide c n) := by
  have hb : (⟨(srow b r).val / 256, by have := (srow b r).isLt; omega⟩ : Fin 2) = b := Fin.ext (by show (256 * b.val + r.val) / 256 = b.val; omega)
  have hr : (⟨(srow b r).val % 256, Nat.mod_lt _ (by decide)⟩ : Fin 256) = r := Fin.ext (by show (256 * b.val + r.val) % 256 = r.val; omega)
  have e : I.ctx c o (ValueIdx.ix2 (srow b r) n) = headOf (I.qV c) (I.kV c) (I.vV c) o b (⟨n.val / 64, by omega⟩ : Fin 4)
      (ValueIdx.ix2 r (⟨n.val % 64, Nat.mod_lt _ (by decide)⟩ : Fin 64)) := by
    show headOf (I.qV c) (I.kV c) (I.vV c) o (⟨(srow b r).val / 256, _⟩ : Fin 2) _ (ValueIdx.ix2 (⟨(srow b r).val % 256, _⟩ : Fin 256) _) = _
    rw [hb, hr]
  rw [e]
  unfold headOf
  rw [head_val]
  have hcol' : ∀ d : Fin 64, wide c (⟨64 * (n.val / 64) + d.val, by omega⟩ : Fin 256) = hcol (headNo (wide c n)) d := fun d => Fin.ext (by
    show 256 * c.val + (64 * (n.val / 64) + d.val) = 64 * ((256 * c.val + n.val) / 64) + d.val; omega)
  have hs : ∀ j : Fin 1024, (∑ d : Fin 64, qWin (I.qV c) o b (⟨n.val / 64, by omega⟩ : Fin 4) (ValueIdx.ix3 (0 : Fin 1) r d)
        * aWin (I.kV c) b (⟨n.val / 64, by omega⟩ : Fin 4) (ValueIdx.ix3 (0 : Fin 1) j d) : EReal)
      = score (rot (proj XG WQ)) (rot (proj XG WK)) b (headNo (wide c n)) (wide o r) j := fun j => by
    rw [← score_early]
    refine Finset.sum_congr rfl fun d _ => ?_
    rw [← hcol' d]
    exact congrArg₂ (fun p q : EReal => p * q) (qV_val H c b (wide o r) _) (kV_val H c b j _)
  have hv : ∀ j : Fin 1024, aWin (I.vV c) b (⟨n.val / 64, by omega⟩ : Fin 4) (ValueIdx.ix3 (0 : Fin 1) j (⟨n.val % 64, Nat.mod_lt _ (by decide)⟩ : Fin 64))
      = proj XG WV b j (wide c n) := fun j => by
    refine (vV_val H c b j _).trans (congrArg (proj XG WV b j) (Fin.ext ?_))
    show 256 * c.val + (64 * (n.val / 64) + n.val % 64) = 256 * c.val + n.val; omega
  simp only [hs, hv]
  exact attn_late (real_rot (real_proj hX hQ)) (real_rot (real_proj hX hK)) _ b (wide o r) (wide c n)

/-- The share of device `c` in the sum for chunk `o`. -/
theorem share_val (c o : Dev nD) (b : Fin 2) (r : Fin 256) (n : Fin 768) :
    I.part c o (ValueIdx.ix3 b r n)
      = (∑ k : Fin 256, attn (rot (proj XG WQ)) (rot (proj XG WK)) (proj XG WV) b (wide o r) (wide c k) * WO (wide c k) n : EReal) := by
  unfold Ins.part
  rw [part_val]
  exact Finset.sum_congr rfl fun k _ => by rw [ctx_val H hX hQ hK, H.wo]

theorem kept_val (c : Dev nD) (b : Fin 2) (r : Fin 256) (n : Fin 768) :
    I.own c (ValueIdx.ix3 b r n)
      = (∑ k : Fin 256, attn (rot (proj XG WQ)) (rot (proj XG WK)) (proj XG WV) b (wide c r) (wide c k) * WO (wide c k) n : EReal) := by
  refine (own_val (I.ctx c c) (I.wo c) b r n).trans ?_
  exact Finset.sum_congr rfl fun k _ => by rw [ctx_val H hX hQ hK, H.wo]

omit H hX hQ hK in
/-- The four shares, in the order the device adds them. -/
theorem four {α : Type} [AddCommMonoid α] (c : Fin 4) (T : Fin 4 → α) : T c + T (fw c 2) + T (fw c 1) + T (fw c 0) = ∑ e, T e := by
  rw [Fin.sum_univ_four]
  fin_cases c
  · show T 0 + T 3 + T 2 + T 1 = _; ac_rfl
  · show T 1 + T 0 + T 3 + T 2 = _; ac_rfl
  · show T 2 + T 1 + T 0 + T 3 = _; ac_rfl
  · show T 3 + T 2 + T 1 + T 0 = _; ac_rfl

/-- The result on device `c` is its block of the plain sums. -/
theorem out_val (c : Dev nD) (b : Fin 2) (r : Fin 256) (n : Fin 768) : I.out c (ValueIdx.ix3 b r n) = spec XG WQ WK WV WO b (wide c r) n := by
  have hd : ∀ i : Fin 3, I.dat 1 (fw c i) (rv i) = I.part (fw c i) c := fun i => congrArg (I.part (fw c i)) (fw_fw c i)
  unfold Ins.out
  have h2 : I.dat 1 (fw c 2) (rv 2) = I.part (fw c 2) c := hd 2
  have h1 : I.dat 1 (fw c 1) (rv 1) = I.part (fw c 1) c := hd 1
  have h0 : I.dat 1 (fw c 0) (rv 0) = I.part (fw c 0) c := hd 0
  rw [h2, h1, h0, total_val, kept_val H hX hQ hK, share_val H hX hQ hK, share_val H hX hQ hK, share_val H hX hQ hK]
  unfold spec final
  rw [sum_blocks]
  exact four c fun e => ∑ k : Fin 256, attn (rot (proj XG WQ)) (rot (proj XG WK)) (proj XG WV) b (wide c r) (wide e k) * WO (wide e k) n

end Whole

end Cert.Rope

end
-- ==== Proof.RefValue.lean ====
/-
# What the reference computes

The reference's result, read at an index, is the plain sums of `Spec`.
-/
module

public import proofs.«01_k».proof.Proof.Spec
public import proofs.«01_k».proof.Proof.Gen.ReferenceIdeal.Read
public import Idealize.ShloMosaic.Lib.ValueIdx
public import Idealize.ShloMosaic.Lib.ValueLayout

@[expose] public section

set_option maxRecDepth 8000

noncomputable section

namespace Cert.Rope

open Cert.ReferenceIdeal Cert.ReferenceIdeal.Gen Cert.ReferenceIdeal.Read
open Idealize.ShloMosaic Idealize.ShloMosaic.ValueIdx

/-- An index with given coordinates. -/
theorem at3 {n0 n1 n2 : ℕ} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext k; apply Fin.ext
  match k with
  | ⟨0, _⟩ => exact h0
  | ⟨1, _⟩ => exact h1
  | ⟨2, _⟩ => exact h2
theorem at4 {n0 n1 n2 n3 : ℕ} (j : (⟨4, ![n0, n1, n2, n3]⟩ : Shape).Idx) (a : Fin n0) (b : Fin n1) (c : Fin n2) (d : Fin n3)
    (h0 : (j 0).val = a.val) (h1 : (j 1).val = b.val) (h2 : (j 2).val = c.val) (h3 : (j 3).val = d.val) : j = ix4 a b c d := by
  funext k; apply Fin.ext
  match k with
  | ⟨0, _⟩ => exact h0
  | ⟨1, _⟩ => exact h1
  | ⟨2, _⟩ => exact h2
  | ⟨3, _⟩ => exact h3
theorem at5 {n0 n1 n2 n3 n4 : ℕ} (j : (⟨5, ![n0, n1, n2, n3, n4]⟩ : Shape).Idx) (a : Fin n0) (b : Fin n1) (c : Fin n2) (d : Fin n3) (e : Fin n4)
    (h0 : (j 0).val = a.val) (h1 : (j 1).val = b.val) (h2 : (j 2).val = c.val) (h3 : (j 3).val = d.val) (h4 : (j 4).val = e.val) : j = ix5 a b c d e := by
  funext k; apply Fin.ext
  match k with
  | ⟨0, _⟩ => exact h0
  | ⟨1, _⟩ => exact h1
  | ⟨2, _⟩ => exact h2
  | ⟨3, _⟩ => exact h3
  | ⟨4, _⟩ => exact h4

/-- The arguments, by their coordinates. -/
abbrev rows3 (x : S2x1024x768.Idx → EReal) : Fin 2 → Fin 1024 → Fin 768 → EReal := fun b s k => x (ix3 b s k)
abbrev cols2 (w : S768x1024.Idx → EReal) : Fin 768 → Fin 1024 → EReal := fun k n => w (ix2 k n)
abbrev last2 (w : S1024x768.Idx → EReal) : Fin 1024 → Fin 768 → EReal := fun k n => w (ix2 k n)

theorem ref_freq (j : Fin 32) : val_main_v16 (F := Ideal) (ix1 j) = (freq j.val : EReal) := by
  rw [← freq_pow]
  simp only [val_main_v16_apply, val_main_v15_apply, val_main_v14_apply, val_main_v13_apply, val_main_v12_apply, val_main_v11_apply,
    val_main_v10_apply, val_main_v9_apply, val_main_v8_apply, val_main_v7_apply, val_main_v6_apply, val_main_v5_apply, val_main_c_apply,
    val_main_c_0_apply, val_main_cst_apply, val_main_cst_1_apply, val_main_cst_2_apply]
  have hw : (IntOp.addi 0#32 (IntOp.muli 2#32 (BitVec.ofNat 32 j.val))).toInt = ((2 * j.val : ℕ) : ℤ) := by
    revert j; decide +kernel
  show Ideal.div (Ideal.ofBits .f32 0x3F800000#32) (Ideal.pow (Ideal.ofBits .f32 0x461C4000#32)
    (Ideal.div ((((IntOp.addi 0#32 (IntOp.muli 2#32 (BitVec.ofNat 32 j.val))).toInt : ℝ)) : EReal) (Ideal.ofBits .f32 0x42800000#32))) = _
  rw [hw, Ideal.ofBits_one_f32, word_base, word_64]
  norm_cast

theorem ref_ang (s : Fin 1024) (j : Fin 32) : val_main_v23 (F := Ideal) (ix2 s j) = (((s.val : ℝ) * freq j.val : ℝ) : EReal) := by
  have h22 : val_main_v22 (F := Ideal) (ix2 s j) = (freq j.val : EReal) := by
    rw [val_main_v22_apply, val_main_v19_apply, ← ref_freq]
    exact congrArg _ (eq_ix1 _)
  have h21 : val_main_v21 (F := Ideal) (ix2 s j) = ((s.val : ℝ) : EReal) := by
    rw [val_main_v21_apply, val_main_v20_apply, val_main_v18_apply, val_main_v17_apply]
    show (((BitVec.ofNat 32 s.val).toInt : ℝ) : EReal) = _
    have : (BitVec.ofNat 32 s.val).toInt = (s.val : ℤ) := by
      have := s.isLt
      rw [BitVec.toInt_eq_toNat_of_lt (by rw [BitVec.toNat_ofNat]; omega), BitVec.toNat_ofNat, Nat.mod_eq_of_lt (by omega)]
    rw [this]; norm_cast
  rw [val_main_v23_apply, h21, h22, EReal.coe_mul]
  rfl

theorem ref_cos (s : Fin 1024) (d : Fin 64) : val_main_v26 (F := Ideal) (ix2 s d) = (Real.cos ((s.val : ℝ) * freq (d.val / 2)) : EReal) := by
  rw [val_main_v26_apply, val_main_v25_apply, val_main_v24_apply, ← cos_coe, ← ref_ang s (⟨d.val / 2, by omega⟩ : Fin 32)]
  refine congrArg (fun i => FloatOps.hostUnary (F := Ideal) .cos (val_main_v23 (F := Ideal) i)) ?_
  refine (eq_ix2 _).trans (congrArg₂ ix2 (Fin.ext ?_) (Fin.ext ?_))
  · show (s.val * 64 + d.val) / 64 = s.val; omega
  · show (s.val * 64 + d.val) / 2 % 32 = d.val / 2; omega

theorem ref_sin (s : Fin 1024) (d : Fin 64) : val_main_v29 (F := Ideal) (ix2 s d) = (Real.sin ((s.val : ℝ) * freq (d.val / 2)) : EReal) := by
  rw [val_main_v29_apply, val_main_v28_apply, val_main_v27_apply, ← sin_coe, ← ref_ang s (⟨d.val / 2, by omega⟩ : Fin 32)]
  refine congrArg (fun i => FloatOps.hostUnary (F := Ideal) .sin (val_main_v23 (F := Ideal) i)) ?_
  refine (eq_ix2 _).trans (congrArg₂ ix2 (Fin.ext ?_) (Fin.ext ?_))
  · show (s.val * 64 + d.val) / 64 = s.val; omega
  · show (s.val * 64 + d.val) / 2 % 32 = d.val / 2; omega

section Arrays
variable (x0 : S2x1024x768.Idx → EReal) (x1 x2 x3 : S768x1024.Idx → EReal) (x4 : S1024x768.Idx → EReal)

theorem ref_q (b : Fin 2) (s n : Fin 1024) : val_main_v30 (F := Ideal) x0 x1 (ix3 b s n) = proj (rows3 x0) (cols2 x1) b s n := by
  rw [val_main_v30_apply]
  refine Finset.sum_congr rfl fun k _ => ?_
  exact congrArg₂ (fun i j => x0 i * x1 j) (eq_ix3 _) (eq_ix2 _)
theorem ref_k (b : Fin 2) (s n : Fin 1024) : val_main_v49 (F := Ideal) x0 x2 (ix3 b s n) = proj (rows3 x0) (cols2 x2) b s n := by
  rw [val_main_v49_apply]
  refine Finset.sum_congr rfl fun k _ => ?_
  exact congrArg₂ (fun i j => x0 i * x2 j) (eq_ix3 _) (eq_ix2 _)
theorem ref_v (b : Fin 2) (s n : Fin 1024) : val_main_v68 (F := Ideal) x0 x3 (ix3 b s n) = proj (rows3 x0) (cols2 x3) b s n := by
  rw [val_main_v68_apply]
  refine Finset.sum_congr rfl fun k _ => ?_
  exact congrArg₂ (fun i j => x0 i * x3 j) (eq_ix3 _) (eq_ix2 _)

theorem ref_qh (b : Fin 2) (s : Fin 1024) (h : Fin 16) (d : Fin 64) : val_main_v31 (F := Ideal) x0 x1 (ix4 b s h d) = proj (rows3 x0) (cols2 x1) b s (hcol h d) := by
  rw [val_main_v31_apply, ← ref_q]
  refine congrArg _ (at3 _ _ _ _ ?_ ?_ ?_)
  · show (((b.val * 1024 + s.val) * 16 + h.val) * 64 + d.val) / 1048576 = b.val; omega
  · show (((b.val * 1024 + s.val) * 16 + h.val) * 64 + d.val) / 1024 % 1024 = s.val; omega
  · show (((b.val * 1024 + s.val) * 16 + h.val) * 64 + d.val) % 1024 = 64 * h.val + d.val; omega

theorem ref_qp (b : Fin 2) (s : Fin 1024) (h : Fin 16) (j : Fin 32) (p : Fin 2) :
    val_main_v32 (F := Ideal) x0 x1 (ix5 b s h j p) = proj (rows3 x0) (cols2 x1) b s (hcol h ⟨2 * j.val + p.val, by omega⟩) := by
  rw [val_main_v32_apply, ← ref_qh]
  refine congrArg _ (at4 _ _ _ _ _ ?_ ?_ ?_ ?_)
  · show ((((b.val * 1024 + s.val) * 16 + h.val) * 32 + j.val) * 2 + p.val) / 1048576 = b.val; omega
  · show ((((b.val * 1024 + s.val) * 16 + h.val) * 32 + j.val) * 2 + p.val) / 1024 % 1024 = s.val; omega
  · show ((((b.val * 1024 + s.val) * 16 + h.val) * 32 + j.val) * 2 + p.val) / 64 % 16 = h.val; omega
  · show ((((b.val * 1024 + s.val) * 16 + h.val) * 32 + j.val) * 2 + p.val) % 64 = 2 * j.val + p.val; omega

theorem ref_qodd (b : Fin 2) (s : Fin 1024) (h : Fin 16) (j : Fin 32) :
    val_main_v34 (F := Ideal) x0 x1 (ix4 b s h j) = proj (rows3 x0) (cols2 x1) b s (hcol h ⟨2 * j.val + 1, by omega⟩) := by
  rw [val_main_v34_apply, val_main_v33_apply]
  refine Eq.trans (congrArg _ (at5 _ b s h j (1 : Fin 2) ?_ ?_ ?_ ?_ ?_)) (ref_qp x0 x1 b s h j 1)
  · show (((b.val * 1024 + s.val) * 16 + h.val) * 32 + j.val) / 524288 = b.val; omega
  · show (((b.val * 1024 + s.val) * 16 + h.val) * 32 + j.val) / 512 % 1024 = s.val; omega
  · show (((b.val * 1024 + s.val) * 16 + h.val) * 32 + j.val) / 32 % 16 = h.val; omega
  · show (((b.val * 1024 + s.val) * 16 + h.val) * 32 + j.val) / 1 % 32 = j.val; omega
  · rfl

theorem ref_qeven (b : Fin 2) (s : Fin 1024) (h : Fin 16) (j : Fin 32) :
    val_main_v37 (F := Ideal) x0 x1 (ix4 b s h j) = proj (rows3 x0) (cols2 x1) b s (hcol h ⟨2 * j.val, by omega⟩) := by
  rw [val_main_v37_apply, val_main_v36_apply]
  refine Eq.trans (congrArg _ (at5 _ b s h j (0 : Fin 2) ?_ ?_ ?_ ?_ ?_)) (ref_qp x0 x1 b s h j 0)
  · show (((b.val * 1024 + s.val) * 16 + h.val) * 32 + j.val) / 524288 = b.val; omega
  · show (((b.val * 1024 + s.val) * 16 + h.val) * 32 + j.val) / 512 % 1024 = s.val; omega
  · show (((b.val * 1024 + s.val) * 16 + h.val) * 32 + j.val) / 32 % 16 = h.val; omega
  · show (((b.val * 1024 + s.val) * 16 + h.val) * 32 + j.val) / 1 % 32 = j.val; omega
  · rfl

theorem ref_qswap (b : Fin 2) (s : Fin 1024) (h : Fin 16) (d : Fin 64) : val_main_v41 (F := Ideal) x0 x1 (ix4 b s h d)
    = if d.val % 2 = 0 then -(proj (rows3 x0) (cols2 x1) b s (mate (hcol h d))) else proj (rows3 x0) (cols2 x1) b s (mate (hcol h d)) := by
  rw [val_main_v41_apply]
  have hi : idx_main_v41 (ix4 b s h d) = ix5 b s h (⟨d.val / 2, by omega⟩ : Fin 32) (⟨d.val % 2, by omega⟩ : Fin 2) := by
    refine at5 _ _ _ _ _ _ ?_ ?_ ?_ ?_ ?_
    · show (((b.val * 1024 + s.val) * 16 + h.val) * 64 + d.val) / 1048576 = b.val; omega
    · show (((b.val * 1024 + s.val) * 16 + h.val) * 64 + d.val) / 1024 % 1024 = s.val; omega
    · show (((b.val * 1024 + s.val) * 16 + h.val) * 64 + d.val) / 64 % 16 = h.val; omega
    · show (((b.val * 1024 + s.val) * 16 + h.val) * 64 + d.val) / 2 % 32 = d.val / 2; omega
    · show (((b.val * 1024 + s.val) * 16 + h.val) * 64 + d.val) % 2 = d.val % 2; omega
  rw [hi]
  unfold val_main_v40
  by_cases hd : d.val % 2 = 0
  · rw [if_pos hd]
    refine (concatenate_pair_apply_left (4 : Fin S2x1024x16x32x2.rank) (val_main_v38 (F := Ideal) x0 x1) (val_main_v39 (F := Ideal) x0 x1) concatenates_S2x1024x16x32x1_S2x1024x16x32x1_S2x1024x16x32x2_d4 _ rfl (ix5 b s h (⟨d.val / 2, by omega⟩ : Fin 32) (0 : Fin 1)) ?_).trans ?_
    · intro a
      match a with
      | ⟨0, _⟩ => rfl
      | ⟨1, _⟩ => rfl
      | ⟨2, _⟩ => rfl
      | ⟨3, _⟩ => rfl
      | ⟨4, _⟩ => exact hd.symm
    · rw [val_main_v38_apply, val_main_v35_apply]
      have hx : idx_main_v38 (ix5 b s h (⟨d.val / 2, by omega⟩ : Fin 32) (0 : Fin 1)) = ix4 b s h (⟨d.val / 2, by omega⟩ : Fin 32) :=
        at4 _ _ _ _ _ rfl rfl rfl rfl
      rw [hx]
      rw [ref_qodd]
      have e : hcol h ⟨2 * (d.val / 2) + 1, by omega⟩ = mate (hcol h d) := by
        apply Fin.ext; show 64 * h.val + (2 * (d.val / 2) + 1) = if (64 * h.val + d.val) % 2 = 0 then 64 * h.val + d.val + 1 else 64 * h.val + d.val - 1
        rw [if_pos (by omega)]; omega
      rw [← e]
      rfl
  · rw [if_neg hd]
    refine (concatenate_pair_apply_right (4 : Fin S2x1024x16x32x2.rank) (val_main_v38 (F := Ideal) x0 x1) (val_main_v39 (F := Ideal) x0 x1) concatenates_S2x1024x16x32x1_S2x1024x16x32x1_S2x1024x16x32x2_d4 _ rfl rfl (ix5 b s h (⟨d.val / 2, by omega⟩ : Fin 32) (0 : Fin 1)) ?_ ?_).trans ?_
    · intro a ha
      match a with
      | ⟨0, _⟩ => rfl
      | ⟨1, _⟩ => rfl
      | ⟨2, _⟩ => rfl
      | ⟨3, _⟩ => rfl
      | ⟨4, _⟩ => exact absurd rfl ha
    · exact (show 0 + 1 = d.val % 2 by omega)
    · rw [val_main_v39_apply]
      have hx : idx_main_v39 (ix5 b s h (⟨d.val / 2, by omega⟩ : Fin 32) (0 : Fin 1)) = ix4 b s h (⟨d.val / 2, by omega⟩ : Fin 32) :=
        at4 _ _ _ _ _ rfl rfl rfl rfl
      rw [hx]
      rw [ref_qeven]
      have e : hcol h ⟨2 * (d.val / 2), by omega⟩ = mate (hcol h d) := by
        apply Fin.ext; show 64 * h.val + (2 * (d.val / 2)) = if (64 * h.val + d.val) % 2 = 0 then 64 * h.val + d.val + 1 else 64 * h.val + d.val - 1
        rw [if_neg (by omega)]; omega
      rw [← e]

theorem ref_qrot (b : Fin 2) (s : Fin 1024) (h : Fin 16) (d : Fin 64) : val_main_v48 (F := Ideal) x0 x1 (ix4 b s h d)
    = rot (proj (rows3 x0) (cols2 x1)) b s (hcol h d) := by
  have hc : val_main_v43 (F := Ideal) (ix4 b s h d) = (Real.cos (ang s.val (hcol h d).val) : EReal) := by
    rw [val_main_v43_apply, val_main_v42_apply]
    refine (congrArg (val_main_v26 (F := Ideal)) (eq_ix2 _)).trans ((ref_cos s d).trans ?_)
    show _ = ((Real.cos ((s.val : ℝ) * freq ((64 * h.val + d.val) % 64 / 2)) : ℝ) : EReal)
    rw [show (64 * h.val + d.val) % 64 = d.val by omega]
  have hs : val_main_v46 (F := Ideal) (ix4 b s h d) = (Real.sin (ang s.val (hcol h d).val) : EReal) := by
    rw [val_main_v46_apply, val_main_v45_apply]
    refine (congrArg (val_main_v29 (F := Ideal)) (eq_ix2 _)).trans ((ref_sin s d).trans ?_)
    show _ = ((Real.sin ((s.val : ℝ) * freq ((64 * h.val + d.val) % 64 / 2)) : ℝ) : EReal)
    rw [show (64 * h.val + d.val) % 64 = d.val by omega]
  rw [val_main_v48_apply, val_main_v47_apply, val_main_v44_apply, hc, hs, ref_qh, ref_qswap]
  have hp : (d.val % 2 = 0) = ((hcol h d).val % 2 = 0) := by
    show _ = ((64 * h.val + d.val) % 2 = 0)
    rw [show (64 * h.val + d.val) % 2 = d.val % 2 by omega]
  simp only [hp]
  rfl

theorem ref_kh (b : Fin 2) (s : Fin 1024) (h : Fin 16) (d : Fin 64) : val_main_v50 (F := Ideal) x0 x2 (ix4 b s h d) = proj (rows3 x0) (cols2 x2) b s (hcol h d) := by
  rw [val_main_v50_apply, ← ref_k]
  refine congrArg _ (at3 _ _ _ _ ?_ ?_ ?_)
  · show (((b.val * 1024 + s.val) * 16 + h.val) * 64 + d.val) / 1048576 = b.val; omega
  · show (((b.val * 1024 + s.val) * 16 + h.val) * 64 + d.val) / 1024 % 1024 = s.val; omega
  · show (((b.val * 1024 + s.val) * 16 + h.val) * 64 + d.val) % 1024 = 64 * h.val + d.val; omega

theorem ref_kp (b : Fin 2) (s : Fin 1024) (h : Fin 16) (j : Fin 32) (p : Fin 2) :
    val_main_v51 (F := Ideal) x0 x2 (ix5 b s h j p) = proj (rows3 x0) (cols2 x2) b s (hcol h ⟨2 * j.val + p.val, by omega⟩) := by
  rw [val_main_v51_apply, ← ref_kh]
  refine congrArg _ (at4 _ _ _ _ _ ?_ ?_ ?_ ?_)
  · show ((((b.val * 1024 + s.val) * 16 + h.val) * 32 + j.val) * 2 + p.val) / 1048576 = b.val; omega
  · show ((((b.val * 1024 + s.val) * 16 + h.val) * 32 + j.val) * 2 + p.val) / 1024 % 1024 = s.val; omega
  · show ((((b.val * 1024 + s.val) * 16 + h.val) * 32 + j.val) * 2 + p.val) / 64 % 16 = h.val; omega
  · show ((((b.val * 1024 + s.val) * 16 + h.val) * 32 + j.val) * 2 + p.val) % 64 = 2 * j.val + p.val; omega

theorem ref_kodd (b : Fin 2) (s : Fin 1024) (h : Fin 16) (j : Fin 32) :
    val_main_v53 (F := Ideal) x0 x2 (ix4 b s h j) = proj (rows3 x0) (cols2 x2) b s (hcol h ⟨2 * j.val + 1, by omega⟩) := by
  rw [val_main_v53_apply, val_main_v52_apply]
  refine Eq.trans (congrArg _ (at5 _ b s h j (1 : Fin 2) ?_ ?_ ?_ ?_ ?_)) (ref_kp x0 x2 b s h j 1)
  · show (((b.val * 1024 + s.val) * 16 + h.val) * 32 + j.val) / 524288 = b.val; omega
  · show (((b.val * 1024 + s.val) * 16 + h.val) * 32 + j.val) / 512 % 1024 = s.val; omega
  · show (((b.val * 1024 + s.val) * 16 + h.val) * 32 + j.val) / 32 % 16 = h.val; omega
  · show (((b.val * 1024 + s.val) * 16 + h.val) * 32 + j.val) / 1 % 32 = j.val; omega
  · rfl

theorem ref_keven (b : Fin 2) (s : Fin 1024) (h : Fin 16) (j : Fin 32) :
    val_main_v56 (F := Ideal) x0 x2 (ix4 b s h j) = proj (rows3 x0) (cols2 x2) b s (hcol h ⟨2 * j.val, by omega⟩) := by
  rw [val_main_v56_apply, val_main_v55_apply]
  refine Eq.trans (congrArg _ (at5 _ b s h j (0 : Fin 2) ?_ ?_ ?_ ?_ ?_)) (ref_kp x0 x2 b s h j 0)
  · show (((b.val * 1024 + s.val) * 16 + h.val) * 32 + j.val) / 524288 = b.val; omega
  · show (((b.val * 1024 + s.val) * 16 + h.val) * 32 + j.val) / 512 % 1024 = s.val; omega
  · show (((b.val * 1024 + s.val) * 16 + h.val) * 32 + j.val) / 32 % 16 = h.val; omega
  · show (((b.val * 1024 + s.val) * 16 + h.val) * 32 + j.val) / 1 % 32 = j.val; omega
  · rfl

theorem ref_kswap (b : Fin 2) (s : Fin 1024) (h : Fin 16) (d : Fin 64) : val_main_v60 (F := Ideal) x0 x2 (ix4 b s h d)
    = if d.val % 2 = 0 then -(proj (rows3 x0) (cols2 x2) b s (mate (hcol h d))) else proj (rows3 x0) (cols2 x2) b s (mate (hcol h d)) := by
  rw [val_main_v60_apply]
  have hi : idx_main_v60 (ix4 b s h d) = ix5 b s h (⟨d.val / 2, by omega⟩ : Fin 32) (⟨d.val % 2, by omega⟩ : Fin 2) := by
    refine at5 _ _ _ _ _ _ ?_ ?_ ?_ ?_ ?_
    · show (((b.val * 1024 + s.val) * 16 + h.val) * 64 + d.val) / 1048576 = b.val; omega
    · show (((b.val * 1024 + s.val) * 16 + h.val) * 64 + d.val) / 1024 % 1024 = s.val; omega
    · show (((b.val * 1024 + s.val) * 16 + h.val) * 64 + d.val) / 64 % 16 = h.val; omega
    · show (((b.val * 1024 + s.val) * 16 + h.val) * 64 + d.val) / 2 % 32 = d.val / 2; omega
    · show (((b.val * 1024 + s.val) * 16 + h.val) * 64 + d.val) % 2 = d.val % 2; omega
  rw [hi]
  unfold val_main_v59
  by_cases hd : d.val % 2 = 0
  · rw [if_pos hd]
    refine (concatenate_pair_apply_left (4 : Fin S2x1024x16x32x2.rank) (val_main_v57 (F := Ideal) x0 x2) (val_main_v58 (F := Ideal) x0 x2) concatenates_S2x1024x16x32x1_S2x1024x16x32x1_S2x1024x16x32x2_d4 _ rfl (ix5 b s h (⟨d.val / 2, by omega⟩ : Fin 32) (0 : Fin 1)) ?_).trans ?_
    · intro a
      match a with
      | ⟨0, _⟩ => rfl
      | ⟨1, _⟩ => rfl
      | ⟨2, _⟩ => rfl
      | ⟨3, _⟩ => rfl
      | ⟨4, _⟩ => exact hd.symm
    · rw [val_main_v57_apply, val_main_v54_apply]
      have hx : idx_main_v57 (ix5 b s h (⟨d.val / 2, by omega⟩ : Fin 32) (0 : Fin 1)) = ix4 b s h (⟨d.val / 2, by omega⟩ : Fin 32) :=
        at4 _ _ _ _ _ rfl rfl rfl rfl
      rw [hx]
      rw [ref_kodd]
      have e : hcol h ⟨2 * (d.val / 2) + 1, by omega⟩ = mate (hcol h d) := by
        apply Fin.ext; show 64 * h.val + (2 * (d.val / 2) + 1) = if (64 * h.val + d.val) % 2 = 0 then 64 * h.val + d.val + 1 else 64 * h.val + d.val - 1
        rw [if_pos (by omega)]; omega
      rw [← e]
      rfl
  · rw [if_neg hd]
    refine (concatenate_pair_apply_right (4 : Fin S2x1024x16x32x2.rank) (val_main_v57 (F := Ideal) x0 x2) (val_main_v58 (F := Ideal) x0 x2) concatenates_S2x1024x16x32x1_S2x1024x16x32x1_S2x1024x16x32x2_d4 _ rfl rfl (ix5 b s h (⟨d.val / 2, by omega⟩ : Fin 32) (0 : Fin 1)) ?_ ?_).trans ?_
    · intro a ha
      match a with
      | ⟨0, _⟩ => rfl
      | ⟨1, _⟩ => rfl
      | ⟨2, _⟩ => rfl
      | ⟨3, _⟩ => rfl
      | ⟨4, _⟩ => exact absurd rfl ha
    · exact (show 0 + 1 = d.val % 2 by omega)
    · rw [val_main_v58_apply]
      have hx : idx_main_v58 (ix5 b s h (⟨d.val / 2, by omega⟩ : Fin 32) (0 : Fin 1)) = ix4 b s h (⟨d.val / 2, by omega⟩ : Fin 32) :=
        at4 _ _ _ _ _ rfl rfl rfl rfl
      rw [hx]
      rw [ref_keven]
      have e : hcol h ⟨2 * (d.val / 2), by omega⟩ = mate (hcol h d) := by
        apply Fin.ext; show 64 * h.val + (2 * (d.val / 2)) = if (64 * h.val + d.val) % 2 = 0 then 64 * h.val + d.val + 1 else 64 * h.val + d.val - 1
        rw [if_neg (by omega)]; omega
      rw [← e]

theorem ref_krot (b : Fin 2) (s : Fin 1024) (h : Fin 16) (d : Fin 64) : val_main_v67 (F := Ideal) x0 x2 (ix4 b s h d)
    = rot (proj (rows3 x0) (cols2 x2)) b s (hcol h d) := by
  have hc : val_main_v62 (F := Ideal) (ix4 b s h d) = (Real.cos (ang s.val (hcol h d).val) : EReal) := by
    rw [val_main_v62_apply, val_main_v61_apply]
    refine (congrArg (val_main_v26 (F := Ideal)) (eq_ix2 _)).trans ((ref_cos s d).trans ?_)
    show _ = ((Real.cos ((s.val : ℝ) * freq ((64 * h.val + d.val) % 64 / 2)) : ℝ) : EReal)
    rw [show (64 * h.val + d.val) % 64 = d.val by omega]
  have hs : val_main_v65 (F := Ideal) (ix4 b s h d) = (Real.sin (ang s.val (hcol h d).val) : EReal) := by
    rw [val_main_v65_apply, val_main_v64_apply]
    refine (congrArg (val_main_v29 (F := Ideal)) (eq_ix2 _)).trans ((ref_sin s d).trans ?_)
    show _ = ((Real.sin ((s.val : ℝ) * freq ((64 * h.val + d.val) % 64 / 2)) : ℝ) : EReal)
    rw [show (64 * h.val + d.val) % 64 = d.val by omega]
  rw [val_main_v67_apply, val_main_v66_apply, val_main_v63_apply, hc, hs, ref_kh, ref_kswap]
  have hp : (d.val % 2 = 0) = ((hcol h d).val % 2 = 0) := by
    show _ = ((64 * h.val + d.val) % 2 = 0)
    rw [show (64 * h.val + d.val) % 2 = d.val % 2 by omega]
  simp only [hp]
  rfl

theorem ref_vh (b : Fin 2) (s : Fin 1024) (h : Fin 16) (d : Fin 64) : val_main_v69 (F := Ideal) x0 x3 (ix4 b s h d) = proj (rows3 x0) (cols2 x3) b s (hcol h d) := by
  rw [val_main_v69_apply, ← ref_v]
  refine congrArg _ (at3 _ _ _ _ ?_ ?_ ?_)
  · show (((b.val * 1024 + s.val) * 16 + h.val) * 64 + d.val) / 1048576 = b.val; omega
  · show (((b.val * 1024 + s.val) * 16 + h.val) * 64 + d.val) / 1024 % 1024 = s.val; omega
  · show (((b.val * 1024 + s.val) * 16 + h.val) * 64 + d.val) % 1024 = 64 * h.val + d.val; omega

/-- The rotated projections that the scores are made of. -/
abbrev refQ : Cols := rot (proj (rows3 x0) (cols2 x1))
abbrev refK : Cols := rot (proj (rows3 x0) (cols2 x2))

theorem ref_score (b : Fin 2) (h : Fin 16) (i j : Fin 1024) :
    val_main_v72 (F := Ideal) x0 x1 x2 (ix4 b h i j) = score (refQ x0 x1) (refK x0 x2) b h i j := by
  rw [val_main_v72_apply, val_main_v71_apply, val_main_cst_3_apply, val_main_v70_apply]
  refine congrArg (· * Ideal.ofBits .f32 0x3E000000#32) (Finset.sum_congr rfl fun k _ => ?_)
  refine Eq.trans ?_ (congrArg₂ (fun p q : EReal => p * q) (ref_qrot x0 x1 b i h k) (ref_krot x0 x2 b j h k))
  exact congrArg₂ (fun i j => val_main_v48 (F := Ideal) x0 x1 i * val_main_v67 (F := Ideal) x0 x2 j) (at4 _ _ _ _ _ rfl rfl rfl rfl) (at4 _ _ _ _ _ rfl rfl rfl rfl)

/-- A row of scores, put back along the last axis. -/
theorem lift_last (hR : S2x16x1024x1024.Reduces [3] S2x16x1024) (b : Fin 2) (h : Fin 16) (i : Fin 1024) (k : Fin (S2x16x1024x1024.size 3)) :
    hR.lift (ix3 b h i) k = ix4 b h i (⟨k.val, k.isLt⟩ : Fin 1024) := by
  funext c; apply Fin.ext
  fin_cases c <;> rfl

theorem fold_last (y : FVec Ideal S2x16x1024x1024 .f32) (hR : S2x16x1024x1024.Reduces [3] S2x16x1024) (b : Fin 2) (h : Fin 16) (i : Fin 1024) :
    Host.reduce FloatOps.maximumf y (val_main_cst_4 (F := Ideal)) reducesTo_S2x16x1024x1024_S2x16x1024_d3 h_S_ (ix3 b h i)
      = Finset.univ.fold max (⊥ : EReal) (fun k : Fin 1024 => (y (ix4 b h i k) : EReal)) := by
  rw [Host.reduce_eq_fold_single FloatOps.maximumf _ _ _ hR]
  have hb : val_main_cst_4 (F := Ideal) (Shape.Idx.first h_S_) = (⊥ : EReal) := word_bot
  rw [hb]
  have hf : (y ∘ hR.lift (ix3 b h i)) = fun k : Fin 1024 => y (ix4 b h i k) := funext fun k => congrArg y (lift_last hR b h i k)
  exact congrArg (fun f => Finset.fold max (⊥ : EReal) f (Finset.univ : Finset (Fin 1024))) hf

theorem ref_top (b : Fin 2) (h : Fin 16) (i : Fin 1024) :
    val_main_v73 (F := Ideal) x0 x1 x2 (ix3 b h i) = top (refQ x0 x1) (refK x0 x2) b h i := by
  have hR : S2x16x1024x1024.Reduces [3] S2x16x1024 := by decide
  unfold val_main_v73
  rw [fold_last _ hR]
  unfold top
  exact congrArg (fun f => Finset.fold max (⊥ : EReal) f (Finset.univ : Finset (Fin 1024))) (funext fun k => ref_score x0 x1 x2 b h i k)

theorem ref_exp (b : Fin 2) (h : Fin 16) (i j : Fin 1024) :
    val_main_v77 (F := Ideal) x0 x1 x2 (ix4 b h i j)
      = Ideal.exp (score (refQ x0 x1) (refK x0 x2) b h i j - top (refQ x0 x1) (refK x0 x2) b h i) := by
  rw [val_main_v77_apply, val_main_v76_apply, val_main_v75_apply, val_main_v74_apply, ref_score]
  rw [show idx_main_v74 (idx_main_v75 (ix4 b h i j)) = ix3 b h i from at3 _ _ _ _ rfl rfl rfl, ref_top]
  rfl

theorem ref_weight (b : Fin 2) (h : Fin 16) (i j : Fin 1024) :
    val_main_v81 (F := Ideal) x0 x1 x2 (ix4 b h i j) = weight (refQ x0 x1) (refK x0 x2) b h i j := by
  rw [val_main_v81_apply, val_main_v80_apply, val_main_v79_apply, ref_exp]
  rw [show idx_main_v79 (idx_main_v80 (ix4 b h i j)) = ix3 b h i from at3 _ _ _ _ rfl rfl rfl, val_main_v78_apply, val_main_cst_5_apply]
  refine congrArg (Ideal.div _) ?_
  have hz : (FloatOps.ofBits .f32 0x00000000#32 : Ideal .f32) = (0 : EReal) := by simp [FloatOps.ofBits, Ideal.ofBits, Ideal.ieee]
  rw [hz]
  refine (zero_add (∑ k : Fin 1024, (val_main_v77 (F := Ideal) x0 x1 x2 (idx_main_v78 (ix3 b h i) k) : EReal))).trans (Finset.sum_congr rfl fun k _ => ?_)
  rw [← ref_exp]
  exact congrArg _ (at4 _ _ _ _ _ rfl rfl rfl rfl)

theorem ref_attn (b : Fin 2) (i n : Fin 1024) :
    val_main_v84 (F := Ideal) x0 x1 x2 x3 (ix3 b i n) = attn (refQ x0 x1) (refK x0 x2) (proj (rows3 x0) (cols2 x3)) b i n := by
  rw [val_main_v84_apply, val_main_v83_apply]
  have hi : idx_main_v83 (idx_main_v84 (ix3 b i n)) = ix4 b (headNo n) (⟨n.val % 64, by omega⟩ : Fin 64) i := by
    refine at4 _ _ _ _ _ ?_ ?_ ?_ ?_
    · show ((b.val * 1024 + i.val) * 1024 + n.val) / 1048576 = b.val; omega
    · show ((b.val * 1024 + i.val) * 1024 + n.val) / 64 % 16 = n.val / 64; omega
    · show ((b.val * 1024 + i.val) * 1024 + n.val) % 64 = n.val % 64; omega
    · show ((b.val * 1024 + i.val) * 1024 + n.val) / 1024 % 1024 = i.val; omega
  rw [hi, val_main_v82_apply]
  refine Finset.sum_congr rfl fun k _ => ?_
  have hn : n = hcol (headNo n) ⟨n.val % 64, by omega⟩ := Fin.ext (show n.val = 64 * (n.val / 64) + n.val % 64 by omega)
  have hv := ref_vh x0 x3 b k (headNo n) ⟨n.val % 64, by omega⟩
  rw [← hn] at hv
  rw [← ref_weight, ← hv]
  exact congrArg₂ (fun i j => val_main_v69 (F := Ideal) x0 x3 i * val_main_v81 (F := Ideal) x0 x1 x2 j) (at4 _ _ _ _ _ rfl rfl rfl rfl) (at4 _ _ _ _ _ rfl rfl rfl rfl)

/-- The reference's result. -/
theorem ref_out (b : Fin 2) (i : Fin 1024) (n : Fin 768) :
    val_main_v85 (F := Ideal) x0 x1 x2 x3 x4 (ix3 b i n) = spec (rows3 x0) (cols2 x1) (cols2 x2) (cols2 x3) (last2 x4) b i n := by
  rw [val_main_v85_apply]
  unfold spec final
  have hk : ∀ k : Fin 1024, (val_main_v84 (F := Ideal) x0 x1 x2 x3 (lidx_main_v85 (ix3 b i n) k) * val_main_v4 (F := Ideal) x4 (ridx_main_v85 (ix3 b i n) k) : EReal)
      = attn (refQ x0 x1) (refK x0 x2) (proj (rows3 x0) (cols2 x3)) b i k * last2 x4 k n := by
    intro k
    rw [← ref_attn]
    exact congrArg₂ (fun i j => val_main_v84 (F := Ideal) x0 x1 x2 x3 i * x4 j) (at3 _ _ _ _ rfl rfl rfl) (eq_ix2 _)
  exact Finset.sum_congr rfl fun k _ => hk k

end Arrays

end Cert.Rope

end
-- ==== Proof.Equation.lean ====
/-
# The two programs compute the same

What the precondition says of the arguments, what a block holds of a whole array, and the claim that the kernel's
results are the blocks of the reference's result.
-/
module

public import proofs.«01_k».proof.Proof.Frames
public import proofs.«01_k».proof.Proof.KerValue
public import proofs.«01_k».proof.Proof.RefValue

@[expose] public section

set_option maxRecDepth 8000

noncomputable section

namespace Cert.Rope

open Idealize.ShloMosaic Idealize.SL.Sem

/-! ## The precondition -/

theorem all_of_fold {ι : Type} [DecidableEq ι] (s : Finset ι) (z : BitVec 1) (f : ι → BitVec 1) (h : s.fold IntOp.andi z f = 1#1) : ∀ i ∈ s, f i = 1#1 := by
  induction s using Finset.induction_on with
  | empty => intro i hi; simp at hi
  | insert a s ha ih =>
    rw [Finset.fold_insert ha] at h
    have hand : ∀ p q : BitVec 1, IntOp.andi p q = 1#1 → p = 1#1 ∧ q = 1#1 := by decide
    obtain ⟨h1, h2⟩ := hand _ _ h
    intro i hi
    rcases Finset.mem_insert.1 hi with rfl | hi
    · exact h1
    · exact ih h2 i hi

/-- A conjunction over a whole array is true only if every element is. -/
theorem all_of_reduce {s : Shape} {axes : List (Fin s.rank)} (x : s.Idx → BitVec 1) (z : (⟨0, ![]⟩ : Shape).Idx → BitVec 1)
    (h : s.ReducesTo axes ⟨0, ![]⟩) (hu : 0 < (⟨0, ![]⟩ : Shape).numel) (j : (⟨0, ![]⟩ : Shape).Idx)
    (e : Host.reduce IntOp.andi x z h hu j = 1#1) (i : s.Idx) : x i = 1#1 := by
  classical
  rw [Host.reduce_eq_fold] at e
  exact all_of_fold _ _ _ e i (Finset.mem_filter.2 ⟨Finset.mem_univ _, funext fun a => a.elim0⟩)

theorem word_top : Ideal.ofBits .f32 0x7F800000#32 = ⊤ := by
  simp [Ideal.ofBits, Ideal.ieee]

/-- A number of absolute value below infinity is real. -/
theorem real_of_lt (v : EReal) (h : Ideal.cmp .olt (max v (-v)) (Ideal.ofBits .f32 0x7F800000#32) = 1#1) : ∃ r : ℝ, v = (r : EReal) := by
  rw [word_top] at h
  induction v using EReal.rec with
  | bot => exact absurd h (by simp [Ideal.cmp])
  | coe r => exact ⟨r, rfl⟩
  | top => exact absurd h (by simp [Ideal.cmp])

/-- The precondition's function is true of a device's blocks only if the rows of `x` and the weights of the queries
    and the keys are real. -/
theorem finite_real (a0 : FVec Ideal ⟨3, ![2, 256, 768]⟩ .bf16) (a1 a2 a3 : FVec Ideal ⟨2, ![768, 256]⟩ .bf16) (a4 : FVec Ideal ⟨2, ![256, 768]⟩ .bf16)
    (h : Cert.Pre_finite_KernelIdeal.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have hand : ∀ p q : BitVec 1, IntOp.andi p q = 1#1 → p = 1#1 ∧ q = 1#1 := by decide
  have h0 := congrFun h ValueIdx.ix0
  obtain ⟨h01, h2⟩ := hand _ _ h0
  obtain ⟨h0, h1⟩ := hand _ _ h01
  beta_reduce at h0 h1 h2
  have q0 := all_of_reduce _ _ _ _ _ h0
  have q1 := all_of_reduce _ _ _ _ _ h1
  have q2 := all_of_reduce _ _ _ _ _ h2
  exact ⟨fun i => real_of_lt (a0 i) (q0 i), fun i => real_of_lt (a1 i) (q1 i), fun i => real_of_lt (a2 i) (q2 i)⟩

/-! ## Blocks of the whole arrays -/

theorem block_rows (v : (⟨3, ![2, 1024, 768]⟩ : Shape).Idx → EReal) (c : Fin 4) (b : Fin 2) (r : Fin 256) (k : Fin 768) :
    Layout.block ⟨3, ![2, 256, 768]⟩ ⟨3, ![2, 1024, 768]⟩ 1 4 c v (by decide) (ValueIdx.ix3 b r k) = v (ValueIdx.ix3 b (wide c r) k) := by
  refine congrArg v (at3 _ _ _ _ rfl ?_ rfl)
  show c.val * 256 + r.val = 256 * c.val + r.val; omega

theorem block_cols (v : (⟨2, ![768, 1024]⟩ : Shape).Idx → EReal) (c : Fin 4) (k : Fin 768) (n : Fin 256) :
    Layout.block ⟨2, ![768, 256]⟩ ⟨2, ![768, 1024]⟩ 1 4 c v (by decide) (ValueIdx.ix2 k n) = v (ValueIdx.ix2 k (wide c n)) := by
  refine congrArg v (funext fun a => Fin.ext ?_)
  match a with
  | ⟨0, _⟩ => rfl
  | ⟨1, _⟩ => show c.val * 256 + n.val = 256 * c.val + n.val; omega

theorem block_last (v : (⟨2, ![1024, 768]⟩ : Shape).Idx → EReal) (c : Fin 4) (k : Fin 256) (n : Fin 768) :
    Layout.block ⟨2, ![256, 768]⟩ ⟨2, ![1024, 768]⟩ 0 4 c v (by decide) (ValueIdx.ix2 k n) = v (ValueIdx.ix2 (wide c k) n) := by
  refine congrArg v (funext fun a => Fin.ext ?_)
  match a with
  | ⟨0, _⟩ => show c.val * 256 + k.val = 256 * c.val + k.val; omega
  | ⟨1, _⟩ => rfl

/-- Every row and column lies in a block. -/
theorem wide_of (s : Fin 1024) : ∃ (o : Fin 4) (r : Fin 256), s = wide o r :=
  ⟨⟨s.val / 256, by omega⟩, ⟨s.val % 256, Nat.mod_lt _ (by decide)⟩, Fin.ext (by show s.val = 256 * (s.val / 256) + s.val % 256; omega)⟩

/-! ## The claim -/

/-- Started from the blocks of the whole arrays, the kernel leaves on every device its block of the reference's result. -/
theorem values : Cert.algebraic_KernelIdeal_ReferenceIdeal_pre_finite_KernelIdeal := by
  intro m g m' g' hpre harg
  refine ⟨Cert.ReferenceIdeal.Value.res_main_v85 m' 0, ?_, ?_⟩
  · refine (θ_run Cert.KernelIdeal.defs _ _).mono (fun r h c => ?_) (run_main (F := Ideal) m g)
    obtain ⟨h0, h1, h2, h3, h4, ho⟩ := h.1 c
    refine ⟨ho.trans ?_, h0, h1, h2, h3, h4⟩
    rw [Cert.ReferenceIdeal.Read.val_main_v85_eq]
    generalize hA0 : m' (((0 : Dev Cert.ReferenceIdeal.nD).tc : Thread Cert.ReferenceIdeal.nD Cert.ReferenceIdeal.τ).loc Cert.ReferenceIdeal.main_arg0) = A0 at harg ⊢
    generalize hA1 : m' (((0 : Dev Cert.ReferenceIdeal.nD).tc : Thread Cert.ReferenceIdeal.nD Cert.ReferenceIdeal.τ).loc Cert.ReferenceIdeal.main_arg1) = A1 at harg ⊢
    generalize hA2 : m' (((0 : Dev Cert.ReferenceIdeal.nD).tc : Thread Cert.ReferenceIdeal.nD Cert.ReferenceIdeal.τ).loc Cert.ReferenceIdeal.main_arg2) = A2 at harg ⊢
    generalize hA3 : m' (((0 : Dev Cert.ReferenceIdeal.nD).tc : Thread Cert.ReferenceIdeal.nD Cert.ReferenceIdeal.τ).loc Cert.ReferenceIdeal.main_arg3) = A3 at harg ⊢
    generalize hA4 : m' (((0 : Dev Cert.ReferenceIdeal.nD).tc : Thread Cert.ReferenceIdeal.nD Cert.ReferenceIdeal.τ).loc Cert.ReferenceIdeal.main_arg4) = A4 at harg ⊢
    have H : Holds (rows3 A0) (cols2 A1) (cols2 A2) (cols2 A3) (last2 A4) (ins m) :=
      { x := fun o b r k => (congrFun (harg o).1 _).trans (block_rows A0 o b r k)
        wq := fun c k n => (congrFun (harg c).2.1 _).trans (block_cols A1 c k n)
        wk := fun c k n => (congrFun (harg c).2.2.1 _).trans (block_cols A2 c k n)
        wv := fun c k n => (congrFun (harg c).2.2.2.1 _).trans (block_cols A3 c k n)
        wo := fun c k n => (congrFun (harg c).2.2.2.2 _).trans (block_last A4 c k n) }
    have hreal := fun c => finite_real _ _ _ _ _ (hpre c)
    have hX : ∀ b s k, ∃ r : ℝ, rows3 A0 b s k = (r : EReal) := fun b s k => by
      obtain ⟨o, q, rfl⟩ := wide_of s
      obtain ⟨v, hv⟩ := (hreal o).1 (ValueIdx.ix3 b q k)
      exact ⟨v, (H.x o b q k).symm.trans hv⟩
    have hQ : ∀ k n, ∃ r : ℝ, cols2 A1 k n = (r : EReal) := fun k n => by
      obtain ⟨o, q, rfl⟩ := wide_of n
      obtain ⟨v, hv⟩ := (hreal o).2.1 (ValueIdx.ix2 k q)
      exact ⟨v, (H.wq o k q).symm.trans hv⟩
    have hK : ∀ k n, ∃ r : ℝ, cols2 A2 k n = (r : EReal) := fun k n => by
      obtain ⟨o, q, rfl⟩ := wide_of n
      obtain ⟨v, hv⟩ := (hreal o).2.2 (ValueIdx.ix2 k q)
      exact ⟨v, (H.wk o k q).symm.trans hv⟩
    funext y
    rw [ValueIdx.eq_ix3 y]
    refine (out_val H hX hQ hK c (y 0) (y 1) (y 2)).trans ?_
    exact (ref_out A0 A1 A2 A3 A4 (y 0) (wide c (y 1)) (y 2)).symm.trans (block_rows _ c (y 0) (y 1) (y 2)).symm
  · exact (θ_run Cert.ReferenceIdeal.defs _ _).mono (fun r h => h 0) (Cert.ReferenceIdeal.Value.run (F := Ideal) m' g')

end Cert.Rope

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.KernelIdeal

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Rope.frame_kernel, Cert.Rope.frame_kernelIdeal, Cert.Rope.frame_kernelIdeal_finite, Cert.Rope.frame_referenceIdeal,
  Cert.Rope.frame_referenceIdeal_finite, trivial, Cert.Rope.values⟩

end Cert.Proof

end
